-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S2048x512 : Shape := ⟨2, ![2048, 512]⟩
abbrev S512x128 : Shape := ⟨2, ![512, 128]⟩
abbrev S2048x1 : Shape := ⟨2, ![2048, 1]⟩
abbrev S4x512x1024 : Shape := ⟨3, ![4, 512, 1024]⟩
abbrev S512x1024 : Shape := ⟨2, ![512, 1024]⟩
abbrev S_ : Shape := ⟨0, ![]⟩
abbrev S2048x32 : Shape := ⟨2, ![2048, 32]⟩
abbrev S32 : Shape := ⟨1, ![32]⟩

class Facts : Prop where
  bcast_S_S2048x1 : S_.BroadcastsInDim S2048x1 (![] : Fin 0 → Fin S2048x1.rank)
  bcast_S_S2048x32 : S_.BroadcastsInDim S2048x32 (![] : Fin 0 → Fin S2048x32.rank)
  bcast_S2048x1_S2048x32_0_1 : S2048x1.BroadcastsInDim S2048x32 (![0, 1] : Fin 2 → Fin S2048x32.rank)
  natLt_1_32 : 1 < 32
  reducesTo_S2048x32_S32_d0 : S2048x32.ReducesTo [0] S32
  h_S_ : 0 < S_.numel
  bcast_S_S32 : S_.BroadcastsInDim S32 (![] : Fin 0 → Fin S32.rank)

variable [Facts]

def fn_part1 {F : FTy → Type} [FloatOps F] (main_v4 : IVec S2048x1 1) (main_v17 : IVec S2048x32 32) (main_c_4 : IVec S_ 32) : IVec S2048x1 1 × IVec S32 1 :=
  let main_v18 : IVec S32 32 := (fun x v => Host.reduce IntOp.addi x v reducesTo_S2048x32_S32_d0 h_S_) main_v17 main_c_4
  let main_c_5 : IVec S_ 32 := constantI S_ 32 112#32
  let main_v19 : IVec S32 32 := broadcastInDim S32 ![] bcast_S_S32 main_c_5
  let main_v20 : IVec S32 1 := cmpi .sle main_v18 main_v19
  (main_v4, main_v20)

def fn {F : FTy → Type} [FloatOps F] (main_arg0 : FVec F S2048x512 .bf16) (main_arg1 : FVec F S512x128 .bf16) (main_arg2 : IVec S2048x1 32) (main_arg3 : FVec F S4x512x1024 .bf16) (main_arg4 : FVec F S512x1024 .bf16) : IVec S2048x1 1 × IVec S32 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 128#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  let main_v5 : IVec S2048x32 32 := iotaInDim S2048x32 32 1
  let main_c_1 : IVec S_ 32 := constantI S_ 32 4#32
  let main_v6 : IVec S2048x32 32 := broadcastInDim S2048x32 ![] bcast_S_S2048x32 main_c_1
  let main_v7 : IVec S2048x32 32 := muli main_v6 main_v5
  let main_v8 : IVec S2048x32 32 := broadcastInDim S2048x32 ![0, 1] bcast_S2048x1_S2048x32_0_1 main_arg2
  let main_v9 : IVec S2048x32 1 := cmpi .sge main_v8 main_v7
  let main_c_2 : IVec S_ 32 := constantI S_ 32 4#32
  let main_v10 : IVec S2048x32 32 := broadcastInDim S2048x32 ![] bcast_S_S2048x32 main_c_2
  let main_v11 : IVec S2048x32 32 := muli main_v10 main_v5
  let main_c_3 : IVec S_ 32 := constantI S_ 32 4#32
  let main_v12 : IVec S2048x32 32 := broadcastInDim S2048x32 ![] bcast_S_S2048x32 main_c_3
  let main_v13 : IVec S2048x32 32 := addi main_v11 main_v12
  let main_v14 : IVec S2048x32 32 := broadcastInDim S2048x32 ![0, 1] bcast_S2048x1_S2048x32_0_1 main_arg2
  let main_v15 : IVec S2048x32 1 := cmpi .slt main_v14 main_v13
  let main_v16 : IVec S2048x32 1 := andi main_v9 main_v15
  let main_v17 : IVec S2048x32 32 := (extui 32 · natLt_1_32) main_v16
  let main_c_4 : IVec S_ 32 := constantI S_ 32 0#32
  fn_part1 (F := F) main_v4 main_v17 main_c_4
-- ==== Pre_routed_ReferenceIdeal.lean ====
abbrev S2048x512 : Shape := ⟨2, ![2048, 512]⟩
abbrev S512x128 : Shape := ⟨2, ![512, 128]⟩
abbrev S2048x1 : Shape := ⟨2, ![2048, 1]⟩
abbrev S128x512x1024 : Shape := ⟨3, ![128, 512, 1024]⟩
abbrev S512x1024 : Shape := ⟨2, ![512, 1024]⟩
abbrev S_ : Shape := ⟨0, ![]⟩
abbrev S2048x32 : Shape := ⟨2, ![2048, 32]⟩
abbrev S32 : Shape := ⟨1, ![32]⟩

class Facts : Prop where
  bcast_S_S2048x1 : S_.BroadcastsInDim S2048x1 (![] : Fin 0 → Fin S2048x1.rank)
  bcast_S_S2048x32 : S_.BroadcastsInDim S2048x32 (![] : Fin 0 → Fin S2048x32.rank)
  bcast_S2048x1_S2048x32_0_1 : S2048x1.BroadcastsInDim S2048x32 (![0, 1] : Fin 2 → Fin S2048x32.rank)
  natLt_1_32 : 1 < 32
  reducesTo_S2048x32_S32_d0 : S2048x32.ReducesTo [0] S32
  h_S_ : 0 < S_.numel
  bcast_S_S32 : S_.BroadcastsInDim S32 (![] : Fin 0 → Fin S32.rank)

variable [Facts]

def fn_part1 {F : FTy → Type} [FloatOps F] (main_v4 : IVec S2048x1 1) (main_v17 : IVec S2048x32 32) (main_c_4 : IVec S_ 32) : IVec S2048x1 1 × IVec S32 1 :=
  let main_v18 : IVec S32 32 := (fun x v => Host.reduce IntOp.addi x v reducesTo_S2048x32_S32_d0 h_S_) main_v17 main_c_4
  let main_c_5 : IVec S_ 32 := constantI S_ 32 112#32
  let main_v19 : IVec S32 32 := broadcastInDim S32 ![] bcast_S_S32 main_c_5
  let main_v20 : IVec S32 1 := cmpi .sle main_v18 main_v19
  (main_v4, main_v20)

def fn {F : FTy → Type} [FloatOps F] (main_arg0 : FVec F S2048x512 .bf16) (main_arg1 : FVec F S512x128 .bf16) (main_arg2 : IVec S2048x1 32) (main_arg3 : FVec F S128x512x1024 .bf16) (main_arg4 : FVec F S512x1024 .bf16) : IVec S2048x1 1 × IVec S32 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 128#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  let main_v5 : IVec S2048x32 32 := iotaInDim S2048x32 32 1
  let main_c_1 : IVec S_ 32 := constantI S_ 32 4#32
  let main_v6 : IVec S2048x32 32 := broadcastInDim S2048x32 ![] bcast_S_S2048x32 main_c_1
  let main_v7 : IVec S2048x32 32 := muli main_v6 main_v5
  let main_v8 : IVec S2048x32 32 := broadcastInDim S2048x32 ![0, 1] bcast_S2048x1_S2048x32_0_1 main_arg2
  let main_v9 : IVec S2048x32 1 := cmpi .sge main_v8 main_v7
  let main_c_2 : IVec S_ 32 := constantI S_ 32 4#32
  let main_v10 : IVec S2048x32 32 := broadcastInDim S2048x32 ![] bcast_S_S2048x32 main_c_2
  let main_v11 : IVec S2048x32 32 := muli main_v10 main_v5
  let main_c_3 : IVec S_ 32 := constantI S_ 32 4#32
  let main_v12 : IVec S2048x32 32 := broadcastInDim S2048x32 ![] bcast_S_S2048x32 main_c_3
  let main_v13 : IVec S2048x32 32 := addi main_v11 main_v12
  let main_v14 : IVec S2048x32 32 := broadcastInDim S2048x32 ![0, 1] bcast_S2048x1_S2048x32_0_1 main_arg2
  let main_v15 : IVec S2048x32 1 := cmpi .slt main_v14 main_v13
  let main_v16 : IVec S2048x32 1 := andi main_v9 main_v15
  let main_v17 : IVec S2048x32 32 := (extui 32 · natLt_1_32) main_v16
  let main_c_4 : IVec S_ 32 := constantI S_ 32 0#32
  fn_part1 (F := F) main_v4 main_v17 main_c_4
-- ==== Kernel.lean ====
abbrev S2048x512 : Shape := ⟨2, ![2048, 512]⟩
abbrev S512x128 : Shape := ⟨2, ![512, 128]⟩
abbrev S2048x1 : Shape := ⟨2, ![2048, 1]⟩
abbrev S4x512x1024 : Shape := ⟨3, ![4, 512, 1024]⟩
abbrev S512x1024 : Shape := ⟨2, ![512, 1024]⟩
abbrev S2048x1024 : Shape := ⟨2, ![2048, 1024]⟩
abbrev S3584x1024 : Shape := ⟨2, ![3584, 1024]⟩
abbrev S112x1024 : Shape := ⟨2, ![112, 1024]⟩
abbrev S3x112x1024 : Shape := ⟨3, ![3, 112, 1024]⟩
abbrev S2 : Shape := ⟨1, ![2]⟩
abbrev S3x2 : Shape := ⟨2, ![3, 2]⟩
abbrev S_ : Shape := ⟨0, ![]⟩
abbrev S2048x32 : Shape := ⟨2, ![2048, 32]⟩
abbrev S512x512 : Shape := ⟨2, ![512, 512]⟩
abbrev S1x32 : Shape := ⟨2, ![1, 32]⟩
abbrev S512x32 : Shape := ⟨2, ![512, 32]⟩
abbrev S32 : Shape := ⟨1, ![32]⟩
abbrev S2048 : Shape := ⟨1, ![2048]⟩
abbrev S1x2048 : Shape := ⟨2, ![1, 2048]⟩
abbrev S112x2048 : Shape := ⟨2, ![112, 2048]⟩
abbrev S112x512 : Shape := ⟨2, ![112, 512]⟩
abbrev S112x1 : Shape := ⟨2, ![112, 1]⟩
abbrev S112x128 : Shape := ⟨2, ![112, 128]⟩
abbrev S112 : Shape := ⟨1, ![112]⟩
abbrev S1x512x1024 : Shape := ⟨3, ![1, 512, 1024]⟩
abbrev S1 : Shape := ⟨1, ![1]⟩
abbrev S1x1 : Shape := ⟨2, ![1, 1]⟩
abbrev S1x112x512 : Shape := ⟨3, ![1, 112, 512]⟩
abbrev S1x112x1024 : Shape := ⟨3, ![1, 112, 1024]⟩
abbrev S2048x896 : Shape := ⟨2, ![2048, 896]⟩
abbrev S896x1024 : Shape := ⟨2, ![896, 1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x512, .bf16⟩
  | .hbm, ⟨1, _⟩ => ⟨S512x128, .bf16⟩
  | .hbm, ⟨2, _⟩ => ⟨S2048x1, .i32⟩
  | .hbm, ⟨3, _⟩ => ⟨S4x512x1024, .bf16⟩
  | .hbm, ⟨4, _⟩ => ⟨S512x1024, .bf16⟩
  | .hbm, ⟨5, _⟩ => ⟨S2048x1024, .f32⟩
  | .local _ .vmem, ⟨0, _⟩ => ⟨S2048x512, .bf16⟩
  | .local _ .vmem, ⟨1, _⟩ => ⟨S512x128, .bf16⟩
  | .local _ .vmem, ⟨2, _⟩ => ⟨S2048x1, .i32⟩
  | .local _ .vmem, ⟨3, _⟩ => ⟨S4x512x1024, .bf16⟩
  | .local _ .vmem, ⟨4, _⟩ => ⟨S512x1024, .bf16⟩
  | .local _ .vmem, ⟨5, _⟩ => ⟨S2048x1024, .f32⟩
  | .local _ .vmem, ⟨6, _⟩ => ⟨S3584x1024, .bf16⟩
  | .local _ .vmem, ⟨7, _⟩ => ⟨S112x1024, .bf16⟩
  | .local _ .vmem, ⟨8, _⟩ => ⟨S3x112x1024, .bf16⟩
  | .local _ .vmem, ⟨9, _⟩ => ⟨S3x112x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 3 → Bool
  | ⟨0, _⟩ => true
  | ⟨1, _⟩ => true
  | ⟨2, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 3 22 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_73 : BitVec 32 := 1#32
  let v199 : BitVec 32 := Scalar.muli v7 c1_i32_73
  let v200 : BitVec 32 := Scalar.addi c0_i32_74 v199
  v200.toNat
def k0_dev4 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_83 : BitVec 32 := 1#32
  let v208 : BitVec 32 := Scalar.muli v5 c1_i32_83
  let v209 : BitVec 32 := Scalar.addi c0_i32_84 v208
  v209.toNat
def k0_dev5 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_93 : BitVec 32 := 1#32
  let v217 : BitVec 32 := Scalar.muli v7 c1_i32_93
  let v218 : BitVec 32 := Scalar.addi c0_i32_94 v217
  v218.toNat
def k0_dev6 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_102 : BitVec 32 := 1#32
  let v226 : BitVec 32 := Scalar.muli v5 c1_i32_102
  let v227 : BitVec 32 := Scalar.addi c0_i32_103 v226
  v227.toNat
def k0_dev7 (d0 : Dev nD) : Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_138 : BitVec 32 := 1#32
  let v254 : BitVec 32 := Scalar.muli v7 c1_i32_138
  let v255 : BitVec 32 := Scalar.addi c0_i32_139 v254
  v255.toNat
def k0_dev8 (d0 : Dev nD) : Nat :=
  let c0_i32_169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_168 : BitVec 32 := 1#32
  let v276 : BitVec 32 := Scalar.muli v7 c1_i32_168
  let v277 : BitVec 32 := Scalar.addi c0_i32_169 v276
  v277.toNat
def k0_dev9 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_198 : BitVec 32 := 1#32
  let v298 : BitVec 32 := Scalar.muli v5 c1_i32_198
  let v299 : BitVec 32 := Scalar.addi c0_i32_199 v298
  v299.toNat
def k0_dev10 (d0 : Dev nD) : Nat :=
  let c0_i32_229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_228 : BitVec 32 := 1#32
  let v320 : BitVec 32 := Scalar.muli v5 c1_i32_228
  let v321 : BitVec 32 := Scalar.addi c0_i32_229 v320
  v321.toNat
def k0_dev11 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_268 : BitVec 32 := 1#32
  let v353 : BitVec 32 := Scalar.muli v7 c1_i32_268
  let v354 : BitVec 32 := Scalar.addi c0_i32_269 v353
  v354.toNat
def k0_dev12 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_299 : BitVec 32 := 1#32
  let v376 : BitVec 32 := Scalar.muli v7 c1_i32_299
  let v377 : BitVec 32 := Scalar.addi c0_i32_300 v376
  v377.toNat
def k0_dev13 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_306 : BitVec 32 := 1#32
  let v386 : BitVec 32 := Scalar.muli v5 c1_i32_306
  let v387 : BitVec 32 := Scalar.addi c0_i32_307 v386
  v387.toNat
def k0_dev14 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_333 : BitVec 32 := 1#32
  let v401 : BitVec 32 := Scalar.muli v5 c1_i32_333
  let v402 : BitVec 32 := Scalar.addi c0_i32_334 v401
  v402.toNat
def k0_dev15 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_364 : BitVec 32 := 1#32
  let v424 : BitVec 32 := Scalar.muli v5 c1_i32_364
  let v425 : BitVec 32 := Scalar.addi c0_i32_365 v424
  v425.toNat
def k0_dev16 (d0 : Dev nD) : Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_371 : BitVec 32 := 1#32
  let v434 : BitVec 32 := Scalar.muli v7 c1_i32_371
  let v435 : BitVec 32 := Scalar.addi c0_i32_372 v434
  v435.toNat
def k0_dev17 (d0 : Dev nD) : Nat :=
  let c0_i32_409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_408 : BitVec 32 := 1#32
  let v459 : BitVec 32 := Scalar.muli v7 c1_i32_408
  let v460 : BitVec 32 := Scalar.addi c0_i32_409 v459
  v460.toNat
def k0_dev18 (d0 : Dev nD) : Nat :=
  let c0_i32_440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_439 : BitVec 32 := 1#32
  let v482 : BitVec 32 := Scalar.muli v7 c1_i32_439
  let v483 : BitVec 32 := Scalar.addi c0_i32_440 v482
  v483.toNat
def k0_dev19 (d0 : Dev nD) : Nat :=
  let c0_i32_447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_446 : BitVec 32 := 1#32
  let v492 : BitVec 32 := Scalar.muli v5 c1_i32_446
  let v493 : BitVec 32 := Scalar.addi c0_i32_447 v492
  v493.toNat
def k0_dev20 (d0 : Dev nD) : Nat :=
  let c0_i32_476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_475 : BitVec 32 := 1#32
  let v507 : BitVec 32 := Scalar.muli v5 c1_i32_475
  let v508 : BitVec 32 := Scalar.addi c0_i32_476 v507
  v508.toNat
def k0_dev21 (d0 : Dev nD) : Nat :=
  let c0_i32_507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_506 : BitVec 32 := 1#32
  let v530 : BitVec 32 := Scalar.muli v5 c1_i32_506
  let v531 : BitVec 32 := Scalar.addi c0_i32_507 v530
  v531.toNat
def k0_dev22 (d0 : Dev nD) : Nat :=
  let c0_i32_514 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_513 : BitVec 32 := 1#32
  let v540 : BitVec 32 := Scalar.muli v7 c1_i32_513
  let v541 : BitVec 32 := Scalar.addi c0_i32_514 v540
  v541.toNat
def k0_dev23 (d0 : Dev nD) : Nat :=
  let c0_i32_551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_550 : BitVec 32 := 1#32
  let v565 : BitVec 32 := Scalar.muli v7 c1_i32_550
  let v566 : BitVec 32 := Scalar.addi c0_i32_551 v565
  v566.toNat
def k0_dev24 (d0 : Dev nD) : Nat :=
  let c0_i32_582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_581 : BitVec 32 := 1#32
  let v588 : BitVec 32 := Scalar.muli v7 c1_i32_581
  let v589 : BitVec 32 := Scalar.addi c0_i32_582 v588
  v589.toNat
def k0_dev25 (d0 : Dev nD) : Nat :=
  let c0_i32_589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_588 : BitVec 32 := 1#32
  let v598 : BitVec 32 := Scalar.muli v5 c1_i32_588
  let v599 : BitVec 32 := Scalar.addi c0_i32_589 v598
  v599.toNat
def k0_dev26 (d0 : Dev nD) : Nat :=
  let c0_i32_618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_617 : BitVec 32 := 1#32
  let v613 : BitVec 32 := Scalar.muli v5 c1_i32_617
  let v614 : BitVec 32 := Scalar.addi c0_i32_618 v613
  v614.toNat
def k0_dev27 (d0 : Dev nD) : Nat :=
  let c0_i32_649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_648 : BitVec 32 := 1#32
  let v636 : BitVec 32 := Scalar.muli v5 c1_i32_648
  let v637 : BitVec 32 := Scalar.addi c0_i32_649 v636
  v637.toNat
def k0_dev28 (d0 : Dev nD) : Nat :=
  let c0_i32_656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_655 : BitVec 32 := 1#32
  let v646 : BitVec 32 := Scalar.muli v7 c1_i32_655
  let v647 : BitVec 32 := Scalar.addi c0_i32_656 v646
  v647.toNat
def k0_dev29 (d0 : Dev nD) : Nat :=
  let c0_i32_701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_700 : BitVec 32 := 1#32
  let v685 : BitVec 32 := Scalar.muli v7 c1_i32_700
  let v686 : BitVec 32 := Scalar.addi c0_i32_701 v685
  v686.toNat
def k0_dev30 (d0 : Dev nD) : Nat :=
  let c0_i32_732 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_731 : BitVec 32 := 1#32
  let v708 : BitVec 32 := Scalar.muli v7 c1_i32_731
  let v709 : BitVec 32 := Scalar.addi c0_i32_732 v708
  v709.toNat
def k0_dev31 (d0 : Dev nD) : Nat :=
  let c0_i32_739 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_738 : BitVec 32 := 1#32
  let v718 : BitVec 32 := Scalar.muli v5 c1_i32_738
  let v719 : BitVec 32 := Scalar.addi c0_i32_739 v718
  v719.toNat
def k0_dev32 (d0 : Dev nD) : Nat :=
  let c0_i32_768 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_767 : BitVec 32 := 1#32
  let v733 : BitVec 32 := Scalar.muli v5 c1_i32_767
  let v734 : BitVec 32 := Scalar.addi c0_i32_768 v733
  v734.toNat
def k0_dev33 (d0 : Dev nD) : Nat :=
  let c0_i32_799 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_798 : BitVec 32 := 1#32
  let v756 : BitVec 32 := Scalar.muli v5 c1_i32_798
  let v757 : BitVec 32 := Scalar.addi c0_i32_799 v756
  v757.toNat
def k0_dev34 (d0 : Dev nD) : Nat :=
  let c0_i32_806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_805 : BitVec 32 := 1#32
  let v766 : BitVec 32 := Scalar.muli v7 c1_i32_805
  let v767 : BitVec 32 := Scalar.addi c0_i32_806 v766
  v767.toNat
def k0_dev35 (d0 : Dev nD) : Nat :=
  let c0_i32_843 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_842 : BitVec 32 := 1#32
  let v791 : BitVec 32 := Scalar.muli v7 c1_i32_842
  let v792 : BitVec 32 := Scalar.addi c0_i32_843 v791
  v792.toNat
def k0_dev36 (d0 : Dev nD) : Nat :=
  let c0_i32_874 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_873 : BitVec 32 := 1#32
  let v814 : BitVec 32 := Scalar.muli v7 c1_i32_873
  let v815 : BitVec 32 := Scalar.addi c0_i32_874 v814
  v815.toNat
def k0_dev37 (d0 : Dev nD) : Nat :=
  let c0_i32_881 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_880 : BitVec 32 := 1#32
  let v824 : BitVec 32 := Scalar.muli v5 c1_i32_880
  let v825 : BitVec 32 := Scalar.addi c0_i32_881 v824
  v825.toNat
def k0_dev38 (d0 : Dev nD) : Nat :=
  let c0_i32_910 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_909 : BitVec 32 := 1#32
  let v839 : BitVec 32 := Scalar.muli v5 c1_i32_909
  let v840 : BitVec 32 := Scalar.addi c0_i32_910 v839
  v840.toNat
def k0_dev39 (d0 : Dev nD) : Nat :=
  let c0_i32_941 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_940 : BitVec 32 := 1#32
  let v862 : BitVec 32 := Scalar.muli v5 c1_i32_940
  let v863 : BitVec 32 := Scalar.addi c0_i32_941 v862
  v863.toNat
def k0_dev40 (d0 : Dev nD) : Nat :=
  let c0_i32_948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_947 : BitVec 32 := 1#32
  let v872 : BitVec 32 := Scalar.muli v7 c1_i32_947
  let v873 : BitVec 32 := Scalar.addi c0_i32_948 v872
  v873.toNat
def k0_dev41 (d0 : Dev nD) : Nat :=
  let c0_i32_985 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_984 : BitVec 32 := 1#32
  let v897 : BitVec 32 := Scalar.muli v7 c1_i32_984
  let v898 : BitVec 32 := Scalar.addi c0_i32_985 v897
  v898.toNat
def k0_dev42 (d0 : Dev nD) : Nat :=
  let c0_i32_1016 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1015 : BitVec 32 := 1#32
  let v920 : BitVec 32 := Scalar.muli v7 c1_i32_1015
  let v921 : BitVec 32 := Scalar.addi c0_i32_1016 v920
  v921.toNat
def k0_dev43 (d0 : Dev nD) : Nat :=
  let c0_i32_1023 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1022 : BitVec 32 := 1#32
  let v930 : BitVec 32 := Scalar.muli v5 c1_i32_1022
  let v931 : BitVec 32 := Scalar.addi c0_i32_1023 v930
  v931.toNat
def k0_dev44 (d0 : Dev nD) : Nat :=
  let c0_i32_1052 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1051 : BitVec 32 := 1#32
  let v945 : BitVec 32 := Scalar.muli v5 c1_i32_1051
  let v946 : BitVec 32 := Scalar.addi c0_i32_1052 v945
  v946.toNat
def k0_dev45 (d0 : Dev nD) : Nat :=
  let c0_i32_1083 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1082 : BitVec 32 := 1#32
  let v968 : BitVec 32 := Scalar.muli v5 c1_i32_1082
  let v969 : BitVec 32 := Scalar.addi c0_i32_1083 v968
  v969.toNat
def k0_dev46 (d0 : Dev nD) : Nat :=
  let c0_i32_1090 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1089 : BitVec 32 := 1#32
  let v978 : BitVec 32 := Scalar.muli v7 c1_i32_1089
  let v979 : BitVec 32 := Scalar.addi c0_i32_1090 v978
  v979.toNat
def k0_dev47 (d0 : Dev nD) : Nat :=
  let c0_i32_1127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1126 : BitVec 32 := 1#32
  let v1003 : BitVec 32 := Scalar.muli v7 c1_i32_1126
  let v1004 : BitVec 32 := Scalar.addi c0_i32_1127 v1003
  v1004.toNat
def k0_dev48 (d0 : Dev nD) : Nat :=
  let c0_i32_1158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1157 : BitVec 32 := 1#32
  let v1026 : BitVec 32 := Scalar.muli v7 c1_i32_1157
  let v1027 : BitVec 32 := Scalar.addi c0_i32_1158 v1026
  v1027.toNat
def k0_dev49 (d0 : Dev nD) : Nat :=
  let c0_i32_1165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1164 : BitVec 32 := 1#32
  let v1036 : BitVec 32 := Scalar.muli v5 c1_i32_1164
  let v1037 : BitVec 32 := Scalar.addi c0_i32_1165 v1036
  v1037.toNat
def k0_dev50 (d0 : Dev nD) : Nat :=
  let c0_i32_1194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1193 : BitVec 32 := 1#32
  let v1051 : BitVec 32 := Scalar.muli v5 c1_i32_1193
  let v1052 : BitVec 32 := Scalar.addi c0_i32_1194 v1051
  v1052.toNat
def k0_dev51 (d0 : Dev nD) : Nat :=
  let c0_i32_1225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1224 : BitVec 32 := 1#32
  let v1074 : BitVec 32 := Scalar.muli v5 c1_i32_1224
  let v1075 : BitVec 32 := Scalar.addi c0_i32_1225 v1074
  v1075.toNat
def k0_dev52 (d0 : Dev nD) : Nat :=
  let c0_i32_1232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1231 : BitVec 32 := 1#32
  let v1084 : BitVec 32 := Scalar.muli v7 c1_i32_1231
  let v1085 : BitVec 32 := Scalar.addi c0_i32_1232 v1084
  v1085.toNat
def k0_dev53 (d0 : Dev nD) : Nat :=
  let c0_i32_1276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1275 : BitVec 32 := 1#32
  let v1123 : BitVec 32 := Scalar.muli v7 c1_i32_1275
  let v1124 : BitVec 32 := Scalar.addi c0_i32_1276 v1123
  v1124.toNat
def k0_dev54 (d0 : Dev nD) : Nat :=
  let c0_i32_1307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1306 : BitVec 32 := 1#32
  let v1146 : BitVec 32 := Scalar.muli v7 c1_i32_1306
  let v1147 : BitVec 32 := Scalar.addi c0_i32_1307 v1146
  v1147.toNat
def k0_dev55 (d0 : Dev nD) : Nat :=
  let c0_i32_1314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1313 : BitVec 32 := 1#32
  let v1156 : BitVec 32 := Scalar.muli v5 c1_i32_1313
  let v1157 : BitVec 32 := Scalar.addi c0_i32_1314 v1156
  v1157.toNat
def k0_dev56 (d0 : Dev nD) : Nat :=
  let c0_i32_1343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1342 : BitVec 32 := 1#32
  let v1171 : BitVec 32 := Scalar.muli v5 c1_i32_1342
  let v1172 : BitVec 32 := Scalar.addi c0_i32_1343 v1171
  v1172.toNat
def k0_dev57 (d0 : Dev nD) : Nat :=
  let c0_i32_1374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1373 : BitVec 32 := 1#32
  let v1194 : BitVec 32 := Scalar.muli v5 c1_i32_1373
  let v1195 : BitVec 32 := Scalar.addi c0_i32_1374 v1194
  v1195.toNat
def k0_dev58 (d0 : Dev nD) : Nat :=
  let c0_i32_1381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1380 : BitVec 32 := 1#32
  let v1204 : BitVec 32 := Scalar.muli v7 c1_i32_1380
  let v1205 : BitVec 32 := Scalar.addi c0_i32_1381 v1204
  v1205.toNat
def k0_dev59 (d0 : Dev nD) : Nat :=
  let c0_i32_1418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1417 : BitVec 32 := 1#32
  let v1229 : BitVec 32 := Scalar.muli v7 c1_i32_1417
  let v1230 : BitVec 32 := Scalar.addi c0_i32_1418 v1229
  v1230.toNat
def k0_dev60 (d0 : Dev nD) : Nat :=
  let c0_i32_1449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1448 : BitVec 32 := 1#32
  let v1252 : BitVec 32 := Scalar.muli v7 c1_i32_1448
  let v1253 : BitVec 32 := Scalar.addi c0_i32_1449 v1252
  v1253.toNat
def k0_dev61 (d0 : Dev nD) : Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1455 : BitVec 32 := 1#32
  let v1262 : BitVec 32 := Scalar.muli v5 c1_i32_1455
  let v1263 : BitVec 32 := Scalar.addi c0_i32_1456 v1262
  v1263.toNat
def k0_dev62 (d0 : Dev nD) : Nat :=
  let c0_i32_1485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1484 : BitVec 32 := 1#32
  let v1277 : BitVec 32 := Scalar.muli v5 c1_i32_1484
  let v1278 : BitVec 32 := Scalar.addi c0_i32_1485 v1277
  v1278.toNat
def k0_dev63 (d0 : Dev nD) : Nat :=
  let c0_i32_1516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1515 : BitVec 32 := 1#32
  let v1300 : BitVec 32 := Scalar.muli v5 c1_i32_1515
  let v1301 : BitVec 32 := Scalar.addi c0_i32_1516 v1300
  v1301.toNat
def k0_dev64 (d0 : Dev nD) : Nat :=
  let c0_i32_1523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1522 : BitVec 32 := 1#32
  let v1310 : BitVec 32 := Scalar.muli v7 c1_i32_1522
  let v1311 : BitVec 32 := Scalar.addi c0_i32_1523 v1310
  v1311.toNat
def k0_dev65 (d0 : Dev nD) : Nat :=
  let c0_i32_1560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1559 : BitVec 32 := 1#32
  let v1335 : BitVec 32 := Scalar.muli v7 c1_i32_1559
  let v1336 : BitVec 32 := Scalar.addi c0_i32_1560 v1335
  v1336.toNat
def k0_dev66 (d0 : Dev nD) : Nat :=
  let c0_i32_1591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1590 : BitVec 32 := 1#32
  let v1358 : BitVec 32 := Scalar.muli v7 c1_i32_1590
  let v1359 : BitVec 32 := Scalar.addi c0_i32_1591 v1358
  v1359.toNat
def k0_dev67 (d0 : Dev nD) : Nat :=
  let c0_i32_1598 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1597 : BitVec 32 := 1#32
  let v1368 : BitVec 32 := Scalar.muli v5 c1_i32_1597
  let v1369 : BitVec 32 := Scalar.addi c0_i32_1598 v1368
  v1369.toNat
def k0_dev68 (d0 : Dev nD) : Nat :=
  let c0_i32_1627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1626 : BitVec 32 := 1#32
  let v1383 : BitVec 32 := Scalar.muli v5 c1_i32_1626
  let v1384 : BitVec 32 := Scalar.addi c0_i32_1627 v1383
  v1384.toNat
def k0_dev69 (d0 : Dev nD) : Nat :=
  let c0_i32_1658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1657 : BitVec 32 := 1#32
  let v1406 : BitVec 32 := Scalar.muli v5 c1_i32_1657
  let v1407 : BitVec 32 := Scalar.addi c0_i32_1658 v1406
  v1407.toNat
def k0_dev70 (d0 : Dev nD) : Nat :=
  let c0_i32_1665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1664 : BitVec 32 := 1#32
  let v1416 : BitVec 32 := Scalar.muli v7 c1_i32_1664
  let v1417 : BitVec 32 := Scalar.addi c0_i32_1665 v1416
  v1417.toNat
def k0_dev71 (d0 : Dev nD) : Nat :=
  let c0_i32_1702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1701 : BitVec 32 := 1#32
  let v1441 : BitVec 32 := Scalar.muli v7 c1_i32_1701
  let v1442 : BitVec 32 := Scalar.addi c0_i32_1702 v1441
  v1442.toNat
def k0_dev72 (d0 : Dev nD) : Nat :=
  let c0_i32_1733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1732 : BitVec 32 := 1#32
  let v1464 : BitVec 32 := Scalar.muli v7 c1_i32_1732
  let v1465 : BitVec 32 := Scalar.addi c0_i32_1733 v1464
  v1465.toNat
def k0_dev73 (d0 : Dev nD) : Nat :=
  let c0_i32_1740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1739 : BitVec 32 := 1#32
  let v1474 : BitVec 32 := Scalar.muli v5 c1_i32_1739
  let v1475 : BitVec 32 := Scalar.addi c0_i32_1740 v1474
  v1475.toNat
def k0_dev74 (d0 : Dev nD) : Nat :=
  let c0_i32_1769 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1768 : BitVec 32 := 1#32
  let v1489 : BitVec 32 := Scalar.muli v5 c1_i32_1768
  let v1490 : BitVec 32 := Scalar.addi c0_i32_1769 v1489
  v1490.toNat
def k0_dev75 (d0 : Dev nD) : Nat :=
  let c0_i32_1800 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1799 : BitVec 32 := 1#32
  let v1512 : BitVec 32 := Scalar.muli v5 c1_i32_1799
  let v1513 : BitVec 32 := Scalar.addi c0_i32_1800 v1512
  v1513.toNat
def k0_dev76 (d0 : Dev nD) : Nat :=
  let c0_i32_1807 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1806 : BitVec 32 := 1#32
  let v1522 : BitVec 32 := Scalar.muli v7 c1_i32_1806
  let v1523 : BitVec 32 := Scalar.addi c0_i32_1807 v1522
  v1523.toNat
def k0_dev77 (d0 : Dev nD) : Nat :=
  let c0_i32_1851 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1850 : BitVec 32 := 1#32
  let v1561 : BitVec 32 := Scalar.muli v7 c1_i32_1850
  let v1562 : BitVec 32 := Scalar.addi c0_i32_1851 v1561
  v1562.toNat
def k0_dev78 (d0 : Dev nD) : Nat :=
  let c0_i32_1882 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1881 : BitVec 32 := 1#32
  let v1584 : BitVec 32 := Scalar.muli v7 c1_i32_1881
  let v1585 : BitVec 32 := Scalar.addi c0_i32_1882 v1584
  v1585.toNat
def k0_dev79 (d0 : Dev nD) : Nat :=
  let c0_i32_1889 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1888 : BitVec 32 := 1#32
  let v1594 : BitVec 32 := Scalar.muli v5 c1_i32_1888
  let v1595 : BitVec 32 := Scalar.addi c0_i32_1889 v1594
  v1595.toNat
def k0_dev80 (d0 : Dev nD) : Nat :=
  let c0_i32_1918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1917 : BitVec 32 := 1#32
  let v1609 : BitVec 32 := Scalar.muli v5 c1_i32_1917
  let v1610 : BitVec 32 := Scalar.addi c0_i32_1918 v1609
  v1610.toNat
def k0_dev81 (d0 : Dev nD) : Nat :=
  let c0_i32_1949 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1948 : BitVec 32 := 1#32
  let v1632 : BitVec 32 := Scalar.muli v5 c1_i32_1948
  let v1633 : BitVec 32 := Scalar.addi c0_i32_1949 v1632
  v1633.toNat
def k0_dev82 (d0 : Dev nD) : Nat :=
  let c0_i32_1956 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1955 : BitVec 32 := 1#32
  let v1642 : BitVec 32 := Scalar.muli v7 c1_i32_1955
  let v1643 : BitVec 32 := Scalar.addi c0_i32_1956 v1642
  v1643.toNat
def k0_dev83 (d0 : Dev nD) : Nat :=
  let c0_i32_1993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1992 : BitVec 32 := 1#32
  let v1667 : BitVec 32 := Scalar.muli v7 c1_i32_1992
  let v1668 : BitVec 32 := Scalar.addi c0_i32_1993 v1667
  v1668.toNat
def k0_dev84 (d0 : Dev nD) : Nat :=
  let c0_i32_2024 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2023 : BitVec 32 := 1#32
  let v1690 : BitVec 32 := Scalar.muli v7 c1_i32_2023
  let v1691 : BitVec 32 := Scalar.addi c0_i32_2024 v1690
  v1691.toNat
def k0_dev85 (d0 : Dev nD) : Nat :=
  let c0_i32_2031 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2030 : BitVec 32 := 1#32
  let v1700 : BitVec 32 := Scalar.muli v5 c1_i32_2030
  let v1701 : BitVec 32 := Scalar.addi c0_i32_2031 v1700
  v1701.toNat
def k0_dev86 (d0 : Dev nD) : Nat :=
  let c0_i32_2060 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2059 : BitVec 32 := 1#32
  let v1715 : BitVec 32 := Scalar.muli v5 c1_i32_2059
  let v1716 : BitVec 32 := Scalar.addi c0_i32_2060 v1715
  v1716.toNat
def k0_dev87 (d0 : Dev nD) : Nat :=
  let c0_i32_2091 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2090 : BitVec 32 := 1#32
  let v1738 : BitVec 32 := Scalar.muli v5 c1_i32_2090
  let v1739 : BitVec 32 := Scalar.addi c0_i32_2091 v1738
  v1739.toNat
def k0_dev88 (d0 : Dev nD) : Nat :=
  let c0_i32_2132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2131 : BitVec 32 := 1#32
  let v1771 : BitVec 32 := Scalar.muli v7 c1_i32_2131
  let v1772 : BitVec 32 := Scalar.addi c0_i32_2132 v1771
  v1772.toNat
def k0_dev89 (d0 : Dev nD) : Nat :=
  let c0_i32_2163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2162 : BitVec 32 := 1#32
  let v1794 : BitVec 32 := Scalar.muli v7 c1_i32_2162
  let v1795 : BitVec 32 := Scalar.addi c0_i32_2163 v1794
  v1795.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x512 : Shape := ⟨2, ![2048, 512]⟩
abbrev S512x128 : Shape := ⟨2, ![512, 128]⟩
abbrev S2048x1 : Shape := ⟨2, ![2048, 1]⟩
abbrev S128x512x1024 : Shape := ⟨3, ![128, 512, 1024]⟩
abbrev S512x1024 : Shape := ⟨2, ![512, 1024]⟩
abbrev S2048x128 : Shape := ⟨2, ![2048, 128]⟩
abbrev S_ : Shape := ⟨0, ![]⟩
abbrev S2048 : Shape := ⟨1, ![2048]⟩
abbrev S2048x1024 : Shape := ⟨2, ![2048, 1024]⟩
abbrev S2048x1x1 : Shape := ⟨3, ![2048, 1, 1]⟩
abbrev S1 : Shape := ⟨1, ![1]⟩
abbrev S1x1x1 : Shape := ⟨3, ![1, 1, 1]⟩
abbrev S2048x512x1024 : Shape := ⟨3, ![2048, 512, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x128, .bf16⟩
  | .hbm, ⟨2, _⟩ => ⟨S2048x1, .i32⟩
  | .hbm, ⟨3, _⟩ => ⟨S128x512x1024, .bf16⟩
  | .hbm, ⟨4, _⟩ => ⟨S512x1024, .bf16⟩
  | .hbm, ⟨5, _⟩ => ⟨S2048x512, .f32⟩
  | .hbm, ⟨6, _⟩ => ⟨S512x128, .f32⟩
  | .hbm, ⟨7, _⟩ => ⟨S2048x128, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S2048x128, .f32⟩
  | .hbm, ⟨12, _⟩ => ⟨S2048x128, .f32⟩
  | .hbm, ⟨13, _⟩ => ⟨S2048x128, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x128, .f32⟩
  | .hbm, ⟨18, _⟩ => ⟨S2048x128, .f32⟩
  | .hbm, ⟨19, _⟩ => ⟨S512x1024, .f32⟩
  | .hbm, ⟨20, _⟩ => ⟨S2048x1024, .f32⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S_, .i32⟩
  | .hbm, ⟨25, _⟩ => ⟨S2048x1, .i32⟩
  | .hbm, ⟨26, _⟩ => ⟨S2048x1, .i32⟩
  | .hbm, ⟨27, _⟩ => ⟨S2048x1, .i32⟩
  | .hbm, ⟨28, _⟩ => ⟨S2048x1x1, .i32⟩
  | .hbm, ⟨29, _⟩ => ⟨S1, .i32⟩
  | .hbm, ⟨30, _⟩ => ⟨S_, .i32⟩
  | .hbm, ⟨31, _⟩ => ⟨S2048x1x1, .i32⟩
  | .hbm, ⟨32, _⟩ => ⟨S2048x1x1, .i1⟩
  | .hbm, ⟨33, _⟩ => ⟨S1x1x1, .i32⟩
  | .hbm, ⟨34, _⟩ => ⟨S2048x1x1, .i32⟩
  | .hbm, ⟨35, _⟩ => ⟨S2048x1x1, .i1⟩
  | .hbm, ⟨36, _⟩ => ⟨S2048x1x1, .i1⟩
  | .hbm, ⟨37, _⟩ => ⟨S_, .i1⟩
  | .hbm, ⟨38, _⟩ => ⟨S2048x1, .i1⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048, .i32⟩
  | .hbm, ⟨44, _⟩ => ⟨S_, .i32⟩
  | .hbm, ⟨45, _⟩ => ⟨S2048, .i32⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S2048x1, .i32⟩
  | .hbm, ⟨52, _⟩ => ⟨S2048x512x1024, .bf16⟩
  | .hbm, ⟨53, _⟩ => ⟨S2048x512x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v14 : Ref sig .tc := ⟨.hbm, 42, rfl⟩
abbrev main_v15 : Ref sig .tc := ⟨.hbm, 43, rfl⟩
abbrev main_c : Ref sig .tc := ⟨.hbm, 44, rfl⟩
abbrev main_v16 : Ref sig .tc := ⟨.hbm, 45, rfl⟩
abbrev main_v17 : Ref sig .tc := ⟨.hbm, 46, rfl⟩
abbrev main_c_1 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩

abbrev nD : Nat := 1
abbrev τ : Topo := Topo.v7x

variable {F : FTy → Type} [FloatOps F]
-- ==== Proof.KernelIdeal.Prog.lean ====
/-
  The kernel's body, written as a program with loops: the handshake with the two neighbours, the
  contribution of the device's own experts, the first four copies, the shared projection, and then the
  sixteen steps of the two rings, one definition for every step. `body_eq` says the printed body is this
  program.
-/
module

public import proofs.«01_k».proof.Proof.Gen.KernelIdeal.Skeleton
public import Idealize.ShloMosaic.Lib.Pipeline.Regions

@[expose] public section

set_option maxRecDepth 16384

noncomputable section

namespace Cert.KernelIdeal.Hand

open Idealize.ShloMosaic Idealize.SL.Sem
open Cert.KernelIdeal Cert.KernelIdeal.Gen

variable {F : FTy → Type} [FloatOps F]

/-! ### The buffers -/

abbrev xM : Memref sig .tc .vmem S2048x512 .bf16 := Memref.whole cc0_stg0_0
abbrev wM : Memref sig .tc .vmem S512x128 .bf16 := Memref.whole cc0_stg1_0
abbrev iM : Memref sig .tc .vmem S2048x1 .i32 := Memref.whole cc0_stg2_0
abbrev eM : Memref sig .tc .vmem S4x512x1024 .bf16 := Memref.whole cc0_stg3_0
abbrev pM : Memref sig .tc .vmem S512x1024 .bf16 := Memref.whole cc0_stg4_0
abbrev oM : Memref sig .tc .vmem S2048x1024 .f32 := Memref.whole cc0_stg5_0
abbrev gM : Memref sig .tc .vmem S3584x1024 .bf16 := Memref.whole cc0_scratch0
abbrev sM : Memref sig .tc .vmem S112x1024 .bf16 := Memref.whole cc0_scratch1

/-- The landing buffer of a ring: `true` is the one that runs to the right. -/
abbrev buf : Bool → Memref sig .tc .vmem S3x112x1024 .bf16
  | true => Memref.whole cc0_scratch2
  | false => Memref.whole cc0_scratch3

theorem buf_whole : ∀ d, (buf d).IsWhole
  | true => Memref.isWhole_whole _
  | false => Memref.isWhole_whole _

theorem inbSlot (k : Fin 3) (h : Fin 2) :
    ∀ a, (![k.val, 0, h.val * 512] : Fin 3 → Nat) a + S1x112x512.size a ≤ S3x112x1024.size a := by
  revert k h; decide

theorem inbHalf (h : Fin 2) :
    ∀ a, (![0, h.val * 512] : Fin 2 → Nat) a + S112x512.size a ≤ S112x1024.size a := by
  revert h; decide

theorem inbFull (k : Fin 3) :
    ∀ a, (![k.val, 0, 0] : Fin 3 → Nat) a + S1x112x1024.size a ≤ S3x112x1024.size a := by
  revert k; decide

theorem inbRow (b : Fin 32) :
    ∀ a, (![b.val * 112, 0] : Fin 2 → Nat) a + S112x1024.size a ≤ S3584x1024.size a := by
  revert b; decide

theorem inbGroup (g : Fin 4) :
    ∀ a, (![g.val * 896, 0] : Fin 2 → Nat) a + S896x1024.size a ≤ S3584x1024.size a := by
  revert g; decide

/-- Half `h` of slot `k` of a ring's landing buffer. -/
abbrev slotV (d : Bool) (k : Fin 3) (h : Fin 2) : Memref sig .tc .vmem S112x512 .bf16 :=
  ((buf d).slice (Rect.unit (s := S3x112x1024) ![k.val, 0, h.val * 512] S1x112x512.size (inbSlot k h))
    (fun _ => rfl)).squeeze S112x512 squeezes_S1x112x512_S112x512

/-- Half `h` of the buffer the first copies read. -/
abbrev sendV (h : Fin 2) : Memref sig .tc .vmem S112x512 .bf16 :=
  sM.slice (Rect.unit (s := S112x1024) ![0, h.val * 512] S112x512.size (inbHalf h)) (fun _ => rfl)

theorem wordsSlot (k : Fin 3) (h : Fin 2) :
    (Rect.unit (s := S3x112x1024) ![k.val, 0, h.val * 512] S1x112x512.size (inbSlot k h)).WholeWords
      (EltTy.packing .bf16) := by
  revert k h; decide +kernel

theorem wordsHalf (h : Fin 2) :
    (Rect.unit (s := S112x1024) ![0, h.val * 512] S112x512.size (inbHalf h)).WholeWords
      (EltTy.packing .bf16) := by
  revert h; decide +kernel

theorem slotV_words (d : Bool) (k : Fin 3) (h : Fin 2) : (slotV d k h).view.WordExact :=
  ((buf_whole d).wordExact_slice rfl _ (wordsSlot k h)).reshape _ _

theorem sendV_words (h : Fin 2) : (sendV h).view.WordExact :=
  (Memref.isWhole_whole cc0_scratch1).wordExact_slice rfl _ (wordsHalf h)

theorem packedRow (b : Fin 32) :
    (Rect.unit (s := S3584x1024) ![b.val * 112, 0] S112x1024.size (inbRow b)).PackedRows
      (EltTy.packing .bf16) := by
  revert b; decide +kernel

/-! ### The semaphores -/

theorem inbSem (h : Fin 2) : ∀ a, (![h.val] : Fin 1 → Nat) a + S1.size a ≤ S2.size a := by
  revert h; decide

theorem inbSem2 (k : Fin 3) (h : Fin 2) :
    ∀ a, (![k.val, h.val] : Fin 2 → Nat) a + S1x1.size a ≤ S3x2.size a := by
  revert k h; decide

abbrev sendSems : Bool → DmaSems sig S2
  | true => cc0_scratch4
  | false => cc0_scratch5

abbrev recvSems : Bool → DmaSems sig S3x2
  | true => cc0_scratch6
  | false => cc0_scratch7

/-- The semaphore a ring's copies of half `h` credit on the sender. -/
abbrev sendS (d : Bool) (h : Fin 2) : DmaSem sig :=
  (((sendSems d).slice (Rect.unit (s := S2) ![h.val] S1.size (inbSem h))).squeeze S_ squeezes_S1_S_).sem

/-- The semaphore a ring's copies into half `h` of slot `k` credit on the receiver. -/
abbrev recvS (d : Bool) (k : Fin 3) (h : Fin 2) : DmaSem sig :=
  (((recvSems d).slice (Rect.unit (s := S3x2) ![k.val, h.val] S1x1.size (inbSem2 k h))).squeeze S_
    squeezes_S1x1_S_).sem

/-- The semaphore on which a device hears that its neighbour may be written again. -/
abbrev creditS : Bool → Sem sig
  | true => (cc0_scratch8 : Sems sig S_).sem
  | false => (cc0_scratch9 : Sems sig S_).sem

/-- The semaphore of the opening handshake. -/
abbrev barS : Sem sig := (SemArray.scalar (sig.barrier 0 rfl) : Sems sig S_).sem

/-! ### The devices addressed, as the kernel computes them -/

/-- The device a ring's copies go to. -/
abbrev downRaw : Bool → Dev nD → Dev nD
  | true, c => ⟨k0_dev3 c, k0_dev3_lt c⟩
  | false, c => ⟨k0_dev4 c, k0_dev4_lt c⟩

/-! ### The values -/

/-- The device's position on the ring, as a word. -/
def myW (c : Dev nD) : BitVec 32 := Scalar.remsi (Scalar.divsi (Dev.word c) 1#32) 32#32

section
variable (i : Vec F S2048x1 .i32)
/-- Which device owns each row's expert. -/
def ownerV : IVec S2048x1 32 := k0_pay8 (k0_pay4 i) 4#32 (k0_pay5 i) (k0_pay6 i) k0_pay7
/-- Which of that device's four experts it is. -/
def localV : IVec S2048x1 32 := k0_pay9 (k0_pay4 i) 4#32 (k0_pay5 i) (k0_pay6 i) k0_pay7
/-- For each row, the row of the gathered buffer its contribution is in. -/
def colV (c : Dev nD) : IVec S2048x1 32 :=
  k0_pay25 (F := F) (myW c) (ownerV i)
    (k0_pay10 (k0_pay4 i) 4#32 (k0_pay5 i) (k0_pay6 i) k0_pay7) (k0_pay11 (F := F))
    (k0_pay15 (F := F) (k0_pay4 i) 4#32 (k0_pay5 i) (k0_pay6 i) k0_pay7)
    (k0_pay18 (F := F) (k0_pay4 i) 4#32 (k0_pay5 i) (k0_pay6 i) k0_pay7)
    (k0_pay21 (F := F) (k0_pay4 i) 4#32 (k0_pay5 i) (k0_pay6 i) k0_pay7)
    (k0_pay22 (F := F) (k0_pay4 i) 4#32 (k0_pay5 i) (k0_pay6 i) k0_pay7)
    (k0_pay23 (F := F) (k0_pay4 i) 4#32 (k0_pay5 i) (k0_pay6 i) k0_pay7)
    (constant S512x32 .f32 0x00000000#32)
/-- Row `p`, column `n`: one where row `n` is the `p`-th the device owns. -/
def pickV (c : Dev nD) : FVec F S112x2048 .bf16 :=
  k0_pay26 (F := F) (myW c) (ownerV i)
    (k0_pay10 (k0_pay4 i) 4#32 (k0_pay5 i) (k0_pay6 i) k0_pay7) (k0_pay11 (F := F))
    (k0_pay15 (F := F) (k0_pay4 i) 4#32 (k0_pay5 i) (k0_pay6 i) k0_pay7)
    (k0_pay18 (F := F) (k0_pay4 i) 4#32 (k0_pay5 i) (k0_pay6 i) k0_pay7)
    (k0_pay21 (F := F) (k0_pay4 i) 4#32 (k0_pay5 i) (k0_pay6 i) k0_pay7)
    (k0_pay22 (F := F) (k0_pay4 i) 4#32 (k0_pay5 i) (k0_pay6 i) k0_pay7)
    (k0_pay23 (F := F) (k0_pay4 i) 4#32 (k0_pay5 i) (k0_pay6 i) k0_pay7)
    (constant S512x32 .f32 0x00000000#32)
/-- The rows of `x` the device owns, in order. -/
def rowsV (c : Dev nD) (x : Vec F S2048x512 .bf16) : FVec F S112x512 .f32 :=
  k0_pay27 (F := F) (myW c) (k0_pay3 x) (ownerV i)
    (k0_pay10 (k0_pay4 i) 4#32 (k0_pay5 i) (k0_pay6 i) k0_pay7) (k0_pay11 (F := F))
    (k0_pay15 (F := F) (k0_pay4 i) 4#32 (k0_pay5 i) (k0_pay6 i) k0_pay7)
    (k0_pay18 (F := F) (k0_pay4 i) 4#32 (k0_pay5 i) (k0_pay6 i) k0_pay7)
    (k0_pay21 (F := F) (k0_pay4 i) 4#32 (k0_pay5 i) (k0_pay6 i) k0_pay7)
    (k0_pay22 (F := F) (k0_pay4 i) 4#32 (k0_pay5 i) (k0_pay6 i) k0_pay7)
    (k0_pay23 (F := F) (k0_pay4 i) 4#32 (k0_pay5 i) (k0_pay6 i) k0_pay7)
    (constant S512x32 .f32 0x00000000#32)
/-- The same rows in the format the experts are multiplied in. -/
def rowsBV (c : Dev nD) (x : Vec F S2048x512 .bf16) : FVec F S112x512 .bf16 :=
  k0_pay28 (F := F) (myW c) (k0_pay3 x) (ownerV i)
    (k0_pay10 (k0_pay4 i) 4#32 (k0_pay5 i) (k0_pay6 i) k0_pay7) (k0_pay11 (F := F))
    (k0_pay15 (F := F) (k0_pay4 i) 4#32 (k0_pay5 i) (k0_pay6 i) k0_pay7)
    (k0_pay18 (F := F) (k0_pay4 i) 4#32 (k0_pay5 i) (k0_pay6 i) k0_pay7)
    (k0_pay21 (F := F) (k0_pay4 i) 4#32 (k0_pay5 i) (k0_pay6 i) k0_pay7)
    (k0_pay22 (F := F) (k0_pay4 i) 4#32 (k0_pay5 i) (k0_pay6 i) k0_pay7)
    (k0_pay23 (F := F) (k0_pay4 i) 4#32 (k0_pay5 i) (k0_pay6 i) k0_pay7)
    (constant S512x32 .f32 0x00000000#32)
end

/-- What the device contributes: for each row it owns, the row times its expert, times its gate. -/
def contribV (c : Dev nD) (x : Vec F S2048x512 .bf16) (w : Vec F S512x128 .bf16) (i : Vec F S2048x1 .i32)
    (e0 e1 e2 e3 : Vec F S1x512x1024 .bf16) : FVec F S112x1024 .bf16 :=
  k0_pay34 (rowsBV i c x) (k0_pay29 (localV i) (pickV i c))
    (k0_pay30 (myW c) (localV i) (pickV i c) (rowsV i c x) w)
    (k0_pay31 (localV i) (pickV i c) (rowsBV i c x) e0) (k0_pay32 (rowsBV i c x) e1) k0_pay33 e2 e3

/-- One group of 896 gathered rows added to the result. -/
def accumV (g : ℕ) (col : IVec S2048x1 32) (o : Vec F S2048x1024 .f32) (gath : Vec F S896x1024 .bf16) :
    FVec F S2048x1024 .f32 :=
  addf (shapeCast S2048x1024 o shapeCasts_S2048x1024_S2048x1024)
    (matmul dot_S2048x896_S896x1024_S2048x1024_1_0_0_1_n_n none
      (truncf .bf16 (sitofp .f32 (extui 32 (cmpi .eq (iota .tc S2048x896 32 [1] iota_S2048x896_d1_w32)
        (broadcastTo S2048x896 (subi col (broadcast S2048x1 (BitVec.ofNat 32 (g * 896))))
          broadcasts_S2048x1_S2048x896)) natLt_1_32)) bitsLt_bf16_f32)
      gath
      (constant S2048x1024 .f32 0x00000000#32))

/-! ### The program -/

local notation "KProg" => Prog (TpuEff nD τ sig (Elt F) Λ₀ Proc.tc) PUnit

/-- The slot a hop lands in. -/
abbrev sl (s : ℕ) : Fin 3 := ⟨s % 3, Nat.mod_lt _ (by decide)⟩

/-- How many hops a ring makes. -/
abbrev hops : Bool → ℕ
  | true => 16
  | false => 15

/-- One copy of half `h` of some source to half `h` of slot `k` of the next device. -/
abbrev sendP (d : Bool) (src : Memref sig .tc .vmem S112x512 .bf16) (hsrc : src.view.WordExact) (k : Fin 3) (h : Fin 2)
    (n : Dev nD) : KProg :=
  Prog.lift (.enqueueDma src (.remote (Dev.tc n) (slotV d k h) (.dma (sendS d h))) (.dma (recvS d k h))
    hsrc (slotV_words d k h) ⟨⟨rfl, Or.inl rfl⟩, trivial⟩)

/-- The wait for the copy that lands in half `h` of slot `k`. -/
abbrev recvP (d : Bool) (k : Fin 3) (h : Fin 2) : KProg :=
  Prog.lift (.waitDma2 (recvS d k h) (sendV h) (slotV d k h) (sendV_words h) (slotV_words d k h))

/-- The wait for hop `s`'s own copy of half `h` to have left. -/
abbrev sentP (d : Bool) (s : ℕ) (h : Fin 2) : KProg :=
  if s = 0 then Prog.lift (.waitDma2 (sendS d h) (slotV d 0 h) (sendV h) (slotV_words d 0 h) (sendV_words h))
  else Prog.lift (.waitDma2 (sendS d h) (slotV d (sl s) h) (slotV d (sl (s - 1)) h) (slotV_words d _ h)
    (slotV_words d _ h))

/-- The wait, before the first half of a hop from the second on, for the slot it goes to be free. -/
abbrev creditP (d : Bool) (s : ℕ) (h : Fin 2) : KProg :=
  if h = 0 ∧ 2 ≤ s then semWaitWord (creditS d) 1#32 else pure ⟨⟩

/-- Half `h` of hop `s` of a ring. -/
def halfP (d : Bool) (s : ℕ) (h : Fin 2) (n : Dev nD) : KProg := do
  recvP d (sl s) h
  if s + 1 < hops d then do
    creditP d s h
    sentP d s h
    sendP d (slotV d (sl s) h) (slotV_words d _ h) (sl (s + 1)) h n
  else sentP d s h

/-- Hop `s` of a ring: both halves, and then the word to the device before that a slot is free. -/
def hopP (d : Bool) (s : ℕ) (n u : Dev nD) : KProg := do
  halfP d s 0 n
  halfP d s 1 n
  if 1 ≤ s ∧ s + 2 < hops d then semSignalWord u (creditS d) 1#32 else pure ⟨⟩

/-- Slot `k` of a ring's landing buffer copied to block `b` of the gathered buffer. -/
def keepP (d : Bool) (k : Fin 3) (b : Fin 32) : KProg := do
  let v : Vec F S1x112x1024 .bf16 ← Prog.lift (.load (buf d)
    (Rect.unit (s := S3x112x1024) ![k.val, 0, 0] S1x112x1024.size (inbFull k)).toLoadRect
    (match d with | true => View.loadsAt_vmem h_S1x112x1024 | false => View.loadsAt_vmem h_S1x112x1024))
  let _ : Vec F S112x1024 .bf16 ← Prog.lift (.load gM
    (Rect.unit (s := S3584x1024) ![b.val * 112, 0] S112x1024.size (inbRow b)).toLoadRect
    (View.loadsAt_vmem h_S112x1024))
  Prog.lift (.store gM (Rect.unit (s := S3584x1024) ![b.val * 112, 0] S112x1024.size (inbRow b))
    (k0_pay38 v) Finset.univ
    (View.stores_vmem h_S112x1024 ((Memref.isWhole_whole cc0_scratch0).storeExact_slice rfl _ (packedRow b))
      (fun _ => rfl)) (.inl rfl))

/-- Group `g` of the gathered rows added to the result. -/
def accumP (g : Fin 4) (col : IVec S2048x1 32) : KProg := do
  let o : Vec F S2048x1024 .f32 ← Prog.lift (.load oM
    (Rect.unit (s := S2048x1024) ![0, 0] S2048x1024.size inb_S2048x1024_S2048x1024_0_0).toLoadRect
    (View.loadsAt_vmem h_S2048x1024))
  let gath : Vec F S896x1024 .bf16 ← Prog.lift (.load gM
    (Rect.unit (s := S3584x1024) ![g.val * 896, 0] S896x1024.size (inbGroup g)).toLoadRect
    (View.loadsAt_vmem h_S896x1024))
  let _ : Vec F S2048x1024 .f32 ← Prog.lift (.load oM
    (Rect.unit (s := S2048x1024) ![0, 0] S2048x1024.size inb_S2048x1024_S2048x1024_0_0).toLoadRect
    (View.loadsAt_vmem h_S2048x1024))
  Prog.lift (.store oM (Rect.unit (s := S2048x1024) ![0, 0] S2048x1024.size inb_S2048x1024_S2048x1024_0_0)
    (accumV g.val col o gath) Finset.univ (View.stores_vmem_bits_univ h_S2048x1024 rfl) (.inl rfl))

/-- Step `s`: a hop of each ring that still runs, the landed blocks kept, and after every fourth step
    one group added. -/
def stepP (s : Fin 16) (col : IVec S2048x1 32) (right left : Dev nD) : KProg := do
  hopP true s right left
  if s.val < 15 then hopP false s left right else pure ⟨⟩
  keepP true (sl s) ⟨2 * s.val, by omega⟩
  if hs : s.val < 15 then keepP false (sl s) ⟨2 * s.val + 1, by omega⟩ else pure ⟨⟩
  if s.val % 4 = 3 then accumP ⟨s.val / 4, by omega⟩ col else pure ⟨⟩

/-- The steps from `16 - n` on. -/
def stepsP : ∀ n : ℕ, n ≤ 16 → IVec S2048x1 32 → Dev nD → Dev nD → KProg
  | 0, _, _, _, _ => pure ⟨⟩
  | n + 1, hn, col, right, left => do
    stepP ⟨16 - (n + 1), by omega⟩ col right left
    stepsP n (by omega) col right left

/-- Everything before the ring's first wait, but the handshake. -/
def startP (c right left : Dev nD) (k : IVec S2048x1 32 → KProg) : KProg := do
  let x : Vec F S2048x512 .bf16 ← Prog.lift (.load xM
    (Rect.unit (s := S2048x512) ![0, 0] S2048x512.size inb_S2048x512_S2048x512_0_0).toLoadRect
    (View.loadsAt_vmem h_S2048x512))
  let i : Vec F S2048x1 .i32 ← Prog.lift (.load iM
    (Rect.unit (s := S2048x1) ![0, 0] S2048x1.size inb_S2048x1_S2048x1_0_0).toLoadRect
    (View.loadsAt_vmem h_S2048x1))
  let w : Vec F S512x128 .bf16 ← Prog.lift (.load wM
    (Rect.unit (s := S512x128) ![0, 0] S512x128.size inb_S512x128_S512x128_0_0).toLoadRect
    (View.loadsAt_vmem h_S512x128))
  let e0 : Vec F S1x512x1024 .bf16 ← Prog.lift (.load eM
    (Rect.unit (s := S4x512x1024) ![0, 0, 0] S1x512x1024.size inb_S4x512x1024_S1x512x1024_0_0_0).toLoadRect
    (View.loadsAt_vmem h_S1x512x1024))
  let e1 : Vec F S1x512x1024 .bf16 ← Prog.lift (.load eM
    (Rect.unit (s := S4x512x1024) ![1, 0, 0] S1x512x1024.size inb_S4x512x1024_S1x512x1024_1_0_0).toLoadRect
    (View.loadsAt_vmem h_S1x512x1024))
  let e2 : Vec F S1x512x1024 .bf16 ← Prog.lift (.load eM
    (Rect.unit (s := S4x512x1024) ![2, 0, 0] S1x512x1024.size inb_S4x512x1024_S1x512x1024_2_0_0).toLoadRect
    (View.loadsAt_vmem h_S1x512x1024))
  let e3 : Vec F S1x512x1024 .bf16 ← Prog.lift (.load eM
    (Rect.unit (s := S4x512x1024) ![3, 0, 0] S1x512x1024.size inb_S4x512x1024_S1x512x1024_3_0_0).toLoadRect
    (View.loadsAt_vmem h_S1x512x1024))
  let _ : Vec F S112x1024 .bf16 ← Prog.lift (.load sM
    (Rect.unit (s := S112x1024) ![0, 0] S112x1024.size inb_S112x1024_S112x1024_0_0).toLoadRect
    (View.loadsAt_vmem h_S112x1024))
  Prog.lift (.store sM (Rect.unit (s := S112x1024) ![0, 0] S112x1024.size inb_S112x1024_S112x1024_0_0)
    (k0_pay37 (contribV c x w i e0 e1 e2 e3)) Finset.univ
    (View.stores_vmem h_S112x1024 ((Memref.isWhole_whole cc0_scratch1).storeExact_slice rfl _
      packedbf16_S112x1024_S112x1024_0_0) (fun _ => rfl)) (.inl rfl))
  sendP true (sendV 0) (sendV_words 0) 0 0 right
  sendP false (sendV 0) (sendV_words 0) 0 0 left
  sendP true (sendV 1) (sendV_words 1) 0 1 right
  sendP false (sendV 1) (sendV_words 1) 0 1 left
  let p : Vec F S512x1024 .bf16 ← Prog.lift (.load pM
    (Rect.unit (s := S512x1024) ![0, 0] S512x1024.size inb_S512x1024_S512x1024_0_0).toLoadRect
    (View.loadsAt_vmem h_S512x1024))
  let _ : Vec F S2048x1024 .f32 ← Prog.lift (.load oM
    (Rect.unit (s := S2048x1024) ![0, 0] S2048x1024.size inb_S2048x1024_S2048x1024_0_0).toLoadRect
    (View.loadsAt_vmem h_S2048x1024))
  Prog.lift (.store oM (Rect.unit (s := S2048x1024) ![0, 0] S2048x1024.size inb_S2048x1024_S2048x1024_0_0)
    (k0_pay36 (k0_pay3 x) p) Finset.univ (View.stores_vmem_bits_univ h_S2048x1024 rfl) (.inl rfl))
  let _ : Vec F S112x1024 .bf16 ← Prog.lift (.load gM
    (Rect.unit (s := S3584x1024) ![31 * 112, 0] S112x1024.size (inbRow 31)).toLoadRect
    (View.loadsAt_vmem h_S112x1024))
  Prog.lift (.store gM (Rect.unit (s := S3584x1024) ![31 * 112, 0] S112x1024.size (inbRow 31))
    (k0_pay37 (contribV c x w i e0 e1 e2 e3)) Finset.univ
    (View.stores_vmem h_S112x1024 ((Memref.isWhole_whole cc0_scratch0).storeExact_slice rfl _ (packedRow 31))
      (fun _ => rfl)) (.inl rfl))
  k (colV (F := F) i c)

/-- The opening handshake. -/
def shakeP (right left : Dev nD) : KProg := do
  semSignalWord left barS 1#32
  semSignalWord right barS 1#32
  semWaitWord barS 2#32

/-- The body. -/
def bodyP : KProg := do
  let c : Dev nD ← Prog.lift .deviceId
  shakeP (downRaw true c) (downRaw false c)
  startP c (downRaw true c) (downRaw false c) fun col =>
    stepsP 16 (le_refl _) col (downRaw true c) (downRaw false c)

set_option maxRecDepth 65536 in
/-- The printed body is this program. -/
theorem body_eq :
    cc0_body (F := F) xM (hstage0_0 0) wM (hstage0_1 0) iM (hstage0_2 0) eM (hstage0_3 0) pM (hstage0_4 0)
      oM (hstage0_5 0) gM (Memref.isWhole_whole _) sM (Memref.isWhole_whole _)
      (Memref.whole cc0_scratch2) (Memref.isWhole_whole _) (Memref.whole cc0_scratch3) (Memref.isWhole_whole _)
      cc0_scratch4 cc0_scratch5 cc0_scratch6 cc0_scratch7 cc0_scratch8 cc0_scratch9 = bodyP := by
  chain_rfl

end Cert.KernelIdeal.Hand

end
-- ==== Proof.KernelIdeal.Geom.lean ====
/-
  The two landing buffers cut into half slots, and what a half slot holds.
-/
module

public import proofs.«01_k».proof.Proof.KernelIdeal.Prog
public import Idealize.ShloMosaic.Lib.Ring
public import Idealize.ShloMosaic.Lib.Pipeline.ValueKit.Geometry
public import Idealize.ShloMosaic.Lib.Tactic

@[expose] public section

set_option maxRecDepth 16384

noncomputable section

namespace Cert.KernelIdeal.Hand

open Idealize.ShloMosaic Idealize.SL.Sem
open Cert.KernelIdeal Cert.KernelIdeal.Gen

variable {F : FTy → Type} [FloatOps F]

/-- The position in a contribution with the given coordinates. -/
def at2 (a : Fin 112) (b : Fin 1024) : S112x1024.Idx := fun i => match i with | ⟨0, _⟩ => a | ⟨1, _⟩ => b

/-- Columns `512 h` to `512 h + 511` of a contribution. -/
def halfOf (h : Fin 2) (v : FVec F S112x1024 .bf16) : S112x512.Idx → Elt F .bf16 :=
  fun j => v (at2 (j 0) ⟨h.val * 512 + (j 1).val, by
    have h1 := h.isLt; have h2 : (j 1).val < 512 := (j 1).isLt; omega⟩)

/-- A landing buffer whose every slot holds `v`. -/
def rep (d : Bool) (v : FVec F S112x1024 .bf16) : (buf d).view.ty.Contents (Elt F) :=
  match d with
  | true => fun i : S3x112x1024.Idx => v (at2 (i 1) (i 2))
  | false => fun i : S3x112x1024.Idx => v (at2 (i 1) (i 2))

theorem read_sendV (h : Fin 2) (v : FVec F S112x1024 .bf16) :
    (sendV h).view.read (Elt F) v = halfOf h v := by
  funext j
  refine congrArg v (funext fun a => Fin.ext ?_)
  refine (ValueKit.view_emb_slice_whole_unit_val cc0_scratch1 _ _ _ j a).trans ?_
  fin_cases a
  · exact Nat.zero_add _
  · rfl

theorem readAt_buf (d : Bool) (off size : Fin 3 → ℕ) (inb : ∀ a, off a + size a ≤ S3x112x1024.size a)
    (v : FVec F S112x1024 .bf16) (j : (Rect.unit (s := S3x112x1024) off size inb).toLoadRect.shape.Idx) :
    (buf d).view.readAt (Elt F) (Rect.unit (s := S3x112x1024) off size inb).toLoadRect (rep d v) j
      = v (at2 ⟨off 1 + (j 1).val, lt_of_lt_of_le (Nat.add_lt_add_left (j 1).isLt _) (inb 1)⟩
        ⟨off 2 + (j 2).val, lt_of_lt_of_le (Nat.add_lt_add_left (j 2).isLt _) (inb 2)⟩) := by
  cases d
  all_goals
    refine congrArg v (congrArg₂ at2 (Fin.ext ?_) (Fin.ext ?_))
    · exact congrArg (off 1 + ·) (Nat.one_mul (j 1).val)
    · exact congrArg (off 2 + ·) (Nat.one_mul (j 2).val)

theorem read_slotV (d : Bool) (k : Fin 3) (h : Fin 2) (v : FVec F S112x1024 .bf16) :
    (slotV d k h).view.read (Elt F) (rep d v) = halfOf h v := by
  refine (Memref.read_squeeze_slice (buf d) _ _ squeezes_S1x112x512_S112x512
    (show S1x112x512.ShapeCasts S112x512 by decide) (rep d v)).trans ?_
  funext j
  refine (shapeCast_dropUnit_apply ![112, 512] _ _ j).trans ?_
  rw [readAt_buf]
  refine congrArg v (congrArg₂ at2 (Fin.ext ?_) (Fin.ext ?_))
  · exact Nat.zero_add _
  · rfl

/-- What a load of a whole slot reads. -/
theorem read_full (d : Bool) (k : Fin 3) (v : FVec F S112x1024 .bf16) :
    k0_pay38 ((buf d).view.readAt (Elt F)
      (Rect.unit (s := S3x112x1024) ![k.val, 0, 0] S1x112x1024.size (inbFull k)).toLoadRect (rep d v)) = v := by
  funext j
  unfold k0_pay38
  dsimp only
  rw [shapeCast_self]
  refine (shapeCast_dropUnit_apply ![112, 1024] _ _ j).trans ?_
  rw [readAt_buf]
  refine congrArg v (funext fun a => Fin.ext ?_)
  fin_cases a
  · exact Nat.zero_add _
  · exact Nat.zero_add _

/-- What is written from a half is, on the half slot, the buffer holding `v`. -/
theorem write_slotV (d : Bool) (k : Fin 3) (h : Fin 2) (v : FVec F S112x1024 .bf16)
    (fd : (buf d).view.ty.Contents (Elt F)) :
    ∀ i ∈ (slotV d k h).view.set, (slotV d k h).view.write (Elt F) fd (halfOf h v) Finset.univ i = rep d v i := by
  intro i hi
  obtain ⟨y, rfl⟩ := View.exists_emb_of_mem_set _ hi
  rw [← read_slotV d k h v, View.write_emb_of_mem _ _ (h := Finset.mem_univ _), View.read_apply]
  simp

/-! ### The half slots' positions -/

/-- The positions of half `h` of slot `k`. -/
abbrev hset (d : Bool) (k : Fin 3) (h : Fin 2) : Finset (buf d).view.ty.Idx := (slotV d k h).view.set

theorem set_slotV (d : Bool) (k : Fin 3) (h : Fin 2) :
    hset d k h = (buf d).view.setOn (Rect.unit (s := S3x112x1024) ![k.val, 0, h.val * 512]
      S1x112x512.size (inbSlot k h)).set := by
  refine (View.set_reshape _ _).trans ?_
  ext i
  constructor
  · intro hi
    obtain ⟨x, rfl⟩ := View.exists_emb_of_mem_set _ hi
    exact Finset.mem_map_of_mem _ (LoadRect.idx_mem _ x)
  · intro hi
    obtain ⟨y, hy, rfl⟩ := Finset.mem_map.mp hi
    obtain ⟨x, rfl⟩ := LoadRect.exists_idx_of_mem _ hy
    exact View.emb_mem_set _ x

theorem mem_rect (k : Fin 3) (h : Fin 2) (i : S3x112x1024.Idx) :
    i ∈ (Rect.unit (s := S3x112x1024) ![k.val, 0, h.val * 512] S1x112x512.size (inbSlot k h)).set
      ↔ (i 0).val = k.val ∧ (i 2).val / 512 = h.val := by
  rw [Rect.mem_set_unit]
  have h1 : (i 1).val < 112 := (i 1).isLt
  constructor
  · intro H
    have h0 : k.val ≤ (i 0).val ∧ (i 0).val < k.val + 1 := H 0
    have h2 : h.val * 512 ≤ (i 2).val ∧ (i 2).val < h.val * 512 + 512 := H 2
    omega
  · rintro ⟨e0, e2⟩ a
    fin_cases a
    · exact (show k.val ≤ (i 0).val ∧ (i 0).val < k.val + 1 by omega)
    · exact (show 0 ≤ (i 1).val ∧ (i 1).val < 0 + 112 by omega)
    · exact (show h.val * 512 ≤ (i 2).val ∧ (i 2).val < h.val * 512 + 512 by omega)

theorem slotV_disjoint (d : Bool) (kh kh' : Fin 3 × Fin 2) (hne : kh ≠ kh') :
    Disjoint (hset d kh.1 kh.2) (hset d kh'.1 kh'.2) := by
  rw [set_slotV, set_slotV]
  refine (Finset.disjoint_map _).mpr ?_
  refine Finset.disjoint_left.mpr fun i hi hi' => hne ?_
  rw [mem_rect] at hi hi'
  exact Prod.ext (Fin.ext (by omega)) (Fin.ext (by omega))

theorem buf_emb_surj (d : Bool) (i : (buf d).view.ty.Idx) : ∃ x : S3x112x1024.Idx, (buf d).view.emb x = i := by
  cases d
  · exact ⟨i, rfl⟩
  · exact ⟨i, rfl⟩

theorem slotV_cover (d : Bool) :
    (Finset.univ.biUnion fun kh : Fin 3 × Fin 2 =>
      hset d kh.1 kh.2) = Finset.univ := by
  refine Finset.eq_univ_of_forall fun i => ?_
  obtain ⟨x, rfl⟩ := buf_emb_surj d i
  have h2 : (x 2).val < 1024 := (x 2).isLt
  refine Finset.mem_biUnion.mpr ⟨(x 0, ⟨(x 2).val / 512, by omega⟩), Finset.mem_univ _, ?_⟩
  rw [set_slotV]
  exact Finset.mem_map_of_mem _ ((mem_rect _ _ x).mpr ⟨rfl, rfl⟩)

/-- A load of a whole slot reads its two halves only. -/
theorem full_subset (d : Bool) (k : Fin 3) :
    (buf d).view.setOn (Rect.unit (s := S3x112x1024) ![k.val, 0, 0] S1x112x1024.size (inbFull k)).set
      ⊆ hset d k 0 ∪ hset d k 1 := by
  intro i hi
  obtain ⟨x, hx, rfl⟩ := Finset.mem_map.mp hi
  rw [Rect.mem_set_unit] at hx
  have h0 : k.val ≤ (x 0).val ∧ (x 0).val < k.val + 1 := hx 0
  have h2 : (x 2).val < 1024 := (x 2).isLt
  rw [set_slotV, set_slotV]
  by_cases hc : (x 2).val < 512
  · exact Finset.mem_union_left _ (Finset.mem_map_of_mem _ ((mem_rect _ _ x).mpr
      ⟨by omega, by simp only [Fin.val_zero]; omega⟩))
  · exact Finset.mem_union_right _ (Finset.mem_map_of_mem _ ((mem_rect _ _ x).mpr
      ⟨by omega, by simp only [Fin.val_one]; omega⟩))

theorem slotV_nonempty (d : Bool) (k : Fin 3) (h : Fin 2) : (hset d k h).Nonempty :=
  View.set_nonempty (h := by decide)

end Cert.KernelIdeal.Hand

end
-- ==== Proof.KernelIdeal.Ring.lean ====
/-
  Who signals whom, how often and with what: the schedule of the two rings. A device's cells are the
  handshake's, and for each ring its credit, its two send cells and its six receive cells.
-/
module

public import proofs.«01_k».proof.Proof.KernelIdeal.Geom
public import Idealize.ShloMosaic.Lib.Pipeline.SiteBlocks
public import Idealize.ShloMosaic.Lib.Release
public import Mathlib.Tactic.DeriveFintype

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SiteBlocks (L lv)

variable {F : FTy → Type} [FloatOps F]

/-! ### The resource algebra -/

/-- A half slot of a landing buffer: device, ring, slot, half. -/
abbrev Key : Type := Dev nD × Bool × Fin 3 × Fin 2
abbrev UB : Type := URounds (GSem nD τ sig) ℕ
abbrev US : Type := USlots Key
abbrev UU : Type := UR sig nD τ × (UB × US)

local notation "𝕄" => MT nD τ sig ℕ (Elt F) ℕ UU ℕ

abbrev EP : Emb (UR sig nD τ) (MT nD τ sig ℕ (Elt F) ℕ UU ℕ) := embL
abbrev EV : Emb (UB × US) (MT nD τ sig ℕ (Elt F) ℕ UU ℕ) := embR
abbrev ER : Emb UB (MT nD τ sig ℕ (Elt F) ℕ UU ℕ) := (Emb.inl : Emb UB (UB × US)).trans EV
abbrev ES : Emb US (MT nD τ sig ℕ (Elt F) ℕ UU ℕ) := (Emb.inr : Emb US (UB × US)).trans EV

/-! ### The ring of devices -/

set_option backward.proofsInPublic true in
/-- The device a ring's copies go to, -/
def dn (d : Bool) (c : Dev nD) : Dev nD :=
  match d with
  | true => ⟨(c.val + 1) % 32, Nat.mod_lt _ (by decide)⟩
  | false => ⟨(c.val + 31) % 32, Nat.mod_lt _ (by decide)⟩

/-- and the device they come from. -/
def up (d : Bool) (c : Dev nD) : Dev nD := dn (!d) c

theorem up_dn (d : Bool) (c : Dev nD) : up d (dn d c) = c := by revert d c; decide
theorem dn_up (d : Bool) (c : Dev nD) : dn d (up d c) = c := by revert d c; decide

theorem downRaw_eq (d : Bool) (c : Dev nD) : downRaw d c = dn d c := by
  cases d
  · exact Fin.ext (k0_dev4_eq c)
  · exact Fin.ext (k0_dev3_eq c)

def ring (d : Bool) : Dev nD ≃ Dev nD := ⟨dn d, up d, up_dn d, dn_up d⟩

/-- Whose contribution hop `j` brings to device `c`. -/
def ow (d : Bool) (c : Dev nD) (j : ℕ) : Dev nD := (up d)^[j + 1] c

theorem ow_zero (d : Bool) (c : Dev nD) : ow d (dn d c) 0 = c := up_dn d c
theorem ow_succ (d : Bool) (c : Dev nD) (j : ℕ) : ow d (dn d c) (j + 1) = ow d c j := by
  unfold ow
  rw [Function.iterate_succ_apply, up_dn]

/-! ### The cells -/

inductive CK where
  | bar
  | credit (d : Bool)
  | send (d : Bool) (h : Fin 2)
  | recv (d : Bool) (k : Fin 3) (h : Fin 2)
  deriving DecidableEq, Fintype

/-- A cell's semaphore, -/
abbrev semOf : CK → SemLoc sig
  | .bar => .reg barS
  | .credit d => .reg (creditS d)
  | .send d h => .dma (sendS d h)
  | .recv d k h => .dma (recvS d k h)

/-- and the cell of a semaphore. -/
def kindOf (s : SemLoc sig) : Option CK := (Finset.univ.filter fun k => semOf k = s).toList.head?

abbrev cell (c : Dev nD) (k : CK) : GSem nD τ sig := ((c : Thread nD τ), semOf k)

theorem semOf_injective : Function.Injective semOf := by decide

theorem kindOf_semOf (k : CK) : kindOf (semOf k) = some k := by
  unfold kindOf
  rw [show (Finset.univ.filter fun k' => semOf k' = semOf k) = {k} from by
    ext k'; simp [semOf_injective.eq_iff]]
  simp

theorem cell_injective : Function.Injective (fun p : Dev nD × CK => cell p.1 p.2) := by
  rintro ⟨c, k⟩ ⟨c', k'⟩ h
  have h1 : c = c' := congrArg (fun g : GSem nD τ sig => g.1.1) h
  have h2 : k = k' := semOf_injective (congrArg Prod.snd h)
  rw [h1, h2]

/-- What a copy of a half slot credits. -/
abbrev N : ℕ := (sendV 0).view.dmaCredit
theorem N_pos : 0 < N := View.dmaCredit_pos _ (by decide)

theorem amount_slotV (d : Bool) (k : Fin 3) (h : Fin 2) (q : DmaSem sig) : (slotV d k h).view.amount (.dma q) = N := by
  cases d <;> rfl
theorem credit_slotV (d : Bool) (k : Fin 3) (h : Fin 2) : (slotV d k h).view.dmaCredit = N := by
  cases d <;> rfl
theorem credit_sendV (h : Fin 2) : (sendV h).view.dmaCredit = N := rfl

/-! ### What the landings hand over -/

/-- Half `h` of slot `k`, holding `v`. -/
def slotAt (c : Dev nD) (d : Bool) (k : Fin 3) (h : Fin 2) (q : PosShare TreeShare) (v : FVec F S112x1024 .bf16) : sProp 𝕄 :=
  (slotV d k h).view.loc (c : Thread nD τ) ↦[(slotV d k h).view.set]{q} (rep d v)

/-- Half `h` of the buffer the first copies read, holding `v`. -/
def srcAt (c : Dev nD) (h : Fin 2) (q : PosShare TreeShare) (v : FVec F S112x1024 .bf16) : sProp 𝕄 :=
  (sendV h).view.loc (c : Thread nD τ) ↦[(sendV h).view.set]{q} v

/-- A half slot at whatever it holds. -/
def slotFree (x : Key) : sProp 𝕄 :=
  slot ((slotV x.2.1 x.2.2.1 x.2.2.2).view.loc (x.1 : Thread nD τ)) (slotV x.2.1 x.2.2.1 x.2.2.2).view.set

/-- Each ring takes its own half share of the first source. -/
def srcShare : Bool → PosShare TreeShare
  | true => fullShare.left
  | false => fullShare.right

omit [FloatOps F] in
instance slotAt_storable (c : Dev nD) (d k h q) (v : FVec F S112x1024 .bf16) : BI.Storable (upEmb : UEmb _ 𝕄) (slotAt c d k h q v) := by
  unfold slotAt; infer_instance
omit [FloatOps F] in
instance srcAt_storable (c : Dev nD) (h q) (v : FVec F S112x1024 .bf16) : BI.Storable (upEmb : UEmb _ 𝕄) (srcAt c h q v) := by
  unfold srcAt; infer_instance
omit [FloatOps F] in
instance slotFree_storable (x : Key) : BI.Storable (upEmb : UEmb _ 𝕄) (slotFree (F := F) x) := by
  unfold slotFree; infer_instance

/-- What device `c` must know to send hop `j`: that the half slots it goes to have been given back often
    enough, and that their receive cells have come to the hop's round. -/
def factH (d : Bool) (c : Dev nD) (j : ℕ) (h : Fin 2) : sProp 𝕄 :=
  iprop(released ES ((dn d c, d, sl j, h) : Key) (j / 3 + 1) ∗ reached ER (cell (dn d c) (.recv d (sl j) h)) (j / 3))
def fact (d : Bool) (c : Dev nD) (j : ℕ) : sProp 𝕄 := iprop(factH d c j 0 ∗ factH d c j 1)

omit [FloatOps F] in
instance factH_persistent (d c j h) : BI.Persistent (factH (F := F) d c j h) := by unfold factH; infer_instance
omit [FloatOps F] in
instance fact_persistent (d c j) : BI.Persistent (fact (F := F) d c j) := by unfold fact; infer_instance
omit [FloatOps F] in
instance factH_storable (d c j h) : BI.Storable (upEmb : UEmb _ 𝕄) (factH (F := F) d c j h) := by unfold factH; infer_instance
omit [FloatOps F] in
instance fact_storable (d c j) : BI.Storable (upEmb : UEmb _ 𝕄) (fact (F := F) d c j) := by unfold fact; infer_instance

/-! ### The schedule -/

variable (ct : Dev nD → FVec F S112x1024 .bf16)

def sendPay (d : Bool) (h : Fin 2) (c : Dev nD) : ℕ → sProp 𝕄
  | 0 => srcAt c h (srcShare d) (ct c)
  | j + 1 => slotAt c d (sl j) h fullShare.left (ct (ow d c j))

def recvPay (d : Bool) (k : Fin 3) (h : Fin 2) (c : Dev nD) (r : ℕ) : sProp 𝕄 :=
  slotAt c d k h fullShare (ct (ow d c (3 * r + k.val)))

def creditPay (d : Bool) (c : Dev nD) (e : ℕ) : sProp 𝕄 := heard (fun e => fact d c (e + 2)) (Finset.Icc 1 e)
def barPay (d : Bool) (c : Dev nD) : sProp 𝕄 := heard (fun j => fact d c j) (Finset.range 3)

/-- The handshake's duty that speaks for ring `d`. -/
def bd (d : Bool) : ℕ := if d then 0 else 1

def dutiesK (k : CK) (r : ℕ) : Finset ℕ :=
  match k with
  | .bar => if r = 0 then {0, 1} else ∅
  | .credit d => if r = 0 then Finset.Ico 1 (hops d - 2) else ∅
  | .send d _ => if r < hops d then {0} else ∅
  | .recv d k _ => if 3 * r + k.val < hops d then {0} else ∅

def amountK : CK → ℕ
  | .bar => 1
  | .credit _ => 1
  | .send _ _ => N
  | .recv _ _ _ => N

def payK (c : Dev nD) (k : CK) (r e : ℕ) : sProp 𝕄 :=
  match k with
  | .bar => barPay (e == 0) c
  | .credit d => creditPay d c e
  | .send d h => sendPay ct d h c r
  | .recv d k h => recvPay ct d k h c r

omit [FloatOps F] in
instance payK_storable (c : Dev nD) (k : CK) (r e : ℕ) : BI.Storable (upEmb : UEmb _ 𝕄) (payK ct c k r e) := by
  cases k
  · unfold payK barPay; infer_instance
  · unfold payK creditPay; infer_instance
  · cases r <;> (unfold payK sendPay; infer_instance)
  · unfold payK recvPay; infer_instance

/-- The schedule of the launch. -/
def Rd : Rounds.Schedule (GSem nD τ sig) ℕ 𝕄 where
  duties g r := if g.1.2 = .tc then (match kindOf g.2 with | some k => dutiesK k r | none => ∅) else ∅
  unitless _ := False
  amount g _ _ := match kindOf g.2 with | some k => amountK k | none => 1
  payload g r e := match kindOf g.2 with | some k => payK ct g.1.1 k r e | none => iprop(emp)
  amount_pos g _ _ _ := by
    cases kindOf g.2 with
    | none => exact Nat.one_pos
    | some k => cases k <;> first | exact Nat.one_pos | exact N_pos

omit [FloatOps F] in
instance Rd_storable (g : GSem nD τ sig) (r e : ℕ) : BI.Storable (upEmb : UEmb _ 𝕄) ((Rd ct).payload g r e) := by
  show BI.Storable upEmb (match kindOf g.2 with | some k => payK ct g.1.1 k r e | none => iprop(emp))
  cases kindOf g.2 <;> infer_instance

section
variable (c : Dev nD) (k : CK) (r e : ℕ)
omit [FloatOps F] in
theorem duties_cell : (Rd ct).duties (cell c k) r = dutiesK k r := by
  dsimp only [Rd]; rw [if_pos rfl, kindOf_semOf]
omit [FloatOps F] in
theorem amount_cell : (Rd ct).amount (cell c k) r e = amountK k := by
  dsimp only [Rd]; rw [kindOf_semOf]
omit [FloatOps F] in
theorem payload_cell : (Rd ct).payload (cell c k) r e = payK ct c k r e := by
  dsimp only [Rd]; rw [kindOf_semOf]
omit [FloatOps F] in
theorem expect_cell : (Rd ct).expect (cell c k) r = (dutiesK k r).card * amountK k := by
  unfold Schedule.expect Schedule.amountOf
  rw [duties_cell, Finset.sum_congr rfl fun e _ => amount_cell ct c k r e, Finset.sum_const, smul_eq_mul]
end

/-- The round at which a cell is done. -/
def lastR : CK → ℕ
  | .bar => 1
  | .credit _ => 1
  | .send d _ => hops d
  | .recv d k _ => (hops d + 2 - k.val) / 3

theorem duties_last (k : CK) (r : ℕ) (hr : lastR k ≤ r) : dutiesK k r = ∅ := by
  cases k
  · exact if_neg (by have : 1 ≤ r := hr; omega)
  · exact if_neg (by have : 1 ≤ r := hr; omega)
  · exact if_neg (Nat.not_lt.mpr hr)
  · rename_i d k h
    refine if_neg (Nat.not_lt.mpr ?_)
    have h1 : (hops d + 2 - k.val) / 3 ≤ r := hr
    have := k.isLt
    cases d <;> simp only [hops] at * <;> omega

omit [FloatOps F] in
theorem rest_one (c : Dev nD) (k : CK) (r : ℕ) (hk : dutiesK k r = {0}) :
    bigSep ((Rd ct).duties (cell c k) r \ ∅) (fun e => (Rd ct).payload (cell c k) r e) = payK ct c k r 0 := by
  rw [Finset.sdiff_empty, duties_cell, hk, bigSep_singleton, payload_cell]

end Cert.KernelIdeal.Hand

end
-- ==== Proof.KernelIdeal.Step.lean ====
/-
  The single moves of a ring, each at a symbolic device, ring, hop and half: the wait for a landing, the
  wait for a copy to have left, the wait for a credit, a copy, and a slot given back.
-/
module

public import proofs.«01_k».proof.Proof.KernelIdeal.Ring

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SiteBlocks (L lv)

variable {F : FTy → Type} [FloatOps F]

local notation "𝕄" => MT nD τ sig ℕ (Elt F) ℕ UU ℕ
local notation "KProg" => Prog (TpuEff nD τ sig (Elt F) Λ₀ Proc.tc) PUnit

abbrev 𝒱₀ : Variants := Variants.none

/-- The weakest precondition of a piece of device `c`'s program. -/
local notation "WPc" c => wp (frame (nD := nD) (τ := τ) (sig := sig) (Val := Elt F) (Ix := ℕ) (Name := ℕ) (U := UU) (Lvl := ℕ)) (wpE (defs₀ (F := F)) 𝒱₀ (c : Thread nD τ) none) Set.univ

/-! ### What is owed -/

abbrev Owed : Type := CellTallies nD τ sig ℕ

/-- All of `O` lies at indices above `b` that have a level. -/
def OK (b : ℕ) (O : Owed) : Prop := ∀ g k, 0 < O g k → k ∈ L 40 g ∧ b < k

theorem OK_zero (b : ℕ) : OK b 0 := fun _ _ h => absurd h (Nat.lt_irrefl 0)
theorem OK_add {b : ℕ} {O O' : Owed} (h : OK b O) (h' : OK b O') : OK b (O + O') := fun g k hg => by
  rw [Pi.add_apply, Finsupp.add_apply] at hg
  rcases Nat.add_pos_iff_pos_or_pos.mp hg with h1 | h1
  · exact h g k h1
  · exact h' g k h1
theorem OK_mono {b b' : ℕ} {O : Owed} (h : OK b O) (hb : b' ≤ b) : OK b' O := fun g k hg =>
  ⟨(h g k hg).1, lt_of_le_of_lt hb (h g k hg).2⟩
theorem OK_tally {b i n : ℕ} (c : Dev nD) (k : CK) (hb : b < i) (hi : i < 40) : OK b (tallyAt (cell c k) i n) := fun g j hg => by
  obtain ⟨rfl, rfl⟩ := Pipeline.tallyAt_pos hg
  exact ⟨SiteBlocks.mem_L c (semOf k) hi, hb⟩
theorem OK_sum {b : ℕ} {ι : Type} (s : Finset ι) (f : ι → Owed) (h : ∀ i ∈ s, OK b (f i)) : OK b (∑ i ∈ s, f i) := by
  classical
  induction s using Finset.induction_on with
  | empty => exact OK_zero b
  | insert a s ha ih =>
    rw [Finset.sum_insert ha]
    exact OK_add (h a (Finset.mem_insert_self _ _)) (ih fun i hi => h i (Finset.mem_insert_of_mem hi))

/-- The thread owes `O`, whatever it has waited on. -/
def owesE (c : Dev nD) (O : Owed) : sProp 𝕄 := iprop(∃ W, owes (c : Thread nD τ) O W)

/-! ### What every device may open -/

variable (ct : Dev nD → FVec F S112x1024 .bf16) (κ : Dev nD × CK → ℕ) (ν : Key → ℕ)

def Inv : sProp 𝕄 :=
  iprop(bigSep Finset.univ (fun p : Dev nD × CK => cellInv ER (Rd ct) (κ p) (cell p.1 p.2))
    ∗ bigSep Finset.univ (fun x : Key => slotInv ES (ν x) x (slotFree (F := F) x))
    ∗ levAts (L 40) lv)

instance Inv_persistent : BI.Persistent (Inv ct κ ν) := by unfold Inv; infer_instance

theorem inv_cell (c : Dev nD) (k : CK) : Inv ct κ ν ⊢ cellInv ER (Rd ct) (κ (c, k)) (cell c k) := by
  unfold Inv
  iintro ⟨H, -, -⟩
  iapply (show bigSep Finset.univ (fun p : Dev nD × CK => cellInv ER (Rd ct) (κ p) (cell p.1 p.2)) ⊢ cellInv ER (Rd ct) (κ (c, k)) (cell c k) from
    bigSep_elim (Finset.mem_univ (c, k)))
  iexact H

theorem inv_slot (x : Key) : Inv ct κ ν ⊢ slotInv ES (ν x) x (slotFree (F := F) x) := by
  unfold Inv
  iintro ⟨-, H, -⟩
  iapply (show bigSep Finset.univ (fun x : Key => slotInv ES (ν x) x (slotFree (F := F) x)) ⊢ slotInv ES (ν x) x (slotFree (F := F) x) from
    bigSep_elim (Finset.mem_univ x))
  iexact H

theorem inv_lev : Inv ct κ ν ⊢ (levAts (L 40) lv : sProp 𝕄) := by
  unfold Inv
  iintro ⟨-, -, H⟩
  iexact H

theorem inv_wait (c : Dev nD) (k : CK) (i : ℕ) (hi : i < 40) (O : Owed) (hO : OK i O) :
    Inv ct κ ν ⊢ MayWait (c : Thread nD τ) (semOf k) i O :=
  (inv_lev ct κ ν).trans (SiteBlocks.mayWait_of hi c (semOf k) O hO)

/-! ### Waits -/

theorem sl_add3 (s : ℕ) : sl (s + 3) = sl s := Fin.ext (by show (s + 3) % 3 = s % 3; omega)
theorem div_add3 (s : ℕ) : (s + 3) / 3 = s / 3 + 1 := by omega
theorem sl_spec (s : ℕ) : 3 * (s / 3) + (sl s).val = s := by show 3 * (s / 3) + s % 3 = s; omega

/-- A wait of size `N` for the only duty of a cell's round. -/
theorem wp_only (c : Dev nD) (k : CK) (r i : ℕ) (hk : dutiesK k r = {0}) (ha : amountK k = N) (hi : i < 40) (O : Owed) (hO : OK i O)
    {e : TpuEff nD τ sig (Elt F) Λ₀ Proc.tc PUnit}
    (hw : ∀ K : PUnit → sProp 𝕄, wpE (defs₀ (F := F)) 𝒱₀ (c : Thread nD τ) none Set.univ e K
      = waitSpec (c : Thread nD τ) Set.univ (semOf k) N K) (Q : PUnit → sProp 𝕄) :
    iprop(Inv ct κ ν ∗ cred (tallyAt (cell c k) i N) ∗ owesE c O ∗ atPos ER (cell c k) r ∅ 0
      ∗ ((owesE c O ∗ atPos ER (cell c k) (r + 1) ∅ 0 ∗ reached ER (cell c k) (r + 1) ∗ payK ct c k r 0) -∗ Q ⟨⟩))
    ⊢ (WPc c) (Prog.lift e) Q := by
  unfold owesE
  iintro ⟨#HI, Hc, ⟨%W, Ho⟩, Hat, HQ⟩
  rw [Prog.lift]
  iapply (Rounds.wp_wait_rest_token 𝒱₀ ER (Rd ct) (c : Thread nD τ) none (κ := κ (c, k)) hw (Set.mem_univ _) i (O := O) (W := W)
    (R := r) (m := 0) (T := ∅) (by rw [expect_cell, hk, ha, Finset.card_singleton]; omega)) $$ [Hc Ho Hat]
  · isplitr; · iapply (inv_cell ct κ ν c k); iexact HI
    isplitl [Hc]; · iexact Hc
    isplitl [Ho]; · iexact Ho
    isplitr; · iapply (inv_wait ct κ ν c k i hi O hO); iexact HI
    iexact Hat
  iintro ⟨Ho, Hat, Hr, Hp⟩
  ihave Hp := (Entails.of_eq (rest_one ct c k r hk)) $$ Hp
  rw [wp_ret]; imodintro
  iapply HQ
  isplitl [Ho]; · iexists _; iexact Ho
  isplitl [Hat]; · iexact Hat
  isplitl [Hr]; · iexact Hr
  iexact Hp

/-- The wait for hop `s` to have landed. -/
theorem wp_recv (c : Dev nD) (d : Bool) (s : ℕ) (h : Fin 2) (hs : s < hops d) (O : Owed) (hO : OK (2 * s + 2) O) (Q : PUnit → sProp 𝕄) :
    iprop(Inv ct κ ν ∗ cred (tallyAt (cell c (.recv d (sl s) h)) (2 * s + 2) N) ∗ owesE c O ∗ atPos ER (cell c (.recv d (sl s) h)) (s / 3) ∅ 0
      ∗ ((owesE c O ∗ atPos ER (cell c (.recv d (sl (s + 3)) h)) ((s + 3) / 3) ∅ 0
          ∗ reached ER (cell c (.recv d (sl (s + 3)) h)) ((s + 3) / 3) ∗ slotAt c d (sl s) h fullShare (ct (ow d c s))) -∗ Q ⟨⟩))
    ⊢ (WPc c) (recvP d (sl s) h) Q := by
  have h16 : hops d ≤ 16 := by cases d <;> decide
  have hp : payK ct c (.recv d (sl s) h) (s / 3) 0 = slotAt c d (sl s) h fullShare (ct (ow d c s)) := by
    show slotAt c d (sl s) h fullShare (ct (ow d c (3 * (s / 3) + (sl s).val))) = _
    rw [sl_spec]
  rw [sl_add3, div_add3, ← hp]
  exact wp_only ct κ ν c (.recv d (sl s) h) (s / 3) (2 * s + 2)
    (if_pos (by show 3 * (s / 3) + (sl s).val < _; rw [sl_spec]; exact hs)) rfl (by omega) O hO
    (fun K => (wpE_waitDma2_eq 𝒱₀ (c : Thread nD τ) none Set.univ K).trans (by rw [credit_slotV])) Q

/-- The wait for hop `s`'s own copy to have left. -/
theorem wp_sent (c : Dev nD) (d : Bool) (s : ℕ) (h : Fin 2) (hs : s < hops d) (O : Owed) (hO : OK 0 O) (Q : PUnit → sProp 𝕄) :
    iprop(Inv ct κ ν ∗ cred (tallyAt (cell c (.send d h)) 0 N) ∗ owesE c O ∗ atPos ER (cell c (.send d h)) s ∅ 0
      ∗ ((owesE c O ∗ atPos ER (cell c (.send d h)) (s + 1) ∅ 0
          ∗ reached ER (cell c (.send d h)) (s + 1) ∗ sendPay ct d h c s) -∗ Q ⟨⟩))
    ⊢ (WPc c) (sentP d s h) Q := by
  unfold sentP
  split
  · exact wp_only ct κ ν c (.send d h) s 0 (if_pos hs) rfl (by omega) O hO
      (fun K => (wpE_waitDma2_eq 𝒱₀ (c : Thread nD τ) none Set.univ K).trans (by rw [credit_sendV])) Q
  · exact wp_only ct κ ν c (.send d h) s 0 (if_pos hs) rfl (by omega) O hO
      (fun K => (wpE_waitDma2_eq 𝒱₀ (c : Thread nD τ) none Set.univ K).trans (by rw [credit_slotV])) Q

/-! ### A copy -/

theorem send_mem (d : Bool) (h : Fin 2) (j : ℕ) (hj : j < hops d) : 0 ∈ dutiesK (.send d h) j := by
  unfold dutiesK; dsimp only; rw [if_pos hj]; exact Finset.mem_singleton_self _
theorem recv_mem (d : Bool) (h : Fin 2) (j : ℕ) (hj : j < hops d) : 0 ∈ dutiesK (.recv d (sl j) h) (j / 3) := by
  unfold dutiesK; dsimp only; rw [if_pos (by rw [sl_spec]; exact hj)]; exact Finset.mem_singleton_self _

/-- What device `c` holds for the copy of half `h` that makes hop `j`. -/
def sendRes (c : Dev nD) (d : Bool) (h : Fin 2) (j : ℕ) : sProp 𝕄 :=
  iprop(dutyTok ER (cell c (.send d h)) j 0 ∗ dutyTok ER (cell (dn d c) (.recv d (sl j) h)) (j / 3) 0
    ∗ writeTok ES ((dn d c, d, sl j, h) : Key) (j / 3 + 1))

theorem wp_copy (c n : Dev nD) (d : Bool) (hn : n = dn d c) (h : Fin 2) (j : ℕ) (hj : j < hops d) (src : Memref sig .tc .vmem S112x512 .bf16) (hsrc : src.view.WordExact)
    (q : PosShare TreeShare) (fs : Buf (Elt F) (src.view.loc (c : Thread nD τ)))
    (hread : src.view.read (Elt F) fs = halfOf h (ct (ow d (dn d c) j)))
    (hpay : (src.view.loc (c : Thread nD τ) ↦[src.view.set]{q} fs : sProp 𝕄) ⊢ sendPay ct d h c j) (O : Owed) (Q : PUnit → sProp 𝕄) :
    iprop(Inv ct κ ν ∗ factH d c j h ∗ (src.view.loc (c : Thread nD τ) ↦[src.view.set]{q} fs)
      ∗ owesE c (O + tallyAt (cell (dn d c) (.recv d (sl j) h)) (2 * j + 2) N)
      ∗ reached ER (cell c (.send d h)) j ∗ sendRes (F := F) c d h j
      ∗ ((owesE c O ∗ cred (tallyAt (cell c (.send d h)) 0 N)) -∗ Q ⟨⟩))
    ⊢ (WPc c) (sendP d src hsrc (sl j) h n) Q := by
  subst hn
  unfold owesE factH sendRes
  iintro ⟨#HI, ⟨#Hrel, #Hrd⟩, Hsrc, ⟨%W, Ho⟩, #Hrs, ⟨Ht1, Ht2, Hw⟩, HQ⟩
  imod (slot_take ES (Set.mem_univ (ν (dn d c, d, sl j, h))) (j / 3 + 1) (S := slotFree (F := F) (dn d c, d, sl j, h))) $$ [Hw] with Hd
  · isplitr; · iapply (inv_slot ct κ ν _); iexact HI
    isplitr; · iexact Hrel
    iexact Hw
  unfold slotFree slot
  icases Hd with ⟨%fd, Hd⟩
  simp only [sendP, Prog.lift]
  iapply (Rounds.wp_send_pointsTo 𝒱₀ ER (Rd ct) (c : Thread nD τ) none (κ₁ := κ (c, .send d h)) (κ₂ := κ (dn d c, .recv d (sl j) h))
    (r₁ := j) (r₂ := j / 3) (d₁ := 0) (d₂ := 0) (fd := fd)
    (by rw [duties_cell ct c (.send d h)]; exact send_mem d h j hj)
    (by rw [duties_cell ct (dn d c) (.recv d (sl j) h)]; exact recv_mem d h j hj)
    (2 * j + 2) 0 N (amount_slotV d (sl j) h _) (amount_cell ct c (.send d h) j 0) (amount_cell ct (dn d c) (.recv d (sl j) h) (j / 3) 0)
    O rfl (W := W)
    (by rw [payload_cell ct c (.send d h)]; exact hpay)
    (by
      rw [payload_cell ct (dn d c) (.recv d (sl j) h)]
      refine Entails.of_eq ?_
      show _ = slotAt (dn d c) d (sl j) h fullShare (ct (ow d (dn d c) (3 * (j / 3) + (sl j).val)))
      rw [sl_spec, hread]
      exact pointsTo_congr (write_slotV d (sl j) h _ fd))) $$ [Hsrc Hd Ho Ht1 Ht2]
  · isplitr; · iapply (inv_cell ct κ ν c (.send d h)); iexact HI
    isplitr; · iapply (inv_cell ct κ ν (dn d c) (.recv d (sl j) h)); iexact HI
    isplitl [Hsrc]; · iexact Hsrc
    isplitl [Hd]; · iexact Hd
    isplitl [Ho]; · iexact Ho
    isplitl [Ht1]; · iexact Ht1
    isplitr; · iexact Hrs
    isplitl [Ht2]; · iexact Ht2
    iexact Hrd
  iintro ⟨Hc, Ho⟩
  rw [wp_ret]; imodintro
  iapply HQ
  isplitl [Ho]; · iexists _; iexact Ho
  iexact Hc

/-! ### The credit -/

instance creditPay_persistent (d : Bool) (c : Dev nD) (e : ℕ) : BI.Persistent (creditPay (F := F) d c e) := by
  unfold creditPay; infer_instance

/-- Before hop `s` a device has taken this many credits: which, the waits do not say. -/
def taken (d : Bool) (s : ℕ) : ℕ := min s (hops d - 1) - 2
def creditSt (c : Dev nD) (d : Bool) (s : ℕ) : sProp 𝕄 :=
  iprop(∃ T : Finset ℕ, ⌜T ⊆ Finset.Ico 1 (hops d - 2) ∧ taken d s + (Finset.Ico 1 (hops d - 2) \ T).card ≤ (Finset.Ico 1 (hops d - 2)).card⌝
    ∗ atPos ER (cell c (.credit d)) 0 T (taken d s) ∗ heard (creditPay (F := F) d c) T)

/-- Of `s - 1` different credits one is the `s - 1`st or a later one. -/
theorem exists_late {b s : ℕ} {S : Finset ℕ} (hS : S ⊆ Finset.Ico 1 b) (h : s ≤ S.card) (hs : 1 ≤ s) : ∃ e ∈ S, s ≤ e := by
  by_contra hno
  push Not at hno
  have : S ⊆ Finset.Ico 1 s := fun e he => Finset.mem_Ico.mpr ⟨(Finset.mem_Ico.mp (hS he)).1, hno e he⟩
  have := Finset.card_le_card this
  rw [Nat.card_Ico] at this
  omega

theorem wp_credit (c : Dev nD) (d : Bool) (s : ℕ) (h2 : 2 ≤ s) (hs : s + 1 < hops d) (O : Owed) (hO : OK (2 * s + 1) O) (Q : PUnit → sProp 𝕄) :
    iprop(Inv ct κ ν ∗ cred (tallyAt (cell c (.credit d)) (2 * s + 1) 1) ∗ owesE c O ∗ creditSt (F := F) c d s
      ∗ ((owesE c O ∗ creditSt (F := F) c d (s + 1) ∗ fact (F := F) d c (s + 1)) -∗ Q ⟨⟩))
    ⊢ (WPc c) (semWaitWord (creditS d) 1#32) Q := by
  have h16 : hops d ≤ 16 := by cases d <;> decide
  have ht : taken d s = s - 2 := by unfold taken; omega
  have ht' : taken d (s + 1) = s - 2 + 1 := by unfold taken; omega
  have hd0 : dutiesK (.credit d) 0 = Finset.Ico 1 (hops d - 2) := by unfold dutiesK; dsimp only; rw [if_pos rfl]
  unfold owesE creditSt
  rw [ht, ht']
  iintro ⟨#HI, Hc, ⟨%W, Ho⟩, ⟨%T, %hT, Hat, #HT⟩, HQ⟩
  simp only [semWaitWord]
  iapply (Rounds.wp_wait 𝒱₀ ER (Rd ct) (c : Thread nD τ) none (κ := κ (c, .credit d))
    (wpE_semWait_eq 𝒱₀ (c : Thread nD τ) none Set.univ) (Set.mem_univ _) (cr := Finsupp.single (2 * s + 1) 1) (O := O) (W := W)
    {(semOf (.credit d), 2 * s + 1)} (R := 0) (m := s - 2) (T := T) (by rw [Util.total_single]; rfl) (image_single_subset _ _ _)) $$ [Hc Ho Hat]
  · isplitr; · iapply (inv_cell ct κ ν c (.credit d)); iexact HI
    isplitl [Hc]; · iexact Hc
    isplitl [Ho]; · iexact Ho
    isplitr; · iapply (inv_wait ct κ ν c (.credit d) (2 * s + 1) (by omega) O hO); iexact HI
    iexact Hat
  iintro %S ⟨%hS, Ho, Hat, HS⟩
  rw [duties_cell ct c (.credit d), expect_cell ct c (.credit d), hd0] at hS
  have hcard : s - 1 ≤ S.card := by
    have h1 := Finset.card_sdiff_add_card_eq_card hS.2.1
    have h2 := hS.2.2
    have h3 : (1#32).toNat = 1 := rfl
    rw [show amountK (.credit d) = 1 from rfl, mul_one] at h2
    omega
  obtain ⟨e, heS, hse⟩ := exists_late hS.2.1 hcard (by omega)
  have hpay : bigSep (S \ T) (fun e => (Rd ct).payload (cell c (.credit d)) 0 e) = heard (creditPay (F := F) d c) (S \ T) :=
    bigSep_congr fun e _ => payload_cell ct c (.credit d) 0 e
  ihave #HS := (Entails.of_eq hpay) $$ HS
  ihave #HSS := (heard_union (creditPay (F := F) d c) T (S \ T)) $$ []
  · isplitl [] <;> iassumption
  rw [Finset.union_sdiff_of_subset hS.1]
  ihave #Hf := (heard_elim (creditPay (F := F) d c) heS) $$ HSS
  unfold creditPay
  ihave #Hf := (heard_elim (fun e => fact (F := F) d c (e + 2)) (T := Finset.Icc 1 e) (e := s - 1) (Finset.mem_Icc.mpr ⟨by omega, hse⟩)) $$ Hf
  rw [wp_ret]; imodintro
  iapply HQ
  isplitl [Ho]; · iexists _; iexact Ho
  isplitl [Hat]
  · iexists S
    isplitr
    · ipureintro
      refine ⟨hS.2.1, ?_⟩
      have h2 := hS.2.2
      rw [show amountK (.credit d) = 1 from rfl, mul_one] at h2
      exact h2
    isplitl [Hat]; · iexact Hat
    iexact HSS
  · rw [show s + 1 = s - 1 + 2 from by omega]; iexact Hf

end Cert.KernelIdeal.Hand

end
-- ==== Proof.KernelIdeal.Hop.lean ====
/-
  A hop of a ring: what a device holds before hop `s`, and that hop `s` takes it to what it holds before
  hop `s + 1`.
-/
module

public import proofs.«01_k».proof.Proof.KernelIdeal.Step

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SiteBlocks (L lv)

variable {F : FTy → Type} [FloatOps F]

local notation "𝕄" => MT nD τ sig ℕ (Elt F) ℕ UU ℕ
local notation "KProg" => Prog (TpuEff nD τ sig (Elt F) Λ₀ Proc.tc) PUnit

/-- The weakest precondition of a piece of device `c`'s program. -/
local notation "WPc" c => wp (frame (nD := nD) (τ := τ) (sig := sig) (Val := Elt F) (Ix := ℕ) (Name := ℕ) (U := UU) (Lvl := ℕ)) (wpE (defs₀ (F := F)) 𝒱₀ (c : Thread nD τ) none) Set.univ

variable (ct : Dev nD → FVec F S112x1024 .bf16) (κ : Dev nD × CK → ℕ) (ν : Key → ℕ)

/-! ### What a device holds of one half of one ring before hop `s` -/

/-- The last landed slot: half of it is under way to the next device, unless it was the last hop. -/
def curShare (d : Bool) (s : ℕ) : PosShare TreeShare := if s + 1 < hops d then fullShare.right else fullShare
def cur (c : Dev nD) (d : Bool) (h : Fin 2) : ℕ → sProp 𝕄
  | 0 => cred (tallyAt (cell c (.send d h)) 0 N)
  | s + 1 => iprop(srcAt c h (srcShare d) (ct c) ∗ slotAt c d (sl s) h (curShare d s) (ct (ow d c s))
      ∗ (if s + 1 < hops d then cred (tallyAt (cell c (.send d h)) 0 N) else emp))

/-- The slot before it, whole again when hop `s`'s copy has left. -/
def back (c : Dev nD) (d : Bool) (h : Fin 2) : ℕ → sProp 𝕄
  | 0 => iprop(emp)
  | s + 1 => slotAt c d (sl s) h fullShare (ct (ow d c s))

theorem cur_succ (c : Dev nD) (d : Bool) (h : Fin 2) (s : ℕ) :
    cur ct c d h (s + 1) = iprop(srcAt c h (srcShare d) (ct c) ∗ slotAt c d (sl s) h (curShare d s) (ct (ow d c s))
      ∗ (if s + 1 < hops d then cred (tallyAt (cell c (.send d h)) 0 N) else emp)) := rfl
theorem back_succ (c : Dev nD) (d : Bool) (h : Fin 2) (s : ℕ) :
    back ct c d h (s + 1) = slotAt c d (sl s) h fullShare (ct (ow d c s)) := rfl

theorem bigSep_Ico_emp {a b : ℕ} (h : b ≤ a) (A : ℕ → sProp 𝕄) : bigSep (Finset.Ico a b) A = iprop(emp) := by
  rw [Finset.Ico_eq_empty_of_le h, bigSep_empty]; rfl

def core (c : Dev nD) (d : Bool) (h : Fin 2) (s : ℕ) : sProp 𝕄 :=
  iprop(bigSep (Finset.Ico s (s + 3)) (fun j => atPos ER (cell c (.recv d (sl j) h)) (j / 3) ∅ 0)
    ∗ atPos ER (cell c (.send d h)) s ∅ 0
    ∗ bigSep (Finset.Ico s (hops d)) (fun j => cred (tallyAt (cell c (.recv d (sl j) h)) (2 * j + 2) N))
    ∗ bigSep (Finset.Ico (s + 1) (hops d)) (fun j => sendRes (F := F) c d h j)
    ∗ reached ER (cell c (.recv d (sl (s + 2)) h)) ((s + 2) / 3)
    ∗ cur ct c d h s)

def old (c : Dev nD) (d : Bool) (h : Fin 2) (s : ℕ) : sProp 𝕄 :=
  iprop(bigSep (Finset.Ico (min (s - 1) (hops d - 3)) (min (s - 1) (hops d - 3) + 3)) (fun j => readerAt ES ((c, d, sl j, h) : Key) (j / 3 + 1))
    ∗ bigSep (Finset.Ico (hops d - 3) (s - 1)) (fun j => slotAt c d (sl j) h fullShare (ct (ow d c j))))

omit [FloatOps F] in
theorem slotAt_split (c : Dev nD) (d : Bool) (k : Fin 3) (h : Fin 2) (v : FVec F S112x1024 .bf16) :
    slotAt c d k h fullShare v ⊣⊢ iprop(slotAt c d k h fullShare.left v ∗ slotAt c d k h fullShare.right v) :=
  pointsTo_share (Part.eq_some_iff.mp (PosShare.left_op_right fullShare))

theorem wp_sent_cur (c : Dev nD) (d : Bool) (s : ℕ) (h : Fin 2) (hs : s < hops d) (O : Owed) (hO : OK 0 O) (Q : PUnit → sProp 𝕄) :
    iprop(Inv ct κ ν ∗ cur ct c d h s ∗ owesE c O ∗ atPos ER (cell c (.send d h)) s ∅ 0
      ∗ ((owesE c O ∗ atPos ER (cell c (.send d h)) (s + 1) ∅ 0 ∗ reached ER (cell c (.send d h)) (s + 1)
          ∗ srcAt c h (srcShare d) (ct c) ∗ back ct c d h s) -∗ Q ⟨⟩))
    ⊢ (WPc c) (sentP d s h) Q := by
  cases s with
  | zero =>
    rw [show cur ct c d h 0 = cred (tallyAt (cell c (.send d h)) 0 N) from rfl]
    iintro ⟨#HI, Hc, Ho, Hat, HQ⟩
    iapply (wp_sent ct κ ν c d 0 h hs O hO)
    isplitr; · iexact HI
    isplitl [Hc]; · iexact Hc
    isplitl [Ho]; · iexact Ho
    isplitl [Hat]; · iexact Hat
    iintro ⟨Ho, Hat, Hr, Hp⟩
    iapply HQ
    isplitl [Ho]; · iexact Ho
    isplitl [Hat]; · iexact Hat
    isplitl [Hr]; · iexact Hr
    isplitl [Hp]; · iapply (Entails.of_eq (show sendPay ct d h c 0 = srcAt c h (srcShare d) (ct c) from rfl)); iexact Hp
    iapply (show (emp : sProp 𝕄) ⊢ back ct c d h 0 from BI.Entails.refl _)
    iempintro
  | succ s =>
    rw [cur_succ, back_succ]
    unfold curShare
    rw [if_pos hs, if_pos hs]
    iintro ⟨#HI, ⟨Hsrc, Hsl, Hc⟩, Ho, Hat, HQ⟩
    iapply (wp_sent ct κ ν c d (s + 1) h hs O hO)
    isplitr; · iexact HI
    isplitl [Hc]; · iexact Hc
    isplitl [Ho]; · iexact Ho
    isplitl [Hat]; · iexact Hat
    iintro ⟨Ho, Hat, Hr, Hp⟩
    iapply HQ
    isplitl [Ho]; · iexact Ho
    isplitl [Hat]; · iexact Hat
    isplitl [Hr]; · iexact Hr
    isplitl [Hsrc]; · iexact Hsrc
    unfold sendPay
    iapply (slotAt_split c d (sl s) h (ct (ow d c s))).2
    isplitl [Hp] <;> iassumption

/-- One half of hop `s`, of a hop that is passed on. `A` is turned into `B` by what may stand between the
    landing and the copy. -/
theorem wp_half_mid (c n : Dev nD) (d : Bool) (hn : n = dn d c) (s : ℕ) (h : Fin 2) (hs : s + 1 < hops d) (O : Owed) (hO : OK (2 * s + 2) O)
    (A B : sProp 𝕄)
    (hmid : ∀ (O : Owed) (_ : OK (2 * s + 2) O) (Q : PUnit → sProp 𝕄), iprop(Inv ct κ ν ∗ owesE c O ∗ A ∗ ((owesE c O ∗ B ∗ factH (F := F) d c (s + 1) h) -∗ Q ⟨⟩))
      ⊢ (WPc c) (creditP d s h) Q)
    (Q : PUnit → sProp 𝕄) :
    iprop(Inv ct κ ν ∗ core ct c d h s ∗ owesE c (O + tallyAt (cell (dn d c) (.recv d (sl (s + 1)) h)) (2 * (s + 1) + 2) N) ∗ A
      ∗ ((core ct c d h (s + 1) ∗ back ct c d h s ∗ owesE c O ∗ B) -∗ Q ⟨⟩))
    ⊢ (WPc c) (halfP d s h n) Q := by
  have h16 : hops d ≤ 16 := by cases d <;> decide
  have hO' : OK (2 * s + 2) (O + tallyAt (cell (dn d c) (.recv d (sl (s + 1)) h)) (2 * (s + 1) + 2) N) :=
    OK_add hO (OK_tally _ _ (by omega) (by omega))
  unfold core halfP
  rw [if_pos hs, bigSep_Ico_succ_bot (show s < s + 3 by omega), bigSep_Ico_succ_bot (show s < hops d by omega),
    bigSep_Ico_succ_bot hs (fun j => sendRes (F := F) c d h j), show s + 1 + 3 = (s + 3) + 1 from rfl, bigSep_Ico_succ_top (show s + 1 ≤ s + 3 by omega),
    show s + 1 + 2 = s + 3 from rfl]
  simp only [wp_bind]
  iintro ⟨#HI, ⟨⟨HatR, HatRs⟩, HatS, ⟨Hc, Hcs⟩, ⟨Hsr, Hsrs⟩, -, Hcur⟩, Ho, HA, HQ⟩
  iapply (wp_recv ct κ ν c d s h (by omega) _ hO')
  isplitr; · iexact HI
  isplitl [Hc]; · iexact Hc
  isplitl [Ho]; · iexact Ho
  isplitl [HatR]; · iexact HatR
  iintro ⟨Ho, HatR, #Hr, Hsl⟩
  iapply (hmid _ hO')
  isplitr; · iexact HI
  isplitl [Ho]; · iexact Ho
  isplitl [HA]; · iexact HA
  iintro ⟨Ho, HB, #Hf⟩
  iapply (wp_sent_cur ct κ ν c d s h (by omega) _ (OK_mono hO' (Nat.zero_le _)))
  isplitr; · iexact HI
  isplitl [Hcur]; · iexact Hcur
  isplitl [Ho]; · iexact Ho
  isplitl [HatS]; · iexact HatS
  iintro ⟨Ho, HatS, #HrS, Hsrc, Hback⟩
  ihave Hsl := (slotAt_split c d (sl s) h (ct (ow d c s))).1 $$ Hsl
  icases Hsl with ⟨Hl, Hrt⟩
  ihave Hl := (Entails.of_eq (show slotAt c d (sl s) h fullShare.left (ct (ow d c s)) = ((slotV d (sl s) h).view.loc (c : Thread nD τ)
    ↦[(slotV d (sl s) h).view.set]{fullShare.left} (rep d (ct (ow d c s)))) from rfl)) $$ Hl
  iapply (wp_copy ct κ ν c n d hn h (s + 1) hs (slotV d (sl s) h) (slotV_words d (sl s) h) fullShare.left (rep d (ct (ow d c s)))
    (by rw [ow_succ]; exact read_slotV d (sl s) h _) (BI.Entails.refl _) O)
  isplitr; · iexact HI
  isplitr; · iexact Hf
  isplitl [Hl]; · iexact Hl
  isplitl [Ho]; · iexact Ho
  isplitr; · iexact HrS
  isplitl [Hsr]; · iexact Hsr
  iintro ⟨Ho, Hc⟩
  iapply HQ
  isplitr [Hback Ho HB]
  · isplitl [HatR HatRs]; · (isplitl [HatR] <;> iassumption)
    isplitl [HatS]; · iexact HatS
    isplitl [Hcs]; · iexact Hcs
    isplitl [Hsrs]; · iexact Hsrs
    isplitr; · iexact Hr
    rw [cur_succ]
    unfold curShare
    rw [if_pos hs, if_pos hs]
    isplitl [Hsrc]; · iexact Hsrc
    isplitl [Hrt] <;> iassumption
  isplitl [Hback]; · iexact Hback
  isplitl [Ho] <;> iassumption

/-- One half of the last hop. -/
theorem wp_half_last (c n : Dev nD) (d : Bool) (s : ℕ) (h : Fin 2) (hs : s + 1 = hops d) (O : Owed) (hO : OK (2 * s + 2) O) (Q : PUnit → sProp 𝕄) :
    iprop(Inv ct κ ν ∗ core ct c d h s ∗ owesE c O
      ∗ ((core ct c d h (s + 1) ∗ back ct c d h s ∗ owesE c O) -∗ Q ⟨⟩))
    ⊢ (WPc c) (halfP d s h n) Q := by
  unfold core halfP
  rw [if_neg (show ¬ s + 1 < hops d by omega), bigSep_Ico_succ_bot (show s < s + 3 by omega), bigSep_Ico_succ_bot (show s < hops d by omega),
    bigSep_Ico_emp (show hops d ≤ s + 1 + 1 by omega), show s + 1 + 3 = (s + 3) + 1 from rfl, bigSep_Ico_succ_top (show s + 1 ≤ s + 3 by omega),
    show s + 1 + 2 = s + 3 from rfl]
  simp only [wp_bind]
  iintro ⟨#HI, ⟨⟨HatR, HatRs⟩, HatS, ⟨Hc, Hcs⟩, -, -, Hcur⟩, Ho, HQ⟩
  iapply (wp_recv ct κ ν c d s h (by omega) _ hO)
  isplitr; · iexact HI
  isplitl [Hc]; · iexact Hc
  isplitl [Ho]; · iexact Ho
  isplitl [HatR]; · iexact HatR
  iintro ⟨Ho, HatR, #Hr, Hsl⟩
  iapply (wp_sent_cur ct κ ν c d s h (by omega) _ (OK_mono hO (Nat.zero_le _)))
  isplitr; · iexact HI
  isplitl [Hcur]; · iexact Hcur
  isplitl [Ho]; · iexact Ho
  isplitl [HatS]; · iexact HatS
  iintro ⟨Ho, HatS, #HrS, Hsrc, Hback⟩
  iapply HQ
  isplitr [Hback Ho]
  · isplitl [HatR HatRs]; · (isplitl [HatR] <;> iassumption)
    isplitl [HatS]; · iexact HatS
    isplitl [Hcs]; · iexact Hcs
    isplitr; · iempintro
    isplitr; · iexact Hr
    rw [cur_succ]
    unfold curShare
    rw [if_neg (show ¬ s + 1 < hops d by omega), if_neg (show ¬ s + 1 < hops d by omega)]
    isplitl [Hsrc]; · iexact Hsrc
    isplitl [Hsl]; · iexact Hsl
    iempintro
  isplitl [Hback] <;> iassumption

/-! ### After both halves: the slot before is given back, or kept -/

/-- A hop that frees its slot: it is given back, and the device before may know. -/
theorem old_release (c : Dev nD) (d : Bool) (s : ℕ) (h : Fin 2) (h1 : 1 ≤ s) (h2 : s + 2 < hops d) :
    iprop(Inv ct κ ν ∗ old ct c d h s ∗ back ct c d h s ∗ reached ER (cell c (.recv d (sl (s + 2)) h)) ((s + 2) / 3))
      ⊢ |={Set.univ}=> iprop(old ct c d h (s + 1) ∗ factH (F := F) d (up d c) (s + 2) h) := by
  obtain ⟨s, rfl⟩ : ∃ s', s = s' + 1 := ⟨s - 1, by omega⟩
  rw [back_succ]
  unfold old factH
  rw [show s + 1 + 1 - 1 = s + 1 from rfl, show s + 1 - 1 = s from rfl, Nat.min_eq_left (show s ≤ hops d - 3 by omega),
    Nat.min_eq_left (show s + 1 ≤ hops d - 3 by omega), bigSep_Ico_succ_bot (show s < s + 3 by omega), show s + 1 + 3 = (s + 3) + 1 from rfl,
    bigSep_Ico_succ_top (show s + 1 ≤ s + 3 by omega), show s + 1 + 2 = s + 3 from rfl,
    bigSep_Ico_emp (show s ≤ hops d - 3 by omega), bigSep_Ico_emp (show s + 1 ≤ hops d - 3 by omega), dn_up, sl_add3, div_add3]
  iintro ⟨#HI, ⟨⟨Hr, Hrs⟩, -⟩, Hb, #Hrd⟩
  imod (slot_release ES (Set.mem_univ (ν (c, d, sl s, h))) (S := slotFree (F := F) (c, d, sl s, h))
    (slot_slot_false (slotV_nonempty d (sl s) h)) (s / 3 + 1)) $$ [Hr Hb] with ⟨Hr, #Hrel⟩
  · isplitr; · iapply (inv_slot ct κ ν _); iexact HI
    isplitl [Hr]; · iexact Hr
    unfold slotFree slot slotAt
    iexists _; iexact Hb
  imodintro
  isplitl [Hr Hrs]
  · isplitl [Hr Hrs]; · (isplitl [Hr] <;> iassumption)
    iempintro
  isplitr <;> iassumption

/-- A hop that does not: the slot is kept. -/
theorem old_keep (c : Dev nD) (d : Bool) (s : ℕ) (h : Fin 2) (h1 : ¬ (1 ≤ s ∧ s + 2 < hops d)) :
    iprop(old ct c d h s ∗ back ct c d h s) ⊢ old ct c d h (s + 1) := by
  have h15 : 15 ≤ hops d := by cases d <;> decide
  cases s with
  | zero =>
    unfold old
    iintro ⟨H, -⟩
    iexact H
  | succ s =>
    rw [back_succ]
    unfold old
    rw [show s + 1 + 1 - 1 = s + 1 from rfl, show s + 1 - 1 = s from rfl, Nat.min_eq_right (show hops d - 3 ≤ s by omega),
      Nat.min_eq_right (show hops d - 3 ≤ s + 1 by omega), bigSep_Ico_succ_top (show hops d - 3 ≤ s by omega)]
    iintro ⟨⟨Hr, Hk⟩, Hb⟩
    isplitl [Hr]; · iexact Hr
    isplitl [Hb] <;> iassumption

/-! ### The credits of a ring -/

/-- What is left to hear: which credits have come, what the ones to come promise, and the handshake's facts. -/
def crd (c : Dev nD) (d : Bool) (s : ℕ) : sProp 𝕄 :=
  iprop(creditSt (F := F) c d s
    ∗ bigSep (Finset.Ico (max 1 (s - 1)) (hops d - 2)) (fun e => cred (tallyAt (cell c (.credit d)) (2 * e + 3) 1))
    ∗ heard (fun j => fact (F := F) d c j) (Finset.range 3))

/-- What is left to say to the device before. -/
def say (c : Dev nD) (d : Bool) (s : ℕ) : sProp 𝕄 :=
  iprop(bigSep (Finset.Ico (max 1 s) (hops d - 2)) (fun e => dutyTok ER (cell (up d c) (.credit d)) 0 e)
    ∗ reached ER (cell (up d c) (.credit d)) 0
    ∗ heard (fun e => fact (F := F) d (up d c) (e + 2)) (Finset.Icc 1 (min s (hops d - 2) - 1)))

def owS (c : Dev nD) (d : Bool) (s : ℕ) : Owed :=
  ∑ j ∈ Finset.Ico s (hops d), (tallyAt (cell (dn d c) (.recv d (sl j) 0)) (2 * j + 2) N + tallyAt (cell (dn d c) (.recv d (sl j) 1)) (2 * j + 2) N)
def owC (c : Dev nD) (d : Bool) (s : ℕ) : Owed :=
  ∑ e ∈ Finset.Ico (max 1 s) (hops d - 2), tallyAt (cell (up d c) (.credit d)) (2 * e + 3) 1

theorem sum_Ico_bot {M : Type} [AddCommMonoid M] {a b : ℕ} (h : a < b) (f : ℕ → M) :
    ∑ i ∈ Finset.Ico a b, f i = f a + ∑ i ∈ Finset.Ico (a + 1) b, f i := by
  rw [show Finset.Ico a b = insert a (Finset.Ico (a + 1) b) by ext x; simp only [Finset.mem_Ico, Finset.mem_insert]; omega,
    Finset.sum_insert (by rw [Finset.mem_Ico]; omega)]

theorem hops_le (d : Bool) : hops d ≤ 16 := by cases d <;> decide
theorem hops_ge (d : Bool) : 15 ≤ hops d := by cases d <;> decide

theorem OK_owS (c : Dev nD) (d : Bool) (s b : ℕ) (hb : b < 2 * s + 2) : OK b (owS c d s) := by
  have := hops_le d
  exact OK_sum _ _ fun j hj => by
    have := Finset.mem_Ico.mp hj
    exact OK_add (OK_tally _ _ (by omega) (by omega)) (OK_tally _ _ (by omega) (by omega))
theorem OK_owC (c : Dev nD) (d : Bool) (s b : ℕ) (hb : b < 2 * s + 3) : OK b (owC c d s) := by
  have := hops_le d
  exact OK_sum _ _ fun e he => by
    have := Finset.mem_Ico.mp he
    exact OK_tally _ _ (by omega) (by omega)

/-- What a hop is passed on with, before and after its credit. -/
theorem wp_mid (c : Dev nD) (d : Bool) (s : ℕ) (hs : s + 1 < hops d) (O : Owed) (hO : OK (2 * s + 2) O) (Q : PUnit → sProp 𝕄) :
    iprop(Inv ct κ ν ∗ owesE c O ∗ crd (F := F) c d s
      ∗ ((owesE c O ∗ (crd (F := F) c d (s + 1) ∗ fact (F := F) d c (s + 1)) ∗ factH (F := F) d c (s + 1) 0) -∗ Q ⟨⟩))
      ⊢ (WPc c) (creditP d s 0) Q := by
  have h15 := hops_ge d
  unfold crd
  by_cases h2 : 2 ≤ s
  · rw [show creditP (F := F) d s 0 = semWaitWord (creditS d) 1#32 from if_pos ⟨rfl, h2⟩, show max 1 (s - 1) = s - 1 by omega,
      show max 1 (s + 1 - 1) = s - 1 + 1 by omega, bigSep_Ico_succ_bot (show s - 1 < hops d - 2 by omega), show 2 * (s - 1) + 3 = 2 * s + 1 by omega]
    iintro ⟨#HI, Ho, ⟨Hst, ⟨Hc, Hcs⟩, #Hh⟩, HQ⟩
    iapply (wp_credit ct κ ν c d s h2 hs O (OK_mono hO (by omega)))
    isplitr; · iexact HI
    isplitl [Hc]; · iexact Hc
    isplitl [Ho]; · iexact Ho
    isplitl [Hst]; · iexact Hst
    iintro ⟨Ho, Hst, #Hf⟩
    iapply HQ
    isplitl [Ho]; · iexact Ho
    isplitl [Hst Hcs]
    · isplitl [Hst Hcs]
      · isplitl [Hst]; · iexact Hst
        isplitl [Hcs]; · iexact Hcs
        iexact Hh
      · iexact Hf
    · unfold fact
      icases Hf with ⟨H0, -⟩
      iexact H0
  · rw [show creditP (F := F) d s 0 = pure ⟨⟩ from if_neg (fun h => h2 h.2), Prog.pure_eq_ret, wp_ret, show max 1 (s - 1) = 1 by omega,
      show max 1 (s + 1 - 1) = 1 by omega,
      show creditSt (F := F) c d (s + 1) = creditSt c d s from by
        unfold creditSt; rw [show taken d (s + 1) = taken d s by unfold taken; omega]]
    iintro ⟨#HI, Ho, ⟨Hst, Hcs, #Hh⟩, HQ⟩
    ihave #Hf := (heard_elim (fun j => fact (F := F) d c j) (Finset.mem_range.mpr (show s + 1 < 3 by omega))) $$ Hh
    imodintro
    iapply HQ
    isplitl [Ho]; · iexact Ho
    isplitl [Hst Hcs]
    · isplitl [Hst Hcs]
      · isplitl [Hst]; · iexact Hst
        isplitl [Hcs]; · iexact Hcs
        iexact Hh
      · iexact Hf
    · unfold fact
      icases Hf with ⟨H0, -⟩
      iexact H0

theorem wp_mid' (c : Dev nD) (d : Bool) (s : ℕ) (O : Owed) (Q : PUnit → sProp 𝕄) :
    iprop(Inv ct κ ν ∗ owesE c O ∗ fact (F := F) d c (s + 1)
      ∗ ((owesE c O ∗ emp ∗ factH (F := F) d c (s + 1) 1) -∗ Q ⟨⟩))
      ⊢ (WPc c) (creditP d s 1) Q := by
  rw [show creditP (F := F) d s 1 = pure ⟨⟩ from if_neg (fun h => absurd h.1 (by decide)), Prog.pure_eq_ret, wp_ret]
  iintro ⟨-, Ho, Hf, HQ⟩
  imodintro
  iapply HQ
  isplitl [Ho]; · iexact Ho
  isplitr; · iempintro
  unfold fact
  icases Hf with ⟨-, H0⟩
  iexact H0

theorem core_reached (c : Dev nD) (d : Bool) (h : Fin 2) (s : ℕ) :
    core ct c d h s ⊢ iprop(core ct c d h s ∗ reached ER (cell c (.recv d (sl (s + 2)) h)) ((s + 2) / 3)) := by
  unfold core
  iintro ⟨H1, H2, H3, H4, #H5, H6⟩
  isplitl
  · isplitl [H1]; · iexact H1
    isplitl [H2]; · iexact H2
    isplitl [H3]; · iexact H3
    isplitl [H4]; · iexact H4
    isplitr; · iexact H5
    iexact H6
  · iexact H5

abbrev tailP (d : Bool) (s : ℕ) (u : Dev nD) : KProg := if 1 ≤ s ∧ s + 2 < hops d then semSignalWord u (creditS d) 1#32 else pure ⟨⟩

/-- The end of a hop: the slot before is given back and the device before is told, or the slot is kept. -/
theorem wp_tail (c u : Dev nD) (d : Bool) (hu : u = up d c) (s : ℕ) (O : Owed) (Q : PUnit → sProp 𝕄) :
    iprop(Inv ct κ ν ∗ old ct c d 0 s ∗ old ct c d 1 s ∗ back ct c d 0 s ∗ back ct c d 1 s
      ∗ reached ER (cell c (.recv d (sl (s + 2)) 0)) ((s + 2) / 3) ∗ reached ER (cell c (.recv d (sl (s + 2)) 1)) ((s + 2) / 3)
      ∗ say (F := F) c d s ∗ owesE c (O + owC c d s)
      ∗ ((old ct c d 0 (s + 1) ∗ old ct c d 1 (s + 1) ∗ say (F := F) c d (s + 1) ∗ owesE c (O + owC c d (s + 1))) -∗ Q ⟨⟩))
      ⊢ (WPc c) (tailP d s u) Q := by
  subst hu
  have h15 := hops_ge d
  by_cases h : 1 ≤ s ∧ s + 2 < hops d
  · rw [show tailP (F := F) d s (up d c) = semSignalWord (up d c) (creditS d) 1#32 from if_pos h]
    obtain ⟨h1, h2⟩ := h
    have hC : owC c d s = owC c d (s + 1) + tallyAt (cell (up d c) (.credit d)) (2 * s + 3) 1 := by
      unfold owC
      rw [show max 1 s = s by omega, show max 1 (s + 1) = s + 1 by omega, sum_Ico_bot (show s < hops d - 2 by omega), add_comm]
    have hU : Finset.Icc 1 (min s (hops d - 2) - 1) ∪ {s} = Finset.Icc 1 s := by
      ext e; simp only [Finset.mem_union, Finset.mem_Icc, Finset.mem_singleton]; omega
    unfold say owesE
    rw [show max 1 s = s by omega, show max 1 (s + 1) = s + 1 by omega, bigSep_Ico_succ_bot (show s < hops d - 2 by omega),
      show min (s + 1) (hops d - 2) - 1 = s by omega]
    iintro ⟨#HI, Hold0, Hold1, Hb0, Hb1, #Hr0, #Hr1, ⟨⟨Ht, Hts⟩, #Hrc, #Hh⟩, ⟨%W, Ho⟩, HQ⟩
    imod (old_release ct κ ν c d s 0 h1 h2) $$ [Hold0 Hb0] with ⟨Hold0, #Hf0⟩
    · isplitr; · iexact HI
      isplitl [Hold0]; · iexact Hold0
      isplitl [Hb0]; · iexact Hb0
      iexact Hr0
    imod (old_release ct κ ν c d s 1 h1 h2) $$ [Hold1 Hb1] with ⟨Hold1, #Hf1⟩
    · isplitr; · iexact HI
      isplitl [Hold1]; · iexact Hold1
      isplitl [Hb1]; · iexact Hb1
      iexact Hr1
    ihave #Hnew := (heard_single (fun e => fact (F := F) d (up d c) (e + 2)) s) $$ []
    · unfold fact; isplitr <;> iassumption
    ihave #Hall := (heard_union (fun e => fact (F := F) d (up d c) (e + 2)) _ _) $$ []
    · isplitr
      · iexact Hh
      · iexact Hnew
    rw [hU]
    simp only [semSignalWord]
    iapply (Rounds.wp_signal 𝒱₀ ER (Rd ct) (c : Thread nD τ) none (dst := (up d c : Thread nD τ)) (κ := κ (up d c, .credit d)) (r := 0)
      (d := s) (by
        rw [duties_cell ct (up d c) (.credit d)]; unfold dutiesK; dsimp only
        rw [if_pos rfl]; exact Finset.mem_Ico.mpr ⟨h1, by omega⟩) ((amount_cell ct (up d c) (.credit d) 0 s).trans rfl) (2 * s + 3) (O₀ := O + owC c d s) (O + owC c d (s + 1))
        (by rw [hC, ← add_assoc]; rfl)) $$ [Ho Ht]
    · isplitr; · iapply (inv_cell ct κ ν (up d c) (.credit d)); iexact HI
      isplitl [Ho]; · iexact Ho
      isplitl [Ht]; · iexact Ht
      isplitr
      · rw [payload_cell ct (up d c) (.credit d)]
        iapply (Entails.of_eq (show heard (fun e => fact (F := F) d (up d c) (e + 2)) (Finset.Icc 1 s) = payK ct (up d c) (.credit d) 0 s from rfl))
        iexact Hall
      iexact Hrc
    iintro Ho
    rw [wp_ret]; imodintro
    iapply HQ
    isplitl [Hold0]; · iexact Hold0
    isplitl [Hold1]; · iexact Hold1
    isplitl [Hts]
    · isplitl [Hts]; · iexact Hts
      isplitr; · iexact Hrc
      iexact Hall
    iexists _; iexact Ho
  · rw [show tailP (F := F) d s (up d c) = pure ⟨⟩ from if_neg h, Prog.pure_eq_ret, wp_ret]
    have hI : Finset.Ico (max 1 (s + 1)) (hops d - 2) = Finset.Ico (max 1 s) (hops d - 2) := by
      ext e; simp only [Finset.mem_Ico]; omega
    unfold say owC
    rw [hI, show min (s + 1) (hops d - 2) - 1 = min s (hops d - 2) - 1 by omega]
    iintro ⟨#HI, Hold0, Hold1, Hb0, Hb1, -, -, Hs, Ho, HQ⟩
    imodintro
    iapply HQ
    isplitl [Hold0 Hb0]
    · iapply (old_keep ct c d s 0 h); isplitl [Hold0] <;> iassumption
    isplitl [Hold1 Hb1]
    · iapply (old_keep ct c d s 1 h); isplitl [Hold1] <;> iassumption
    isplitl [Hs] <;> iassumption

/-! ### A hop -/

/-- What a device holds of one ring before hop `s`. -/
def ringSt (c : Dev nD) (d : Bool) (s : ℕ) : sProp 𝕄 :=
  iprop(core ct c d 0 s ∗ core ct c d 1 s ∗ old ct c d 0 s ∗ old ct c d 1 s ∗ crd (F := F) c d s ∗ say (F := F) c d s)

theorem wp_hop (c n u : Dev nD) (d : Bool) (hn : n = dn d c) (hu : u = up d c) (s : ℕ) (hs : s < hops d) (R : Owed) (hR : OK (2 * s + 2) R)
    (Q : PUnit → sProp 𝕄) :
    iprop(Inv ct κ ν ∗ ringSt ct c d s ∗ owesE c (R + owS c d (s + 1) + owC c d s)
      ∗ ((ringSt ct c d (s + 1) ∗ owesE c (R + owS c d (s + 2) + owC c d (s + 1))) -∗ Q ⟨⟩))
      ⊢ (WPc c) (hopP d s n u) Q := by
  have hC : OK (2 * s + 2) (owC c d s) := OK_owC c d s _ (by omega)
  have hS : OK (2 * s + 2) (owS c d (s + 2)) := OK_owS c d _ _ (by omega)
  have h16 := hops_le d
  unfold ringSt hopP
  simp only [wp_bind]
  iintro ⟨#HI, ⟨Hc0, Hc1, Hold0, Hold1, Hcrd, Hsay⟩, Ho, HQ⟩
  ihave Hc0 := (core_reached ct c d 0 s) $$ Hc0
  icases Hc0 with ⟨Hc0, #Hr0⟩
  ihave Hc1 := (core_reached ct c d 1 s) $$ Hc1
  icases Hc1 with ⟨Hc1, #Hr1⟩
  by_cases h : s + 1 < hops d
  · have hO : R + owS c d (s + 1) + owC c d s
        = ((R + owS c d (s + 2) + owC c d s) + tallyAt (cell (dn d c) (.recv d (sl (s + 1)) 1)) (2 * (s + 1) + 2) N)
          + tallyAt (cell (dn d c) (.recv d (sl (s + 1)) 0)) (2 * (s + 1) + 2) N := by
      unfold owS; rw [sum_Ico_bot h]; abel
    rw [hO]
    have hO2 := OK_add (OK_add hR hS) hC
    have hO1 : OK (2 * s + 2) ((R + owS c d (s + 2) + owC c d s) + tallyAt (cell (dn d c) (.recv d (sl (s + 1)) 1)) (2 * (s + 1) + 2) N) :=
      OK_add hO2 (OK_tally _ _ (by omega) (by omega))
    iapply (wp_half_mid ct κ ν c n d hn s 0 h _ hO1 (crd (F := F) c d s)
      iprop(crd (F := F) c d (s + 1) ∗ fact (F := F) d c (s + 1)) (fun O hO Q => wp_mid ct κ ν c d s h O hO Q))
    isplitr; · iexact HI
    isplitl [Hc0]; · iexact Hc0
    isplitl [Ho]; · iexact Ho
    isplitl [Hcrd]; · iexact Hcrd
    iintro ⟨Hc0, Hb0, Ho, Hcrd, #Hf⟩
    iapply (wp_half_mid ct κ ν c n d hn s 1 h _ hO2 (fact (F := F) d c (s + 1))
      iprop(emp) (fun O hO Q => wp_mid' ct κ ν c d s O Q))
    isplitr; · iexact HI
    isplitl [Hc1]; · iexact Hc1
    isplitl [Ho]; · iexact Ho
    isplitr; · iexact Hf
    iintro ⟨Hc1, Hb1, Ho, -⟩
    iapply (wp_tail ct κ ν c u d hu s)
    isplitr; · iexact HI
    isplitl [Hold0]; · iexact Hold0
    isplitl [Hold1]; · iexact Hold1
    isplitl [Hb0]; · iexact Hb0
    isplitl [Hb1]; · iexact Hb1
    isplitr; · iexact Hr0
    isplitr; · iexact Hr1
    isplitl [Hsay]; · iexact Hsay
    isplitl [Ho]; · iexact Ho
    iintro ⟨Hold0, Hold1, Hsay, Ho⟩
    iapply HQ
    isplitr [Ho]
    · isplitl [Hc0]; · iexact Hc0
      isplitl [Hc1]; · iexact Hc1
      isplitl [Hold0]; · iexact Hold0
      isplitl [Hold1]; · iexact Hold1
      isplitl [Hcrd] <;> iassumption
    iexact Ho
  · have hl : s + 1 = hops d := by omega
    have h15 := hops_ge d
    have hz : ∀ t, s + 1 ≤ t → owS c d t = 0 := fun t ht => by unfold owS; rw [Finset.Ico_eq_empty_of_le (by omega)]; rfl
    rw [hz (s + 1) (le_refl _), hz (s + 2) (by omega)]
    have hO2 := OK_add (OK_add hR (OK_zero _)) hC
    have hcrd : crd (F := F) c d (s + 1) = crd c d s := by
      unfold crd creditSt
      rw [show taken d (s + 1) = taken d s by unfold taken; omega, show Finset.Ico (max 1 (s + 1 - 1)) (hops d - 2) = Finset.Ico (max 1 (s - 1)) (hops d - 2) by
        ext e; simp only [Finset.mem_Ico]; omega]
    rw [hcrd]
    iapply (wp_half_last ct κ ν c n d s 0 hl _ hO2)
    isplitr; · iexact HI
    isplitl [Hc0]; · iexact Hc0
    isplitl [Ho]; · iexact Ho
    iintro ⟨Hc0, Hb0, Ho⟩
    iapply (wp_half_last ct κ ν c n d s 1 hl _ hO2)
    isplitr; · iexact HI
    isplitl [Hc1]; · iexact Hc1
    isplitl [Ho]; · iexact Ho
    iintro ⟨Hc1, Hb1, Ho⟩
    iapply (wp_tail ct κ ν c u d hu s)
    isplitr; · iexact HI
    isplitl [Hold0]; · iexact Hold0
    isplitl [Hold1]; · iexact Hold1
    isplitl [Hb0]; · iexact Hb0
    isplitl [Hb1]; · iexact Hb1
    isplitr; · iexact Hr0
    isplitr; · iexact Hr1
    isplitl [Hsay]; · iexact Hsay
    isplitl [Ho]; · iexact Ho
    iintro ⟨Hold0, Hold1, Hsay, Ho⟩
    iapply HQ
    isplitr [Ho]
    · isplitl [Hc0]; · iexact Hc0
      isplitl [Hc1]; · iexact Hc1
      isplitl [Hold0]; · iexact Hold0
      isplitl [Hold1]; · iexact Hold1
      isplitl [Hcrd] <;> iassumption
    iexact Ho

end Cert.KernelIdeal.Hand

end
-- ==== Proof.KernelIdeal.Steps.lean ====
/-
  The steps of the two rings: what a step keeps of what has landed, what it adds to the result, and all
  sixteen of them in a row.
-/
module

public import proofs.«01_k».proof.Proof.KernelIdeal.Hop

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SiteBlocks (L lv)

variable {F : FTy → Type} [FloatOps F]

local notation "𝕄" => MT nD τ sig ℕ (Elt F) ℕ UU ℕ
local notation "KProg" => Prog (TpuEff nD τ sig (Elt F) Λ₀ Proc.tc) PUnit

/-- The weakest precondition of a piece of device `c`'s program. -/
local notation "WPc" c => wp (frame (nD := nD) (τ := τ) (sig := sig) (Val := Elt F) (Ix := ℕ) (Name := ℕ) (U := UU) (Lvl := ℕ)) (wpE (defs₀ (F := F)) 𝒱₀ (c : Thread nD τ) none) Set.univ

variable (ct : Dev nD → FVec F S112x1024 .bf16) (κ : Dev nD × CK → ℕ) (ν : Key → ℕ)

/-! ### The gathered buffer -/

/-- Whose contribution block `b` of the gathered buffer is. -/
def srcOf (c : Dev nD) (b : ℕ) : Dev nD :=
  if b = 31 then c else if b % 2 = 0 then ow true c (b / 2) else ow false c (b / 2)

def at2G (a : Fin 3584) (b : Fin 1024) : S3584x1024.Idx := Fin.cons a (Fin.cons b fun i => i.elim0)

/-- The gathered buffer when all have landed. -/
def gath (c : Dev nD) : FVec F S3584x1024 .bf16 :=
  fun i => ct (srcOf c ((i 0).val / 112)) (at2 ⟨(i 0).val % 112, Nat.mod_lt _ (by decide)⟩ (i 1))

/-- Group `g` of its rows. -/
def grpV (c : Dev nD) (g : Fin 4) : FVec F S896x1024 .bf16 :=
  fun j => gath ct c (at2G ⟨g.val * 896 + (j 0).val, by
    have h1 := g.isLt; have h2 : (j 0).val < 896 := (j 0).isLt; omega⟩ (j 1))

/-- `f` is right on the blocks before step `s`. -/
def agree (c : Dev nD) (s : ℕ) (f : FVec F S3584x1024 .bf16) : Prop :=
  ∀ i : S3584x1024.Idx, ((i 0).val / 112 = 31 ∨ (i 0).val / 112 < s) → f i = gath ct c i

abbrev rowR (b : Fin 32) : Rect S3584x1024 := Rect.unit (s := S3584x1024) ![b.val * 112, 0] S112x1024.size (inbRow b)

/-- Block `b` written over with `w`. -/
def putRow (b : Fin 32) (f : FVec F S3584x1024 .bf16) (w : FVec F S112x1024 .bf16) : FVec F S3584x1024 .bf16 :=
  ((gM : Memref sig .tc .vmem S3584x1024 .bf16).access (rowR b)).write (Elt F) f w Finset.univ

theorem write_row (b : Fin 32) (f : FVec F S3584x1024 .bf16) (w : FVec F S112x1024 .bf16) (i : S3584x1024.Idx) :
    putRow b f w i
      = if (i 0).val / 112 = b.val then w (at2 ⟨(i 0).val % 112, Nat.mod_lt _ (by decide)⟩ (i 1)) else f i := by
  unfold putRow
  split
  · rename_i h
    have he : ((gM : Memref sig .tc .vmem S3584x1024 .bf16).access (rowR b)).emb
        (at2 ⟨(i 0).val % 112, Nat.mod_lt _ (by decide)⟩ (i 1) : S112x1024.Idx) = i := by
      funext a
      refine Fin.ext ((ValueKit.view_emb_slice_whole_unit_val cc0_scratch0 _ _ _ _ a).trans ?_)
      fin_cases a
      · show b.val * 112 + (i 0).val % 112 = (i 0).val
        omega
      · exact Nat.zero_add _
    have := View.write_emb_of_mem (v := (gM : Memref sig .tc .vmem S3584x1024 .bf16).access (rowR b)) (Val := Elt F) f w
      (h := Finset.mem_univ (at2 ⟨(i 0).val % 112, Nat.mod_lt _ (by decide)⟩ (i 1) : S112x1024.Idx))
    rw [he] at this
    exact this
  · rename_i h
    refine View.write_of_not_mem (v := (gM : Memref sig .tc .vmem S3584x1024 .bf16).access (rowR b)) (Val := Elt F) f w Finset.univ ?_
    intro hi
    obtain ⟨x, -, rfl⟩ := Finset.mem_map.mp hi
    refine h ?_
    have h0 : (x 0).val < 112 := (x 0).isLt
    have := ValueKit.view_emb_slice_whole_unit_val cc0_scratch0 ![b.val * 112, 0] S112x1024.size (inbRow b) x 0
    have h1 : (((gM : Memref sig .tc .vmem S3584x1024 .bf16).access (rowR b)).emb x 0).val = b.val * 112 + (x 0).val := this
    rw [h1]
    omega

theorem agree_write (c : Dev nD) (b : Fin 32) (hs : b.val < 31) (f : FVec F S3584x1024 .bf16) (h : agree ct c b.val f) :
    agree ct c (b.val + 1) (putRow b f (ct (srcOf c b.val))) := by
  intro i hi
  rw [write_row]
  split
  · rename_i hb
    unfold gath
    rw [hb]
  · rename_i hb
    exact h i (by omega)

theorem agree_first (c : Dev nD) (f : FVec F S3584x1024 .bf16) : agree ct c 0 (putRow 31 f (ct c)) := by
  intro i hi
  have hb : (i 0).val / 112 = 31 := by omega
  have hs : srcOf c 31 = c := if_pos rfl
  refine (write_row 31 f (ct c) i).trans ((if_pos hb).trans ?_)
  unfold gath
  rw [hb, hs]

theorem read_group (c : Dev nD) (g : Fin 4) (f : FVec F S3584x1024 .bf16) (h : agree ct c (8 * g.val + 8) f) :
    (gM : Memref sig .tc .vmem S3584x1024 .bf16).view.readAt (Elt F)
      (Rect.unit (s := S3584x1024) ![g.val * 896, 0] S896x1024.size (inbGroup g)).toLoadRect f = grpV ct c g := by
  funext j
  have h0 : (j 0).val < 896 := (j 0).isLt
  unfold grpV
  rw [← h (at2G ⟨g.val * 896 + (j 0).val, by have h1 := g.isLt; omega⟩ (j 1)) (Or.inr (by
    show (g.val * 896 + (j 0).val) / 112 < _; omega))]
  refine congrArg f (funext fun a => Fin.ext ?_)
  fin_cases a
  · exact congrArg (g.val * 896 + ·) (Nat.one_mul (j 0).val)
  · exact (Nat.zero_add _).trans (Nat.one_mul (j 1).val)

/-! ### What a step keeps and adds -/

def gPts (c : Dev nD) (f : FVec F S3584x1024 .bf16) : sProp 𝕄 :=
  (gM : Memref sig .tc .vmem S3584x1024 .bf16).view.loc (c : Thread nD τ) ↦[Finset.univ]{fullShare} f
def oPts (c : Dev nD) (f : FVec F S2048x1024 .f32) : sProp 𝕄 :=
  (oM : Memref sig .tc .vmem S2048x1024 .f32).view.loc (c : Thread nD τ) ↦[Finset.univ]{fullShare} f

theorem wp_keep (c : Dev nD) (d : Bool) (k : Fin 3) (b : Fin 32) (q : PosShare TreeShare) (v : FVec F S112x1024 .bf16)
    (f : FVec F S3584x1024 .bf16) (Q : PUnit → sProp 𝕄) :
    iprop(slotAt c d k 0 q v ∗ slotAt c d k 1 q v ∗ gPts c f
      ∗ ((slotAt c d k 0 q v ∗ slotAt c d k 1 q v
        ∗ gPts c (putRow b f v)) -∗ Q ⟨⟩))
      ⊢ (WPc c) (keepP d k b) Q := by
  have hu : iprop(slotAt c d k 0 q v ∗ slotAt c d k 1 q v)
      ⊣⊢ ((buf d).view.loc (c : Thread nD τ) ↦[hset d k 0 ∪ hset d k 1]{q} (rep d v) : sProp 𝕄) :=
    ⟨(pointsTo_union (slotV_disjoint d (k, 0) (k, 1) (by simp))).2, (pointsTo_union (slotV_disjoint d (k, 0) (k, 1) (by simp))).1⟩
  iintro ⟨H0, H1, Hg, HQ⟩
  ihave H := hu.1 $$ [H0 H1]
  · isplitl [H0] <;> iassumption
  unfold keepP gPts
  simp only [Prog.lift, Prog.bind_op, Prog.bind_ret, Prog.pure_eq_ret]
  iapply (wp_load 𝒱₀ (c : Thread nD τ) none Set.univ (m := buf d) (full_subset d k)) $$ H; iintro H
  iapply (wp_load 𝒱₀ (c : Thread nD τ) none Set.univ (m := gM) (Finset.subset_univ _)) $$ Hg; iintro Hg
  rw [read_full]
  iapply (wp_store 𝒱₀ (c : Thread nD τ) none Set.univ (m := gM) (r := rowR b) (Mk := Finset.univ) (Finset.subset_univ _)) $$ Hg; iintro Hg
  rw [wp_ret]; imodintro
  ihave H := hu.2 $$ H
  icases H with ⟨H0, H1⟩
  iapply HQ
  isplitl [H0]; · iexact H0
  isplitl [H1]; · iexact H1
  iexact Hg

theorem hz2 : (![0, 0] : Fin 2 → Nat) = fun _ => 0 := funext fun a => by fin_cases a <;> rfl

theorem wp_accum (c : Dev nD) (g : Fin 4) (col : IVec S2048x1 32) (o : FVec F S2048x1024 .f32) (f : FVec F S3584x1024 .bf16)
    (h : agree ct c (8 * g.val + 8) f) (Q : PUnit → sProp 𝕄) :
    iprop(oPts c o ∗ gPts c f ∗ ((oPts c (accumV g.val col o (grpV ct c g)) ∗ gPts c f) -∗ Q ⟨⟩))
      ⊢ (WPc c) (accumP g col) Q := by
  unfold accumP oPts gPts
  simp only [Prog.lift, Prog.bind_op, Prog.bind_ret, Prog.pure_eq_ret]
  iintro ⟨Ho, Hg, HQ⟩
  iapply (wp_load 𝒱₀ (c : Thread nD τ) none Set.univ (m := oM) (Finset.subset_univ _)) $$ Ho; iintro Ho
  iapply (wp_load 𝒱₀ (c : Thread nD τ) none Set.univ (m := gM) (Finset.subset_univ _)) $$ Hg; iintro Hg
  iapply (wp_load 𝒱₀ (c : Thread nD τ) none Set.univ (m := oM) (Finset.subset_univ _)) $$ Ho; iintro Ho
  iapply (wp_store 𝒱₀ (c : Thread nD τ) none Set.univ (m := oM)
    (r := Rect.unit (s := S2048x1024) ![0, 0] S2048x1024.size inb_S2048x1024_S2048x1024_0_0) (Mk := Finset.univ) (Finset.subset_univ _)) $$ Ho; iintro Ho
  have hr := read_group ct c g f h
  have ho : (oM : Memref sig .tc .vmem S2048x1024 .f32).view.readAt (Elt F)
      (Rect.unit (s := S2048x1024) ![0, 0] S2048x1024.size inb_S2048x1024_S2048x1024_0_0).toLoadRect o = o :=
    Memref.readAt_unit_zero (Elt F) cc0_stg5_0 hz2 _ o
  rw [hr, ho]
  have hw := Memref.write_access_unit_zero_univ (Elt F) cc0_stg5_0 hz2 inb_S2048x1024_S2048x1024_0_0 o (accumV g.val col o (grpV ct c g))
  rw [wp_ret]; imodintro
  iapply HQ
  isplitl [Ho]
  · iapply (Entails.of_eq (congrArg (fun w => ((oM : Memref sig .tc .vmem S2048x1024 .f32).view.loc (c : Thread nD τ) ↦[Finset.univ]{fullShare} w : sProp 𝕄)) hw))
    iexact Ho
  iexact Hg

theorem core_slot (c : Dev nD) (d : Bool) (h : Fin 2) (s : ℕ) :
    core ct c d h (s + 1) ⊢ iprop(slotAt c d (sl s) h (curShare d s) (ct (ow d c s))
      ∗ (slotAt c d (sl s) h (curShare d s) (ct (ow d c s)) -∗ core ct c d h (s + 1))) := by
  unfold core
  rw [cur_succ]
  iintro ⟨H1, H2, H3, H4, H5, H6, H7, H8⟩
  isplitl [H7]; · iexact H7
  iintro H7
  isplitl [H1]; · iexact H1
  isplitl [H2]; · iexact H2
  isplitl [H3]; · iexact H3
  isplitl [H4]; · iexact H4
  isplitl [H5]; · iexact H5
  isplitl [H6]; · iexact H6
  isplitl [H7] <;> iassumption

/-- What hop `s` brought, kept as the next block. -/
theorem wp_keep_ring (c : Dev nD) (d : Bool) (s t : ℕ) (ht : t < 31) (hst : srcOf c t = ow d c s) (b : Fin 32) (hb : b.val = t)
    (f : FVec F S3584x1024 .bf16) (hf : agree ct c t f) (Q : PUnit → sProp 𝕄) :
    iprop(ringSt ct c d (s + 1) ∗ gPts c f
      ∗ ((∃ f, ⌜agree ct c (t + 1) f⌝ ∗ ringSt ct c d (s + 1) ∗ gPts c f) -∗ Q ⟨⟩))
      ⊢ (WPc c) (keepP d (sl s) b) Q := by
  unfold ringSt
  iintro ⟨⟨Hc0, Hc1, Hr⟩, Hg, HQ⟩
  ihave Hc0 := (core_slot ct c d 0 s) $$ Hc0
  icases Hc0 with ⟨H0, Hc0⟩
  ihave Hc1 := (core_slot ct c d 1 s) $$ Hc1
  icases Hc1 with ⟨H1, Hc1⟩
  iapply (wp_keep c d (sl s) b (curShare d s) (ct (ow d c s)) f)
  isplitl [H0]; · iexact H0
  isplitl [H1]; · iexact H1
  isplitl [Hg]; · iexact Hg
  iintro ⟨H0, H1, Hg⟩
  ispecialize Hc0 $$ H0
  ispecialize Hc1 $$ H1
  iapply HQ
  iexists (putRow b f (ct (ow d c s)))
  isplitr
  · ipureintro
    subst hb
    rw [← hst]
    exact agree_write ct c b ht f hf
  isplitr [Hg]
  · isplitl [Hc0]; · iexact Hc0
    isplitl [Hc1] <;> iassumption
  iexact Hg

/-! ### A step, and all of them -/

variable (col : IVec S2048x1 32) (o₀ : FVec F S2048x1024 .f32)

/-- The result after `n` groups. -/
def outS (c : Dev nD) : ℕ → FVec F S2048x1024 .f32
  | 0 => o₀
  | n + 1 => if hn : n < 4 then accumV n col (outS c n) (grpV ct c ⟨n, hn⟩) else outS c n

/-- What a device holds before step `s`. -/
def stepSt (c : Dev nD) (s : ℕ) : sProp 𝕄 :=
  iprop(ringSt ct c true s ∗ ringSt ct c false (min s 15)
    ∗ owesE c (owS c true (s + 1) + owC c true s + (owS c false (min s 15 + 1) + owC c false (min s 15)))
    ∗ (∃ f, ⌜agree ct c (min (2 * s) 31) f⌝ ∗ gPts c f) ∗ oPts c (outS ct col o₀ c (s / 4)))

theorem srcOf_even (c : Dev nD) (s : ℕ) (hs : s < 16) : srcOf c (2 * s) = ow true c s := by
  unfold srcOf; rw [if_neg (by omega), if_pos (by omega), show 2 * s / 2 = s by omega]
theorem srcOf_odd (c : Dev nD) (s : ℕ) (hs : s < 15) : srcOf c (2 * s + 1) = ow false c s := by
  unfold srcOf; rw [if_neg (by omega), if_neg (by omega), show (2 * s + 1) / 2 = s by omega]

theorem agree_le (c : Dev nD) {s t : ℕ} (h : t ≤ s ∨ 31 ≤ s) {f : FVec F S3584x1024 .bf16} (hf : agree ct c s f) : agree ct c t f := by
  intro i hi
  have hb : (i 0).val / 112 < 32 := by have : (i 0).val < 3584 := (i 0).isLt; omega
  exact hf i (by omega)

/-- The end of a step: after every fourth one a group is added. -/
theorem wp_add (c : Dev nD) (s : ℕ) (hs : s < 16) (f : FVec F S3584x1024 .bf16) (h : agree ct c (min (2 * (s + 1)) 31) f) (Q : PUnit → sProp 𝕄) :
    iprop(oPts c (outS ct col o₀ c (s / 4)) ∗ gPts c f ∗ ((oPts c (outS ct col o₀ c ((s + 1) / 4)) ∗ gPts c f) -∗ Q ⟨⟩))
      ⊢ (WPc c) (if s % 4 = 3 then accumP ⟨s / 4, by omega⟩ col else pure ⟨⟩) Q := by
  by_cases h3 : s % 4 = 3
  · rw [if_pos h3]
    have hg : s / 4 < 4 := by omega
    have ho : outS ct col o₀ c ((s + 1) / 4) = accumV (s / 4) col (outS ct col o₀ c (s / 4)) (grpV ct c ⟨s / 4, hg⟩) := by
      rw [show (s + 1) / 4 = s / 4 + 1 by omega]
      exact dif_pos hg
    rw [ho]
    exact wp_accum ct c ⟨s / 4, hg⟩ col _ f (agree_le ct c (by show 8 * (s / 4) + 8 ≤ _ ∨ _; omega) h) Q
  · rw [if_neg h3, show (s + 1) / 4 = s / 4 by omega, Prog.pure_eq_ret, wp_ret]
    iintro ⟨Ho, Hg, HQ⟩
    imodintro
    iapply HQ
    isplitl [Ho] <;> iassumption

theorem wp_step (c right left : Dev nD) (hr : right = dn true c) (hl : left = dn false c) (s : Fin 16) (Q : PUnit → sProp 𝕄) :
    iprop(Inv ct κ ν ∗ stepSt ct col o₀ c s.val ∗ (stepSt ct col o₀ c (s.val + 1) -∗ Q ⟨⟩))
      ⊢ (WPc c) (stepP s col right left) Q := by
  obtain ⟨s, hs⟩ := s
  have hb : 2 * s < 32 := by omega
  unfold stepSt stepP
  simp only [wp_bind]
  iintro ⟨#HI, ⟨Ht, Hf, Ho, ⟨%f, %ha, Hg⟩, Hout⟩, HQ⟩
  rw [show min (2 * s) 31 = 2 * s by omega] at ha
  rw [show owS c true (s + 1) + owC c true s + (owS c false (min s 15 + 1) + owC c false (min s 15))
      = (owS c false (min s 15 + 1) + owC c false (min s 15)) + owS c true (s + 1) + owC c true s by abel]
  iapply (wp_hop ct κ ν c right left true hr hl s hs _ (OK_add (OK_owS c false (min s 15 + 1) (2 * s + 2) (by omega)) (OK_owC c false (min s 15) (2 * s + 2) (by omega))))
  isplitr; · iexact HI
  isplitl [Ht]; · iexact Ht
  isplitl [Ho]; · iexact Ho
  iintro ⟨Ht, Ho⟩
  by_cases h15 : s < 15
  · have hb1 : 2 * s + 1 < 32 := by omega
    rw [if_pos h15, show min s 15 = s by omega, show min (s + 1) 15 = s + 1 by omega, dif_pos h15]
    simp only [wp_bind]
    rw [show (owS c false (s + 1) + owC c false s) + owS c true (s + 2) + owC c true (s + 1)
      = (owS c true (s + 2) + owC c true (s + 1)) + owS c false (s + 1) + owC c false s by abel]
    iapply (wp_hop ct κ ν c left right false hl hr s h15 _ (OK_add (OK_owS c true (s + 2) (2 * s + 2) (by omega)) (OK_owC c true (s + 1) (2 * s + 2) (by omega))))
    isplitr; · iexact HI
    isplitl [Hf]; · iexact Hf
    isplitl [Ho]; · iexact Ho
    rw [add_assoc (owS c true (s + 2) + owC c true (s + 1))]
    iintro ⟨Hf, Ho⟩
    iapply (wp_keep_ring ct c true s (2 * s) (by omega) (srcOf_even c s hs) ⟨2 * s, hb⟩ rfl f ha)
    isplitl [Ht]; · iexact Ht
    isplitl [Hg]; · iexact Hg
    iintro ⟨%f1, %ha1, Ht, Hg⟩
    iapply (wp_keep_ring ct c false s (2 * s + 1) (by omega) (srcOf_odd c s h15) ⟨2 * s + 1, hb1⟩ rfl f1 ha1)
    isplitl [Hf]; · iexact Hf
    isplitl [Hg]; · iexact Hg
    iintro ⟨%f2, %ha2, Hf, Hg⟩
    have ha3 : agree ct c (min (2 * (s + 1)) 31) f2 := agree_le ct c (by omega) ha2
    iapply (wp_add ct col o₀ c s hs f2 ha3)
    isplitl [Hout]; · iexact Hout
    isplitl [Hg]; · iexact Hg
    iintro ⟨Hout, Hg⟩
    iapply HQ
    isplitl [Ht]; · iexact Ht
    isplitl [Hf]; · iexact Hf
    isplitl [Ho]; · iexact Ho
    isplitl [Hg]
    · iexists f2
      isplitr; · ipureintro; exact ha3
      iexact Hg
    iexact Hout
  · rw [if_neg h15, show min s 15 = 15 by omega, show min (s + 1) 15 = 15 by omega, dif_neg h15]
    simp only [wp_bind]
    iapply (wp_keep_ring ct c true s (2 * s) (by omega) (srcOf_even c s hs) ⟨2 * s, hb⟩ rfl f ha)
    isplitl [Ht]; · iexact Ht
    isplitl [Hg]; · iexact Hg
    iintro ⟨%f1, %ha1, Ht, Hg⟩
    have ha3 : agree ct c (min (2 * (s + 1)) 31) f1 := agree_le ct c (by omega) ha1
    iapply (wp_add ct col o₀ c s hs f1 ha3)
    isplitl [Hout]; · iexact Hout
    isplitl [Hg]; · iexact Hg
    iintro ⟨Hout, Hg⟩
    rw [show (owS c false (15 + 1) + owC c false 15) + owS c true (s + 2) + owC c true (s + 1)
      = owS c true (s + 1 + 1) + owC c true (s + 1) + (owS c false (15 + 1) + owC c false 15) by rw [show s + 1 + 1 = s + 2 from rfl]; abel]
    iapply HQ
    isplitl [Ht]; · iexact Ht
    isplitl [Hf]; · iexact Hf
    isplitl [Ho]; · iexact Ho
    isplitl [Hg]
    · iexists f1
      isplitr; · ipureintro; exact ha3
      iexact Hg
    iexact Hout

/-- All the steps from `16 - n` on. -/
theorem wp_steps (c right left : Dev nD) (hr : right = dn true c) (hl : left = dn false c) (n : ℕ) (hn : n ≤ 16) (Q : PUnit → sProp 𝕄) :
    iprop(Inv ct κ ν ∗ stepSt ct col o₀ c (16 - n) ∗ (stepSt ct col o₀ c 16 -∗ Q ⟨⟩))
      ⊢ (WPc c) (stepsP n hn col right left) Q := by
  induction n with
  | zero =>
    rw [stepsP, Prog.pure_eq_ret, wp_ret]
    iintro ⟨-, H, HQ⟩
    imodintro
    iapply HQ
    iexact H
  | succ n ih =>
    rw [stepsP]
    simp only [wp_bind]
    iintro ⟨#HI, H, HQ⟩
    have hb : 16 - (n + 1) < 16 := by omega
    have hn' : n ≤ 16 := by omega
    iapply (wp_step ct κ ν col o₀ c right left hr hl ⟨16 - (n + 1), hb⟩)
    isplitr; · iexact HI
    isplitl [H]; · iexact H
    rw [show 16 - (n + 1) + 1 = 16 - n by omega]
    iintro H
    iapply (ih hn')
    isplitr; · iexact HI
    isplitl [H] <;> iassumption

end Cert.KernelIdeal.Hand

end
-- ==== Proof.KernelIdeal.End.lean ====
/-
  The end of a device's program: from what it holds after the last step to its semaphores at zero and its
  buffers whole.
-/
module

public import proofs.«01_k».proof.Proof.KernelIdeal.Steps
public import Idealize.ShloMosaic.Lib.Ring

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SiteBlocks (L lv)

variable {F : FTy → Type} [FloatOps F]

local notation "𝕄" => MT nD τ sig ℕ (Elt F) ℕ UU ℕ
local notation "KProg" => Prog (TpuEff nD τ sig (Elt F) Λ₀ Proc.tc) PUnit

/-- The weakest precondition of a piece of device `c`'s program. -/
local notation "WPc" c => wp (frame (nD := nD) (τ := τ) (sig := sig) (Val := Elt F) (Ix := ℕ) (Name := ℕ) (U := UU) (Lvl := ℕ)) (wpE (defs₀ (F := F)) 𝒱₀ (c : Thread nD τ) none) Set.univ

variable (ct : Dev nD → FVec F S112x1024 .bf16) (κ : Dev nD × CK → ℕ) (ν : Key → ℕ)

/-! ### The buffers, whole and in halves -/

abbrev halfSet (h : Fin 2) : Finset (sM : Memref sig .tc .vmem S112x1024 .bf16).view.ty.Idx := (sendV h).view.set

theorem mem_half (h : Fin 2) (i : S112x1024.Idx) :
    i ∈ (Rect.unit (s := S112x1024) ![0, h.val * 512] S112x512.size (inbHalf h)).set ↔ (i 1).val / 512 = h.val := by
  rw [Rect.mem_set_unit]
  have h0 : (i 0).val < 112 := (i 0).isLt
  constructor
  · intro H
    have h1 : h.val * 512 ≤ (i 1).val ∧ (i 1).val < h.val * 512 + 512 := H 1
    omega
  · intro e a
    fin_cases a
    · exact (show 0 ≤ (i 0).val ∧ (i 0).val < 0 + 112 by omega)
    · exact (show h.val * 512 ≤ (i 1).val ∧ (i 1).val < h.val * 512 + 512 by omega)

theorem set_sendV (h : Fin 2) : halfSet h
    = (sM : Memref sig .tc .vmem S112x1024 .bf16).view.setOn (Rect.unit (s := S112x1024) ![0, h.val * 512] S112x512.size (inbHalf h)).set :=
  View.set_slice _ _

theorem sendV_disjoint (h h' : Fin 2) (hne : h ≠ h') : Disjoint (halfSet h) (halfSet h') := by
  rw [set_sendV, set_sendV]
  refine (Finset.disjoint_map _).mpr ?_
  refine Finset.disjoint_left.mpr fun i hi hi' => hne ?_
  rw [mem_half] at hi hi'
  exact Fin.ext (hi.symm.trans hi')

theorem sM_emb_surj (i : (sM : Memref sig .tc .vmem S112x1024 .bf16).view.ty.Idx) :
    ∃ x : S112x1024.Idx, (sM : Memref sig .tc .vmem S112x1024 .bf16).view.emb x = i := ⟨i, rfl⟩

theorem sendV_cover : (Finset.univ.biUnion fun h : Fin 2 => halfSet h) = Finset.univ := by
  refine Finset.eq_univ_of_forall fun i => ?_
  obtain ⟨x, rfl⟩ := sM_emb_surj i
  have h1 : (x 1).val < 1024 := (x 1).isLt
  refine Finset.mem_biUnion.mpr ⟨⟨(x 1).val / 512, by omega⟩, Finset.mem_univ _, ?_⟩
  rw [set_sendV]
  exact Finset.mem_map_of_mem _ ((mem_half _ x).mpr rfl)

def sPts (c : Dev nD) (v : FVec F S112x1024 .bf16) : sProp 𝕄 :=
  (sM : Memref sig .tc .vmem S112x1024 .bf16).view.loc (c : Thread nD τ) ↦[Finset.univ]{fullShare} v

/-- The source, whole, is a half share of each half for each ring. -/
theorem sPts_eq (c : Dev nD) (v : FVec F S112x1024 .bf16) :
    sPts c v ⊣⊢ iprop((srcAt c 0 (srcShare true) v ∗ srcAt c 0 (srcShare false) v) ∗ (srcAt c 1 (srcShare true) v ∗ srcAt c 1 (srcShare false) v)) := by
  have e : sPts c v = iprop(srcAt c 0 fullShare v ∗ srcAt c 1 fullShare v) := by
    unfold sPts srcAt
    rw [Ring.pointsTo_blocks (Ix := ℕ) (Name := ℕ) (U := UU) (Lvl := ℕ) (ℓ := (sM : Memref sig .tc .vmem S112x1024 .bf16).view.loc (c : Thread nD τ)) (Val := Elt F) (q := fullShare) halfSet sendV_disjoint sendV_cover v, bigSep_fin_two]
    rfl
  have hs (h : Fin 2) : srcAt c h fullShare v ⊣⊢ iprop(srcAt c h (srcShare true) v ∗ srcAt c h (srcShare false) v) := by
    unfold srcAt
    exact pointsTo_share (Part.eq_some_iff.mp (PosShare.left_op_right fullShare))
  rw [e]
  exact ⟨BI.sep_mono (hs 0).1 (hs 1).1, BI.sep_mono (hs 0).2 (hs 1).2⟩

def bufPts (c : Dev nD) (d : Bool) : sProp 𝕄 := iprop(∃ f, (buf d).view.loc (c : Thread nD τ) ↦[Finset.univ]{fullShare} f)

theorem buf_split (c : Dev nD) (d : Bool) : bufPts (F := F) c d ⊢ bigSep Finset.univ (fun kh : Fin 3 × Fin 2 => slotFree (F := F) (c, d, kh)) := by
  have hf (f) : ((buf d).view.loc (c : Thread nD τ) ↦[Finset.univ]{fullShare} f : sProp 𝕄) ⊢ bigSep Finset.univ (fun kh : Fin 3 × Fin 2 => slotFree (F := F) (c, d, kh)) := by
    rw [Ring.pointsTo_blocks (ℓ := (buf d).view.loc (c : Thread nD τ)) (fun kh : Fin 3 × Fin 2 => hset d kh.1 kh.2) (slotV_disjoint d) (slotV_cover d) f]
    have hk (kh : Fin 3 × Fin 2) : ((buf d).view.loc (c : Thread nD τ) ↦[hset d kh.1 kh.2]{fullShare} f : sProp 𝕄) ⊢ slotFree (F := F) (c, d, kh) := by
      unfold slotFree slot
      iintro H
      iexists f
      iexact H
    exact bigSep_mono fun kh _ => hk kh
  unfold bufPts
  iintro ⟨%f, H⟩
  iapply (hf f)
  iexact H

theorem buf_join (c : Dev nD) (d : Bool) (v : FVec F S112x1024 .bf16) : bigSep Finset.univ (fun kh : Fin 3 × Fin 2 => slotFree (F := F) (c, d, kh)) ⊢ bufPts (F := F) c d := by
  unfold slotFree slot bufPts
  exact Ring.pointsTo_blocks_join_exists (ℓ := (buf d).view.loc (c : Thread nD τ)) (fun kh : Fin 3 × Fin 2 => hset d kh.1 kh.2) (slotV_disjoint d) (slotV_cover d) (rep d v)

/-! ### The end -/

theorem bigSep_sl (a : ℕ) (P : Fin 3 → sProp 𝕄) : bigSep (Finset.Ico a (a + 3)) (fun j => P (sl j)) = bigSep Finset.univ P := by
  have hi : Set.InjOn sl (Finset.Ico a (a + 3) : Finset ℕ) := by
    intro x hx y hy hxy
    have hx := Finset.mem_Ico.mp (Finset.mem_coe.mp hx)
    have hy := Finset.mem_Ico.mp (Finset.mem_coe.mp hy)
    have h3 : x % 3 = y % 3 := congrArg Fin.val hxy
    omega
  rw [← bigSep_image_of_injOn hi P]
  congr 1
  refine Finset.eq_univ_of_forall fun k => ?_
  have := k.isLt
  exact Finset.mem_image.mpr ⟨a + (k.val + 3 - a % 3) % 3, Finset.mem_Ico.mpr ⟨by omega, by omega⟩, Fin.ext (by show (a + (k.val + 3 - a % 3) % 3) % 3 = k.val; omega)⟩

theorem cell_end (c : Dev nD) (k : CK) (R : ℕ) (hR : ∀ r, R ≤ r → dutiesK k r = ∅) :
    iprop(Inv ct κ ν ∗ atPos ER (cell c k) R ∅ 0) ⊢ |={Set.univ}=> semVal (cell c k) 0 := by
  iintro ⟨#HI, Hat⟩
  iapply (Rounds.cell_close ER (Rd ct) (Set.mem_univ (κ (c, k))) (fun h => h) (R := R) (fun r hr => by rw [duties_cell]; exact hR r hr))
  isplitr; · iapply (inv_cell ct κ ν c k); iexact HI
  iexact Hat

theorem cur_last (c : Dev nD) (d : Bool) (h : Fin 2) :
    cur ct c d h (hops d) ⊢ iprop(srcAt c h (srcShare d) (ct c) ∗ slotAt c d (sl (hops d - 1)) h fullShare (ct (ow d c (hops d - 1)))) := by
  obtain ⟨m, hm⟩ : ∃ m, hops d = m + 1 := ⟨hops d - 1, by have := hops_ge d; omega⟩
  rw [hm, cur_succ, Nat.add_sub_cancel]
  unfold curShare
  rw [if_neg (show ¬ m + 1 < hops d by omega)]
  iintro ⟨H1, H2, -⟩
  isplitl [H1] <;> iassumption

theorem half_end (c : Dev nD) (d : Bool) (h : Fin 2) :
    iprop(Inv ct κ ν ∗ core ct c d h (hops d) ∗ old ct c d h (hops d))
      ⊢ |={Set.univ}=> iprop(srcAt c h (srcShare d) (ct c) ∗ bigSep Finset.univ (fun k : Fin 3 => slotFree (F := F) (c, d, k, h))
        ∗ semVal (cell c (.send d h)) 0 ∗ bigSep Finset.univ (fun k : Fin 3 => semVal (cell c (.recv d k h)) 0)) := by
  have h15 := hops_ge d
  unfold core old
  iintro ⟨#HI, ⟨HatR, HatS, -, -, -, Hcur⟩, -, Hold⟩
  ihave Hcur := (cur_last ct c d h) $$ Hcur
  icases Hcur with ⟨Hsrc, Hsl⟩
  have hslots : iprop(bigSep (Finset.Ico (hops d - 3) (hops d - 1)) (fun j => slotAt c d (sl j) h fullShare (ct (ow d c j)))
      ∗ slotAt c d (sl (hops d - 1)) h fullShare (ct (ow d c (hops d - 1))))
      ⊢ bigSep Finset.univ (fun k : Fin 3 => slotFree (F := F) (c, d, k, h)) := by
    have e : hops d - 3 + 3 = hops d - 1 + 1 := by omega
    have hle : hops d - 3 ≤ hops d - 1 := by omega
    rw [← bigSep_sl (hops d - 3) (fun k : Fin 3 => slotFree (F := F) (c, d, k, h)), e,
      bigSep_Ico_succ_top hle (fun j => slotFree (F := F) (c, d, sl j, h))]
    have hj (j : ℕ) : slotAt c d (sl j) h fullShare (ct (ow d c j)) ⊢ slotFree (F := F) (c, d, sl j, h) := by
      unfold slotAt slotFree slot
      iintro H
      iexists _; iexact H
    exact BI.sep_comm.trans (BI.sep_mono (hj _) (bigSep_mono fun j _ => hj j))
  ihave Hsl := hslots $$ [Hold Hsl]
  · isplitl [Hold] <;> iassumption
  imod (cell_end ct κ ν c (.send d h) (hops d) (fun r hr => if_neg (by omega))) $$ [HatS] with HzS
  · isplitr; · iexact HI
    iexact HatS
  have hrecv : iprop(Inv ct κ ν ∗ bigSep (Finset.Ico (hops d) (hops d + 3)) (fun j => atPos ER (cell c (.recv d (sl j) h)) (j / 3) ∅ 0))
      ⊢ |={Set.univ}=> bigSep Finset.univ (fun k : Fin 3 => semVal (cell c (.recv d k h)) 0) := by
    rw [← bigSep_sl (hops d) (fun k : Fin 3 => semVal (cell c (.recv d k h)) 0)]
    refine (bigSep_with_persistent (Ψ := fun j => iprop(|={Set.univ}=> semVal (cell c (.recv d (sl j) h)) 0)) fun j hj => ?_).trans (bigSep_fupd _ _)
    exact cell_end ct κ ν c (.recv d (sl j) h) (j / 3) fun r hr => by
      have hj := Finset.mem_Ico.mp hj
      refine if_neg ?_
      show ¬ 3 * r + j % 3 < hops d
      omega
  imod hrecv $$ [HatR] with HzR
  · isplitr; · iexact HI
    iexact HatR
  imodintro
  isplitl [Hsrc]; · iexact Hsrc
  isplitl [Hsl]; · iexact Hsl
  isplitl [HzS] <;> iassumption

theorem credit_end (c : Dev nD) (d : Bool) :
    iprop(Inv ct κ ν ∗ crd (F := F) c d (hops d)) ⊢ |={Set.univ}=> semVal (cell c (.credit d)) 0 := by
  have h15 := hops_ge d
  have hd0 : dutiesK (.credit d) 0 = Finset.Ico 1 (hops d - 2) := by unfold dutiesK; dsimp only; rw [if_pos rfl]
  unfold crd creditSt
  iintro ⟨#HI, ⟨%T, %hT, Hat, -⟩, -⟩
  have ht : taken d (hops d) = (Finset.Ico 1 (hops d - 2)).card := by
    unfold taken; rw [Nat.card_Ico]; omega
  have hsub : Finset.Ico 1 (hops d - 2) ⊆ T := by
    rw [← Finset.sdiff_eq_empty_iff_subset, ← Finset.card_eq_zero]
    have := hT.2
    omega
  imod (Rounds.fupd_skip ER (Rd ct) (κ := κ (c, .credit d)) (g := cell c (.credit d)) (R := 0) (m := taken d (hops d)) (T := T)
    (by rw [duties_cell, hd0]; exact hsub) (by rw [expect_cell, hd0, ht]; exact (Nat.mul_one _).symm) (Set.mem_univ _)) $$ [Hat] with ⟨Hat, -⟩
  · isplitr; · iapply (inv_cell ct κ ν c (.credit d)); iexact HI
    iexact Hat
  iapply (cell_end ct κ ν c (.credit d) (0 + 1) (fun r hr => if_neg (by omega)))
  isplitr; · iexact HI
  iexact Hat

/-- A ring's semaphores, at zero. -/
def ringZero (c : Dev nD) (d : Bool) : sProp 𝕄 :=
  iprop(semVal (cell c (.credit d)) 0 ∗ semVal (cell c (.send d 0)) 0 ∗ semVal (cell c (.send d 1)) 0
    ∗ bigSep Finset.univ (fun k : Fin 3 => semVal (cell c (.recv d k 0)) 0) ∗ bigSep Finset.univ (fun k : Fin 3 => semVal (cell c (.recv d k 1)) 0))

theorem ring_end (c : Dev nD) (d : Bool) :
    iprop(Inv ct κ ν ∗ ringSt ct c d (hops d))
      ⊢ |={Set.univ}=> iprop((srcAt c 0 (srcShare d) (ct c) ∗ srcAt c 1 (srcShare d) (ct c)) ∗ bufPts (F := F) c d ∗ ringZero c d) := by
  unfold ringSt ringZero
  iintro ⟨#HI, Hc0, Hc1, Ho0, Ho1, Hcrd, -⟩
  imod (half_end ct κ ν c d 0) $$ [Hc0 Ho0] with ⟨Hs0, Hb0, Hz0, Hr0⟩
  · isplitr; · iexact HI
    isplitl [Hc0] <;> iassumption
  imod (half_end ct κ ν c d 1) $$ [Hc1 Ho1] with ⟨Hs1, Hb1, Hz1, Hr1⟩
  · isplitr; · iexact HI
    isplitl [Hc1] <;> iassumption
  imod (credit_end ct κ ν c d) $$ [Hcrd] with Hz
  · isplitr; · iexact HI
    iexact Hcrd
  imodintro
  isplitl [Hs0 Hs1]; · (isplitl [Hs0] <;> iassumption)
  isplitl [Hb0 Hb1]
  · iapply (buf_join c d (ct c))
    rw [bigSep_univ_prod, bigSep_univ_comm, bigSep_fin_two]
    iapply (show iprop(bigSep Finset.univ (fun k : Fin 3 => slotFree (F := F) (c, d, k, 0)) ∗ bigSep Finset.univ (fun k : Fin 3 => slotFree (F := F) (c, d, k, 1)))
      ⊢ BI.sep (bigSep Finset.univ (fun k : Fin 3 => slotFree (F := F) (c, d, k, 0))) (bigSep Finset.univ (fun k : Fin 3 => slotFree (F := F) (c, d, k, 1))) from .rfl)
    isplitl [Hb0] <;> iassumption
  isplitl [Hz]; · iexact Hz
  isplitl [Hz0]; · iexact Hz0
  isplitl [Hz1]; · iexact Hz1
  isplitl [Hr0] <;> iassumption

end Cert.KernelIdeal.Hand

end
-- ==== Proof.KernelIdeal.Start.lean ====
/-
  The start of a device's program: the handshake with its two neighbours, and everything up to the first wait.
-/
module

public import proofs.«01_k».proof.Proof.KernelIdeal.End

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SiteBlocks (L lv)

variable {F : FTy → Type} [FloatOps F]

local notation "𝕄" => MT nD τ sig ℕ (Elt F) ℕ UU ℕ
local notation "KProg" => Prog (TpuEff nD τ sig (Elt F) Λ₀ Proc.tc) PUnit

/-- The weakest precondition of a piece of device `c`'s program. -/
local notation "WPc" c => wp (frame (nD := nD) (τ := τ) (sig := sig) (Val := Elt F) (Ix := ℕ) (Name := ℕ) (U := UU) (Lvl := ℕ)) (wpE (defs₀ (F := F)) 𝒱₀ (c : Thread nD τ) none) Set.univ

variable (ct : Dev nD → FVec F S112x1024 .bf16) (κ : Dev nD × CK → ℕ) (ν : Key → ℕ)

/-! ### The handshake -/

omit [FloatOps F] in
theorem bigSep_halves (P : Fin 3 × Fin 2 → sProp 𝕄) :
    bigSep Finset.univ P = iprop(bigSep Finset.univ (fun k : Fin 3 => P (k, 0)) ∗ bigSep Finset.univ (fun k : Fin 3 => P (k, 1))) := by
  rw [bigSep_univ_prod, bigSep_univ_comm, bigSep_fin_two]
  rfl

theorem bigSep_first (P : Fin 3 → sProp 𝕄) (Q : ℕ → sProp 𝕄) (h : ∀ j, j < 3 → P (sl j) = Q j) :
    bigSep Finset.univ P = bigSep (Finset.Ico 0 (0 + 3)) Q := by
  rw [← bigSep_sl 0 P]
  exact bigSep_congr fun j hj => h j (Finset.mem_Ico.mp hj).2

/-- Every cell is at its first round. -/
def Rch : sProp 𝕄 := bigSep Finset.univ (fun p : Dev nD × CK => reached ER (cell p.1 p.2) 0)

omit [FloatOps F] in
instance Rch_persistent : BI.Persistent (Rch (F := F)) := by unfold Rch; infer_instance

omit [FloatOps F] in
theorem rch_cell (c : Dev nD) (k : CK) : Rch (F := F) ⊢ reached ER (cell c k) 0 := by
  unfold Rch
  exact bigSep_elim (Φ := fun p : Dev nD × CK => reached ER (cell p.1 p.2) 0) (Finset.mem_univ (c, k))

/-- That a landing buffer's slots were read `n` times. -/
def reads (c : Dev nD) (d : Bool) (n : ℕ) : sProp 𝕄 := bigSep Finset.univ (fun kh : Fin 3 × Fin 2 => readerAt ES ((c, d, kh) : Key) n)

/-- A device's landing buffer of ring `d` is free: said to the device before. -/
theorem free_ring (c : Dev nD) (d : Bool) :
    iprop(Inv ct κ ν ∗ Rch (F := F) ∗ bufPts (F := F) c d ∗ reads (F := F) c d 0)
      ⊢ |={Set.univ}=> iprop(reads (F := F) c d 1 ∗ barPay (F := F) d (up d c)) := by
  have hstep : iprop(Inv ct κ ν ∗ bigSep Finset.univ (fun kh : Fin 3 × Fin 2 => iprop(readerAt ES ((c, d, kh) : Key) 0 ∗ slotFree (F := F) (c, d, kh))))
      ⊢ |={Set.univ}=> bigSep Finset.univ (fun kh : Fin 3 × Fin 2 => iprop(readerAt ES ((c, d, kh) : Key) 1 ∗ released ES ((c, d, kh) : Key) 1)) := by
    refine (bigSep_with_persistent (Ψ := fun kh : Fin 3 × Fin 2 => iprop(|={Set.univ}=> (readerAt ES ((c, d, kh) : Key) 1 ∗ released ES ((c, d, kh) : Key) 1))) fun kh _ => ?_).trans (bigSep_fupd _ _)
    iintro ⟨#HI, Hr, Hs⟩
    iapply (slot_release ES (Set.mem_univ (ν (c, d, kh))) (S := slotFree (F := F) (c, d, kh))
      (slot_slot_false (slotV_nonempty d kh.1 kh.2)) 0)
    isplitr; · iapply (inv_slot ct κ ν _); iexact HI
    isplitl [Hr] <;> iassumption
  have hsay : iprop(Rch (F := F) ∗ bigSep Finset.univ (fun kh : Fin 3 × Fin 2 => released ES ((c, d, kh) : Key) 1)) ⊢ barPay (F := F) d (up d c) := by
    rw [bigSep_halves, bigSep_first _ (fun j => released ES ((c, d, sl j, 0) : Key) 1) (fun _ _ => rfl),
      bigSep_first _ (fun j => released ES ((c, d, sl j, 1) : Key) 1) (fun _ _ => rfl)]
    have hj (j : ℕ) (hj : j ∈ Finset.range 3) : iprop(Rch (F := F) ∗ (released ES ((c, d, sl j, 0) : Key) 1 ∗ released ES ((c, d, sl j, 1) : Key) 1))
        ⊢ fact (F := F) d (up d c) j := by
      have hd : j / 3 = 0 := by have := Finset.mem_range.mp hj; omega
      unfold fact factH
      rw [dn_up, hd]
      iintro ⟨#HR, H0, H1⟩
      isplitl [H0]
      · isplitl [H0]; · iexact H0
        iapply (rch_cell c (.recv d (sl j) 0)); iexact HR
      · isplitl [H1]; · iexact H1
        iapply (rch_cell c (.recv d (sl j) 1)); iexact HR
    unfold barPay heard
    rw [Nat.zero_add, ← Finset.range_eq_Ico]
    refine BI.Entails.trans ?_ (bigSep_with_persistent hj)
    rw [bigSep_sep']
    exact BI.Entails.refl _
  unfold reads
  iintro ⟨#HI, #HR, Hb, Hr⟩
  ihave Hb := (buf_split c d) $$ Hb
  imod hstep $$ [Hr Hb] with H
  · isplitr; · iexact HI
    rw [bigSep_sep']
    isplitl [Hr] <;> iassumption
  ihave H := (show bigSep Finset.univ (fun kh : Fin 3 × Fin 2 => iprop(readerAt ES ((c, d, kh) : Key) 1 ∗ released ES ((c, d, kh) : Key) 1))
    ⊢ (iprop(bigSep Finset.univ (fun kh : Fin 3 × Fin 2 => readerAt ES ((c, d, kh) : Key) 1) ∗ bigSep Finset.univ (fun kh : Fin 3 × Fin 2 => released ES ((c, d, kh) : Key) 1)) : sProp 𝕄)
    by rw [bigSep_sep']) $$ H
  icases H with ⟨H1, H2⟩
  imodintro
  isplitl [H1]; · iexact H1
  iapply hsay
  isplitr; · iexact HR
  iexact H2

theorem rest_bar (c : Dev nD) :
    bigSep ((Rd ct).duties (cell c .bar) 0 \ ∅) (fun e => (Rd ct).payload (cell c .bar) 0 e) = iprop(barPay (F := F) true c ∗ barPay (F := F) false c) := by
  have hd : dutiesK .bar 0 = {0, 1} := by unfold dutiesK; dsimp only; rw [if_pos rfl]
  rw [Finset.sdiff_empty, duties_cell, hd, bigSep_insert (by decide), bigSep_singleton, payload_cell, payload_cell]
  rfl

/-- The handshake. -/
theorem wp_shake (c right left : Dev nD) (hr : right = dn true c) (hl : left = dn false c) (O : Owed) (hO : OK 1 O) (Q : PUnit → sProp 𝕄) :
    iprop(Inv ct κ ν ∗ Rch (F := F) ∗ (bufPts (F := F) c true ∗ bufPts (F := F) c false) ∗ (reads (F := F) c true 0 ∗ reads (F := F) c false 0)
      ∗ (dutyTok ER (cell (up true c) .bar) 0 (bd true) ∗ dutyTok ER (cell (up false c) .bar) 0 (bd false))
      ∗ owesE c (O + tallyAt (cell (up false c) .bar) 1 1 + tallyAt (cell (up true c) .bar) 1 1)
      ∗ cred (tallyAt (cell c .bar) 1 2) ∗ atPos ER (cell c .bar) 0 ∅ 0
      ∗ ((owesE c O ∗ atPos ER (cell c .bar) 1 ∅ 0 ∗ (barPay (F := F) true c ∗ barPay (F := F) false c)
          ∗ (reads (F := F) c true 1 ∗ reads (F := F) c false 1)) -∗ Q ⟨⟩))
      ⊢ (WPc c) (shakeP right left) Q := by
  have hl' : left = up true c := hl
  have hr' : right = up false c := hr
  subst hl' hr'
  have hd : dutiesK .bar 0 = {0, 1} := by unfold dutiesK; dsimp only; rw [if_pos rfl]
  unfold owesE
  iintro ⟨#HI, #HR, ⟨Hb1, Hb0⟩, ⟨Hr1, Hr0⟩, ⟨Ht1, Ht0⟩, ⟨%W, Ho⟩, Hc, Hat, HQ⟩
  imod (free_ring ct κ ν c true) $$ [Hb1 Hr1] with ⟨Hr1, Hp1⟩
  · isplitr; · iexact HI
    isplitr; · iexact HR
    isplitl [Hb1] <;> iassumption
  imod (free_ring ct κ ν c false) $$ [Hb0 Hr0] with ⟨Hr0, Hp0⟩
  · isplitr; · iexact HI
    isplitr; · iexact HR
    isplitl [Hb0] <;> iassumption
  unfold shakeP
  simp only [semSignalWord, semWaitWord, Prog.lift, Prog.bind_op, Prog.bind_ret, Prog.pure_eq_ret]
  iapply (Rounds.wp_signal 𝒱₀ ER (Rd ct) (c : Thread nD τ) none (dst := (up true c : Thread nD τ)) (κ := κ (up true c, .bar)) (r := 0)
      (d := bd true) (by rw [duties_cell ct (up true c) .bar, hd]; decide) ((amount_cell ct (up true c) .bar 0 (bd true)).trans rfl) 1
      (O₀ := O + tallyAt (cell (up false c) .bar) 1 1 + tallyAt (cell (up true c) .bar) 1 1) (O + tallyAt (cell (up false c) .bar) 1 1) rfl) $$ [Ho Ht1 Hp1]
  · isplitr; · iapply (inv_cell ct κ ν (up true c) .bar); iexact HI
    isplitl [Ho]; · iexact Ho
    isplitl [Ht1]; · iexact Ht1
    isplitl [Hp1]
    · rw [payload_cell ct (up true c) .bar]
      iapply (Entails.of_eq (show barPay (F := F) true (up true c) = payK ct (up true c) .bar 0 (bd true) from rfl))
      iexact Hp1
    iapply (rch_cell (up true c) .bar); iexact HR
  iintro Ho
  iapply (Rounds.wp_signal 𝒱₀ ER (Rd ct) (c : Thread nD τ) none (dst := (up false c : Thread nD τ)) (κ := κ (up false c, .bar)) (r := 0)
      (d := bd false) (by rw [duties_cell ct (up false c) .bar, hd]; decide) ((amount_cell ct (up false c) .bar 0 (bd false)).trans rfl) 1
      (O₀ := O + tallyAt (cell (up false c) .bar) 1 1) O rfl) $$ [Ho Ht0 Hp0]
  · isplitr; · iapply (inv_cell ct κ ν (up false c) .bar); iexact HI
    isplitl [Ho]; · iexact Ho
    isplitl [Ht0]; · iexact Ht0
    isplitl [Hp0]
    · rw [payload_cell ct (up false c) .bar]
      iapply (Entails.of_eq (show barPay (F := F) false (up false c) = payK ct (up false c) .bar 0 (bd false) from rfl))
      iexact Hp0
    iapply (rch_cell (up false c) .bar); iexact HR
  iintro Ho
  iapply (Rounds.wp_wait_rest_token 𝒱₀ ER (Rd ct) (c : Thread nD τ) none (κ := κ (c, .bar)) (wpE_semWait_eq 𝒱₀ (c : Thread nD τ) none Set.univ)
    (Set.mem_univ _) 1 (O := O) (W := W) (R := 0) (m := 0) (T := ∅) (by rw [expect_cell ct c .bar, hd]; rfl)) $$ [Hc Ho Hat]
  · isplitr; · iapply (inv_cell ct κ ν c .bar); iexact HI
    isplitl [Hc]; · iexact Hc
    isplitl [Ho]; · iexact Ho
    isplitr; · iapply (inv_wait ct κ ν c .bar 1 (by omega) O hO); iexact HI
    iexact Hat
  iintro ⟨Ho, Hat, -, Hp⟩
  ihave Hp := (Entails.of_eq (rest_bar ct c)) $$ Hp
  rw [wp_ret]; imodintro
  iapply HQ
  isplitl [Ho]; · iexists _; iexact Ho
  isplitl [Hat]; · iexact Hat
  isplitl [Hp]; · iexact Hp
  isplitl [Hr1] <;> iassumption

/-! ### The inputs, the first copies and the first stores -/

/-- What a device starts from: its staged inputs. -/
structure Ins (F : FTy → Type) where
  x : FVec F S2048x512 .bf16
  w : FVec F S512x128 .bf16
  i : IVec S2048x1 32
  e : FVec F S4x512x1024 .bf16
  p : FVec F S512x1024 .bf16

/-- Expert `g`'s weights. -/
def exp0 (e : FVec F S4x512x1024 .bf16) : FVec F S1x512x1024 .bf16 :=
  (eM : Memref sig .tc .vmem S4x512x1024 .bf16).view.readAt (Elt F)
    (Rect.unit (s := S4x512x1024) ![0, 0, 0] S1x512x1024.size inb_S4x512x1024_S1x512x1024_0_0_0).toLoadRect e
def exp1 (e : FVec F S4x512x1024 .bf16) : FVec F S1x512x1024 .bf16 :=
  (eM : Memref sig .tc .vmem S4x512x1024 .bf16).view.readAt (Elt F)
    (Rect.unit (s := S4x512x1024) ![1, 0, 0] S1x512x1024.size inb_S4x512x1024_S1x512x1024_1_0_0).toLoadRect e
def exp2 (e : FVec F S4x512x1024 .bf16) : FVec F S1x512x1024 .bf16 :=
  (eM : Memref sig .tc .vmem S4x512x1024 .bf16).view.readAt (Elt F)
    (Rect.unit (s := S4x512x1024) ![2, 0, 0] S1x512x1024.size inb_S4x512x1024_S1x512x1024_2_0_0).toLoadRect e
def exp3 (e : FVec F S4x512x1024 .bf16) : FVec F S1x512x1024 .bf16 :=
  (eM : Memref sig .tc .vmem S4x512x1024 .bf16).view.readAt (Elt F)
    (Rect.unit (s := S4x512x1024) ![3, 0, 0] S1x512x1024.size inb_S4x512x1024_S1x512x1024_3_0_0).toLoadRect e

/-- The block a device contributes. -/
def ctOf (c : Dev nD) (I : Ins F) : FVec F S112x1024 .bf16 :=
  k0_pay37 (contribV c I.x I.w I.i (exp0 I.e) (exp1 I.e) (exp2 I.e) (exp3 I.e))

/-- The shared expert's result. -/
def shOf (I : Ins F) : FVec F S2048x1024 .f32 := k0_pay36 (k0_pay3 I.x) I.p

def insPts (c : Dev nD) (I : Ins F) : sProp 𝕄 :=
  iprop(((xM : Memref sig .tc .vmem S2048x512 .bf16).view.loc (c : Thread nD τ) ↦[Finset.univ]{fullShare} I.x)
    ∗ ((wM : Memref sig .tc .vmem S512x128 .bf16).view.loc (c : Thread nD τ) ↦[Finset.univ]{fullShare} I.w)
    ∗ ((iM : Memref sig .tc .vmem S2048x1 .i32).view.loc (c : Thread nD τ) ↦[Finset.univ]{fullShare} I.i)
    ∗ ((eM : Memref sig .tc .vmem S4x512x1024 .bf16).view.loc (c : Thread nD τ) ↦[Finset.univ]{fullShare} I.e)
    ∗ ((pM : Memref sig .tc .vmem S512x1024 .bf16).view.loc (c : Thread nD τ) ↦[Finset.univ]{fullShare} I.p))

omit [FloatOps F] in
instance barPay_persistent (d : Bool) (c : Dev nD) : BI.Persistent (barPay (F := F) d c) := by unfold barPay; infer_instance

/-- What the copy of half `h` of a device's own block owes. -/
def owe0 (c : Dev nD) (d : Bool) (h : Fin 2) : Owed := tallyAt (cell (dn d c) (.recv d (sl 0) h)) (2 * 0 + 2) N

def credS (c : Dev nD) (d : Bool) (h : Fin 2) : sProp 𝕄 := cred (tallyAt (cell c (.send d h)) 0 N)

/-- The first copy of half `h` in ring `d`. -/
theorem wp_copy0 (c n : Dev nD) (d : Bool) (hn : n = dn d c) (h : Fin 2) (O : Owed) (Q : PUnit → sProp 𝕄) :
    iprop(Inv ct κ ν ∗ Rch (F := F) ∗ barPay (F := F) d c ∗ srcAt c h (srcShare d) (ct c) ∗ sendRes (F := F) c d h 0
      ∗ owesE c (O + owe0 c d h) ∗ ((owesE c O ∗ credS (F := F) c d h) -∗ Q ⟨⟩))
      ⊢ (WPc c) (sendP d (sendV h) (sendV_words h) 0 h n) Q := by
  have h0 : fact (F := F) d c 0 ⊢ factH (F := F) d c 0 0 := by
    unfold fact
    iintro ⟨H, -⟩; iexact H
  have h1 : fact (F := F) d c 0 ⊢ factH (F := F) d c 0 1 := by
    unfold fact
    iintro ⟨-, H⟩; iexact H
  have hf : barPay (F := F) d c ⊢ factH (F := F) d c 0 h := by
    unfold barPay
    refine BI.Entails.trans (heard_elim (Φ := fun j => fact (F := F) d c j) (e := 0) (by decide)) ?_
    fin_cases h
    · exact h0
    · exact h1
  unfold owe0 credS srcAt
  iintro ⟨#HI, #HR, #Hb, Hs, Hr, Ho, HQ⟩
  iapply (wp_copy ct κ ν c n d hn h 0 (by have := hops_ge d; omega) (sendV h) (sendV_words h) (srcShare d) (ct c)
    ((read_sendV h (ct c)).trans (by rw [ow_zero])) (BI.Entails.refl _) O Q)
  isplitr; · iexact HI
  isplitr; · iapply hf; iexact Hb
  isplitl [Hs]; · iexact Hs
  isplitl [Ho]; · iexact Ho
  isplitr; · iapply (rch_cell c (.send d h)); iexact HR
  isplitl [Hr]; · iexact Hr
  iexact HQ

theorem wp_copyOp (c n : Dev nD) (d : Bool) (hn : n = dn d c) (h : Fin 2) (O : Owed) (Q : PUnit → sProp 𝕄) :
    iprop(Inv ct κ ν ∗ Rch (F := F) ∗ barPay (F := F) d c ∗ srcAt c h (srcShare d) (ct c) ∗ sendRes (F := F) c d h 0
      ∗ owesE c (O + owe0 c d h) ∗ ((owesE c O ∗ credS (F := F) c d h) -∗ Q ⟨⟩))
      ⊢ (WPc c) (.op (.enqueueDma (sendV h) (.remote (Dev.tc n) (slotV d 0 h) (.dma (sendS d h))) (.dma (recvS d 0 h))
    (sendV_words h) (slotV_words d 0 h) ⟨⟨rfl, Or.inl rfl⟩, trivial⟩) .ret) Q := wp_copy0 ct κ ν c n d hn h O Q

set_option maxHeartbeats 1600000 in
theorem wp_start (c right left : Dev nD) (hr : right = dn true c) (hl : left = dn false c) (I : Ins F) (hct : ct c = ctOf c I)
    (O : Owed) (k : IVec S2048x1 32 → KProg) (Q : PUnit → sProp 𝕄) :
    iprop(Inv ct κ ν ∗ Rch (F := F) ∗ (barPay (F := F) true c ∗ barPay (F := F) false c) ∗ insPts c I
      ∗ (∃ v, sPts (F := F) c v) ∗ (∃ f, gPts (F := F) c f) ∗ (∃ o, oPts (F := F) c o)
      ∗ ((sendRes (F := F) c true 0 0 ∗ sendRes (F := F) c true 1 0) ∗ (sendRes (F := F) c false 0 0 ∗ sendRes (F := F) c false 1 0))
      ∗ owesE c (O + owe0 c false 1 + owe0 c true 1 + owe0 c false 0 + owe0 c true 0)
      ∗ ((insPts c I ∗ owesE c O ∗ ((credS (F := F) c true 0 ∗ credS (F := F) c true 1) ∗ (credS (F := F) c false 0 ∗ credS (F := F) c false 1))
          ∗ (∃ f, ⌜agree ct c 0 f⌝ ∗ gPts c f) ∗ oPts c (shOf I)) -∗ (WPc c) (k (colV (F := F) I.i c)) Q))
      ⊢ (WPc c) (startP c right left k) Q := by
  have hx : (xM : Memref sig .tc .vmem S2048x512 .bf16).view.readAt (Elt F)
      (Rect.unit (s := S2048x512) ![0, 0] S2048x512.size inb_S2048x512_S2048x512_0_0).toLoadRect I.x = I.x :=
    Memref.readAt_unit_zero (Elt F) cc0_stg0_0 hz2 _ I.x
  have hi : (iM : Memref sig .tc .vmem S2048x1 .i32).view.readAt (Elt F)
      (Rect.unit (s := S2048x1) ![0, 0] S2048x1.size inb_S2048x1_S2048x1_0_0).toLoadRect I.i = I.i :=
    Memref.readAt_unit_zero (Elt F) cc0_stg2_0 hz2 _ I.i
  have hw : (wM : Memref sig .tc .vmem S512x128 .bf16).view.readAt (Elt F)
      (Rect.unit (s := S512x128) ![0, 0] S512x128.size inb_S512x128_S512x128_0_0).toLoadRect I.w = I.w :=
    Memref.readAt_unit_zero (Elt F) cc0_stg1_0 hz2 _ I.w
  have hp : (pM : Memref sig .tc .vmem S512x1024 .bf16).view.readAt (Elt F)
      (Rect.unit (s := S512x1024) ![0, 0] S512x1024.size inb_S512x1024_S512x1024_0_0).toLoadRect I.p = I.p :=
    Memref.readAt_unit_zero (Elt F) cc0_stg4_0 hz2 _ I.p
  have e0 : (eM : Memref sig .tc .vmem S4x512x1024 .bf16).view.readAt (Elt F)
      (Rect.unit (s := S4x512x1024) ![0, 0, 0] ![1, 512, 1024] inb_S4x512x1024_S1x512x1024_0_0_0).toLoadRect I.e = exp0 I.e := rfl
  have e1 : (eM : Memref sig .tc .vmem S4x512x1024 .bf16).view.readAt (Elt F)
      (Rect.unit (s := S4x512x1024) ![1, 0, 0] ![1, 512, 1024] inb_S4x512x1024_S1x512x1024_1_0_0).toLoadRect I.e = exp1 I.e := rfl
  have e2 : (eM : Memref sig .tc .vmem S4x512x1024 .bf16).view.readAt (Elt F)
      (Rect.unit (s := S4x512x1024) ![2, 0, 0] ![1, 512, 1024] inb_S4x512x1024_S1x512x1024_2_0_0).toLoadRect I.e = exp2 I.e := rfl
  have e3 : (eM : Memref sig .tc .vmem S4x512x1024 .bf16).view.readAt (Elt F)
      (Rect.unit (s := S4x512x1024) ![3, 0, 0] ![1, 512, 1024] inb_S4x512x1024_S1x512x1024_3_0_0).toLoadRect I.e = exp3 I.e := rfl
  have ec : k0_pay37 (contribV c I.x I.w I.i (exp0 I.e) (exp1 I.e) (exp2 I.e) (exp3 I.e)) = ctOf c I := rfl
  have eo : k0_pay36 (k0_pay3 I.x) I.p = shOf I := rfl
  have hsM (v u : FVec F S112x1024 .bf16) : (((sM : Memref sig .tc .vmem S112x1024 .bf16).access (Rect.unit (s := S112x1024) ![0, 0] S112x1024.size inb_S112x1024_S112x1024_0_0)).loc (c : Thread nD τ) ↦[Finset.univ]{fullShare}
      ((sM : Memref sig .tc .vmem S112x1024 .bf16).access (Rect.unit (s := S112x1024) ![0, 0] S112x1024.size inb_S112x1024_S112x1024_0_0)).write (Elt F) v u Finset.univ : sProp 𝕄)
      ⊢ sPts (F := F) c u := by
    unfold sPts
    have e : ((Memref.whole cc0_scratch1 : Memref sig .tc .vmem S112x1024 _).access (Rect.unit (s := S112x1024) ![0, 0] S112x1024.size inb_S112x1024_S112x1024_0_0)).write (Elt F) v u Finset.univ = u :=
      Memref.write_access_unit_zero_univ (Elt F) cc0_scratch1 hz2 inb_S112x1024_S112x1024_0_0 v u
    rw [e]
  have hoM (v u : FVec F S2048x1024 .f32) : (((oM : Memref sig .tc .vmem S2048x1024 .f32).access (Rect.unit (s := S2048x1024) ![0, 0] S2048x1024.size inb_S2048x1024_S2048x1024_0_0)).loc (c : Thread nD τ) ↦[Finset.univ]{fullShare}
      ((oM : Memref sig .tc .vmem S2048x1024 .f32).access (Rect.unit (s := S2048x1024) ![0, 0] S2048x1024.size inb_S2048x1024_S2048x1024_0_0)).write (Elt F) v u Finset.univ : sProp 𝕄)
      ⊢ oPts (F := F) c u := by
    unfold oPts
    have e : ((Memref.whole cc0_stg5_0 : Memref sig .tc .vmem S2048x1024 _).access (Rect.unit (s := S2048x1024) ![0, 0] S2048x1024.size inb_S2048x1024_S2048x1024_0_0)).write (Elt F) v u Finset.univ = u :=
      Memref.write_access_unit_zero_univ (Elt F) cc0_stg5_0 hz2 inb_S2048x1024_S2048x1024_0_0 v u
    rw [e]
  have hgE (f : FVec F S3584x1024 .bf16) : gPts (F := F) c f
      ⊢ ((View.whole cc0_scratch0 : View sig .tc _ _ _).loc (c : Thread nD τ) ↦[Finset.univ]{fullShare} f : sProp 𝕄) := BI.Entails.refl _
  have hoE (o : FVec F S2048x1024 .f32) : oPts (F := F) c o
      ⊢ ((View.whole cc0_stg5_0 : View sig .tc _ _ _).loc (c : Thread nD τ) ↦[Finset.univ]{fullShare} o : sProp 𝕄) := BI.Entails.refl _
  have hgM (f : FVec F S3584x1024 .bf16) : (((gM : Memref sig .tc .vmem S3584x1024 .bf16).access (rowR 31)).loc (c : Thread nD τ) ↦[Finset.univ]{fullShare}
      ((gM : Memref sig .tc .vmem S3584x1024 .bf16).access (rowR 31)).write (Elt F) f (ct c) Finset.univ : sProp 𝕄)
      ⊢ gPts (F := F) c (putRow 31 f (ct c)) := BI.Entails.refl _
  unfold startP insPts sPts gPts oPts
  iintro ⟨#HI, #HR, ⟨#Hb1, #Hb0⟩, ⟨Hx, Hw, Hi, He, Hp⟩, ⟨%v, Hs⟩, ⟨%f, Hg⟩, ⟨%o, Hout⟩, ⟨⟨Hr10, Hr11⟩, ⟨Hr00, Hr01⟩⟩, Ho, HQ⟩
  simp only [wp_bind]
  simp only [Prog.lift]
  iapply (wp_load 𝒱₀ (c : Thread nD τ) none Set.univ (m := xM) (Finset.subset_univ _)) $$ Hx; iintro Hx
  rw [wp_ret]; imodintro
  iapply (wp_load 𝒱₀ (c : Thread nD τ) none Set.univ (m := iM) (Finset.subset_univ _)) $$ Hi; iintro Hi
  rw [wp_ret]; imodintro
  iapply (wp_load 𝒱₀ (c : Thread nD τ) none Set.univ (m := wM) (Finset.subset_univ _)) $$ Hw; iintro Hw
  rw [wp_ret]; imodintro
  iapply (wp_load 𝒱₀ (c : Thread nD τ) none Set.univ (m := eM) (Finset.subset_univ _)) $$ He; iintro He
  rw [wp_ret]; imodintro
  iapply (wp_load 𝒱₀ (c : Thread nD τ) none Set.univ (m := eM) (Finset.subset_univ _)) $$ He; iintro He
  rw [wp_ret]; imodintro
  iapply (wp_load 𝒱₀ (c : Thread nD τ) none Set.univ (m := eM) (Finset.subset_univ _)) $$ He; iintro He
  rw [wp_ret]; imodintro
  iapply (wp_load 𝒱₀ (c : Thread nD τ) none Set.univ (m := eM) (Finset.subset_univ _)) $$ He; iintro He
  rw [wp_ret]; imodintro
  iapply (wp_load 𝒱₀ (c : Thread nD τ) none Set.univ (m := sM) (Finset.subset_univ _)) $$ Hs; iintro Hs
  rw [wp_ret]; imodintro
  rw [hx, hi, hw, e0, e1, e2, e3, ec]
  iapply (wp_store 𝒱₀ (c : Thread nD τ) none Set.univ (m := sM)
    (r := Rect.unit (s := S112x1024) ![0, 0] S112x1024.size inb_S112x1024_S112x1024_0_0) (Mk := Finset.univ) (Finset.subset_univ _)) $$ Hs; iintro Hs
  rw [wp_ret]; imodintro
  ihave Hs := (hsM v (ctOf c I)) $$ Hs
  rw [← hct]
  ihave Hs := (sPts_eq c (ct c)).1 $$ Hs
  icases Hs with ⟨⟨Hs10, Hs00⟩, ⟨Hs11, Hs01⟩⟩
  iapply (wp_copyOp ct κ ν c right true hr 0 (O + owe0 c false 1 + owe0 c true 1 + owe0 c false 0))
  isplitr; · iexact HI
  isplitr; · iexact HR
  isplitr; · iexact Hb1
  isplitl [Hs10]; · iexact Hs10
  isplitl [Hr10]; · iexact Hr10
  isplitl [Ho]; · iexact Ho
  iintro ⟨Ho, Hc10⟩
  iapply (wp_copyOp ct κ ν c left false hl 0 (O + owe0 c false 1 + owe0 c true 1))
  isplitr; · iexact HI
  isplitr; · iexact HR
  isplitr; · iexact Hb0
  isplitl [Hs00]; · iexact Hs00
  isplitl [Hr00]; · iexact Hr00
  isplitl [Ho]; · iexact Ho
  iintro ⟨Ho, Hc00⟩
  iapply (wp_copyOp ct κ ν c right true hr 1 (O + owe0 c false 1))
  isplitr; · iexact HI
  isplitr; · iexact HR
  isplitr; · iexact Hb1
  isplitl [Hs11]; · iexact Hs11
  isplitl [Hr11]; · iexact Hr11
  isplitl [Ho]; · iexact Ho
  iintro ⟨Ho, Hc11⟩
  iapply (wp_copyOp ct κ ν c left false hl 1 (O))
  isplitr; · iexact HI
  isplitr; · iexact HR
  isplitr; · iexact Hb0
  isplitl [Hs01]; · iexact Hs01
  isplitl [Hr01]; · iexact Hr01
  isplitl [Ho]; · iexact Ho
  iintro ⟨Ho, Hc01⟩
  iapply (wp_load 𝒱₀ (c : Thread nD τ) none Set.univ (m := pM) (Finset.subset_univ _)) $$ Hp; iintro Hp
  rw [wp_ret]; imodintro
  iapply (wp_load 𝒱₀ (c : Thread nD τ) none Set.univ (m := oM) (Finset.subset_univ _)) $$ Hout; iintro Hout
  rw [wp_ret]; imodintro
  rw [hp, eo]
  iapply (wp_store 𝒱₀ (c : Thread nD τ) none Set.univ (m := oM)
    (r := Rect.unit (s := S2048x1024) ![0, 0] S2048x1024.size inb_S2048x1024_S2048x1024_0_0) (Mk := Finset.univ) (Finset.subset_univ _)) $$ Hout; iintro Hout
  rw [wp_ret]; imodintro
  ihave Hout := (hoM o (shOf I)) $$ Hout
  iapply (wp_load 𝒱₀ (c : Thread nD τ) none Set.univ (m := gM) (Finset.subset_univ _)) $$ Hg; iintro Hg
  rw [wp_ret]; imodintro
  iapply (wp_store 𝒱₀ (c : Thread nD τ) none Set.univ (m := gM) (r := rowR 31) (Mk := Finset.univ) (Finset.subset_univ _)) $$ Hg; iintro Hg
  rw [wp_ret]; imodintro
  ihave Hg := (hgM f) $$ Hg
  iapply HQ
  isplitl [Hx Hw Hi He Hp]
  · isplitl [Hx]; · iexact Hx
    isplitl [Hw]; · iexact Hw
    isplitl [Hi]; · iexact Hi
    isplitl [He] <;> iassumption
  isplitl [Ho]; · iexact Ho
  isplitl [Hc10 Hc11 Hc00 Hc01]
  · isplitl [Hc10 Hc11]; · (isplitl [Hc10] <;> iassumption)
    isplitl [Hc00] <;> iassumption
  isplitl [Hg]
  · iexists (putRow 31 f (ct c))
    isplitr; · ipureintro; exact agree_first ct c f
    iapply (hgE (putRow 31 f (ct c))); iexact Hg
  iapply (hoE (shOf I)); iexact Hout

end Cert.KernelIdeal.Hand

end
-- ==== Proof.KernelIdeal.Body.lean ====
/-
  The whole body of the kernel on one device.
-/
module

public import proofs.«01_k».proof.Proof.KernelIdeal.Start

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SiteBlocks (L lv)

variable {F : FTy → Type} [FloatOps F]

local notation "𝕄" => MT nD τ sig ℕ (Elt F) ℕ UU ℕ
local notation "KProg" => Prog (TpuEff nD τ sig (Elt F) Λ₀ Proc.tc) PUnit

/-- The weakest precondition of a piece of device `c`'s program. -/
local notation "WPc" c => wp (frame (nD := nD) (τ := τ) (sig := sig) (Val := Elt F) (Ix := ℕ) (Name := ℕ) (U := UU) (Lvl := ℕ)) (wpE (defs₀ (F := F)) 𝒱₀ (c : Thread nD τ) none) Set.univ

variable (ct : Dev nD → FVec F S112x1024 .bf16) (κ : Dev nD × CK → ℕ) (ν : Key → ℕ)

/-! ### A device's cells, one by one -/

/-- Something held of every cell of ring `d`. -/
def ringK (d : Bool) (P : CK → sProp 𝕄) : sProp 𝕄 :=
  iprop(P (.credit d) ∗ P (.send d 0) ∗ P (.send d 1)
    ∗ bigSep Finset.univ (fun k : Fin 3 => P (.recv d k 0)) ∗ bigSep Finset.univ (fun k : Fin 3 => P (.recv d k 1)))

omit [FloatOps F] in
theorem bigSep_CK (P : CK → sProp 𝕄) : bigSep Finset.univ P ⊣⊢ iprop(P .bar ∗ ringK true P ∗ ringK false P) := by
  have e : bigSep Finset.univ P = iprop(P (.bar) ∗ P (.credit true) ∗ P (.send true 0) ∗ P (.send true 1) ∗ P (.recv true 0 0) ∗ P (.recv true 1 0) ∗ P (.recv true 2 0) ∗ P (.recv true 0 1) ∗ P (.recv true 1 1) ∗ P (.recv true 2 1) ∗ P (.credit false) ∗ P (.send false 0) ∗ P (.send false 1) ∗ P (.recv false 0 0) ∗ P (.recv false 1 0) ∗ P (.recv false 2 0) ∗ P (.recv false 0 1) ∗ P (.recv false 1 1) ∗ P (.recv false 2 1)) :=
    (bigSep_univ_eq_bigSepL ([.bar, .credit true, .send true 0, .send true 1, .recv true 0 0, .recv true 1 0, .recv true 2 0, .recv true 0 1, .recv true 1 1, .recv true 2 1, .credit false, .send false 0, .send false 1, .recv false 0 0, .recv false 1 0, .recv false 2 0, .recv false 0 1, .recv false 1 1, .recv false 2 1] : List CK) (by decide) (by decide) P).trans rfl
  rw [e]
  unfold ringK
  rw [Ring.bigSep_fin3, Ring.bigSep_fin3, Ring.bigSep_fin3, Ring.bigSep_fin3]
  constructor
  · iintro ⟨Hb, Htc, Hts0, Hts1, Ht00, Ht10, Ht20, Ht01, Ht11, Ht21, Hfc, Hfs0, Hfs1, Hf00, Hf10, Hf20, Hf01, Hf11, Hf21⟩
    isplitl [Hb]; · iexact Hb
    isplitl [Htc Hts0 Hts1 Ht00 Ht10 Ht20 Ht01 Ht11 Ht21]
    · isplitl [Htc]; · iexact Htc
      isplitl [Hts0]; · iexact Hts0
      isplitl [Hts1]; · iexact Hts1
      isplitl [Ht00 Ht10 Ht20]
      · isplitl [Ht00]; · iexact Ht00
        isplitl [Ht10] <;> iassumption
      isplitl [Ht01]; · iexact Ht01
      isplitl [Ht11] <;> iassumption
    isplitl [Hfc]; · iexact Hfc
    isplitl [Hfs0]; · iexact Hfs0
    isplitl [Hfs1]; · iexact Hfs1
    isplitl [Hf00 Hf10 Hf20]
    · isplitl [Hf00]; · iexact Hf00
      isplitl [Hf10] <;> iassumption
    isplitl [Hf01]; · iexact Hf01
    isplitl [Hf11] <;> iassumption
  · iintro ⟨Hb, ⟨Htc, Hts0, Hts1, ⟨Ht00, Ht10, Ht20⟩, Ht01, Ht11, Ht21⟩, ⟨Hfc, Hfs0, Hfs1, ⟨Hf00, Hf10, Hf20⟩, Hf01, Hf11, Hf21⟩⟩
    isplitl [Hb]; · iexact Hb
    isplitl [Htc]; · iexact Htc
    isplitl [Hts0]; · iexact Hts0
    isplitl [Hts1]; · iexact Hts1
    isplitl [Ht00]; · iexact Ht00
    isplitl [Ht10]; · iexact Ht10
    isplitl [Ht20]; · iexact Ht20
    isplitl [Ht01]; · iexact Ht01
    isplitl [Ht11]; · iexact Ht11
    isplitl [Ht21]; · iexact Ht21
    isplitl [Hfc]; · iexact Hfc
    isplitl [Hfs0]; · iexact Hfs0
    isplitl [Hfs1]; · iexact Hfs1
    isplitl [Hf00]; · iexact Hf00
    isplitl [Hf10]; · iexact Hf10
    isplitl [Hf20]; · iexact Hf20
    isplitl [Hf01]; · iexact Hf01
    isplitl [Hf11]; · iexact Hf11
    iexact Hf21

/-! ### What a device starts with -/

/-- The credit for what the devices around it will do. -/
def credR (c : Dev nD) (d : Bool) : sProp 𝕄 :=
  iprop(bigSep (Finset.Ico 1 (hops d - 2)) (fun e => cred (tallyAt (cell c (.credit d)) (2 * e + 3) 1))
    ∗ bigSep (Finset.Ico 0 (hops d)) (fun j => cred (tallyAt (cell c (.recv d (sl j) 0)) (2 * j + 2) N))
    ∗ bigSep (Finset.Ico 0 (hops d)) (fun j => cred (tallyAt (cell c (.recv d (sl j) 1)) (2 * j + 2) N)))

def creds (c : Dev nD) : sProp 𝕄 :=
  iprop(cred (tallyAt (cell c .bar) 1 2) ∗ credR (F := F) c true ∗ credR (F := F) c false)

/-- The tokens for what it will do itself in ring `d`. -/
def toksR (c : Dev nD) (d : Bool) : sProp 𝕄 :=
  iprop(dutyTok ER (cell (up d c) .bar) 0 (bd d)
    ∗ bigSep (Finset.Ico 1 (hops d - 2)) (fun e => dutyTok ER (cell (up d c) (.credit d)) 0 e)
    ∗ bigSep (Finset.Ico 0 (hops d)) (fun j => sendRes (F := F) c d 0 j)
    ∗ bigSep (Finset.Ico 0 (hops d)) (fun j => sendRes (F := F) c d 1 j)
    ∗ reads (F := F) c d 0)

/-- All that is one device's alone. -/
def mine (c : Dev nD) : sProp 𝕄 :=
  iprop(bigSep Finset.univ (fun k : CK => atPos ER (cell c k) 0 ∅ 0) ∗ toksR (F := F) c true ∗ toksR (F := F) c false)

/-- What is left to do once the first copies are on their way. -/
def owedRest (c : Dev nD) : Owed := owS c true 1 + owC c true 0 + (owS c false 1 + owC c false 0)

def owedCopy (c : Dev nD) : Owed := owedRest c + owe0 c false 1 + owe0 c true 1 + owe0 c false 0 + owe0 c true 0

/-- What a device owes at the start. -/
def owed0 (c : Dev nD) : Owed := owedCopy c + tallyAt (cell (up false c) .bar) 1 1 + tallyAt (cell (up true c) .bar) 1 1

theorem OK_owe0 (c : Dev nD) (d : Bool) (h : Fin 2) : OK 1 (owe0 c d h) := by
  unfold owe0
  exact OK_tally _ _ (by decide) (by decide)

theorem OK_owedCopy (c : Dev nD) : OK 1 (owedCopy c) := by
  have hR : OK 1 (owedRest c) := by
    unfold owedRest
    exact OK_add (OK_add (OK_owS c true 1 1 (by omega)) (OK_owC c true 0 1 (by omega))) (OK_add (OK_owS c false 1 1 (by omega)) (OK_owC c false 0 1 (by omega)))
  unfold owedCopy
  exact OK_add (OK_add (OK_add (OK_add hR (OK_owe0 c false 1)) (OK_owe0 c true 1)) (OK_owe0 c false 0)) (OK_owe0 c true 0)

/-- A ring before its first step. -/
theorem ring_start (c : Dev nD) (d : Bool) :
    iprop(Rch (F := F) ∗ barPay (F := F) d c ∗ ringK d (fun k => atPos ER (cell c k) 0 ∅ 0) ∗ credR (F := F) c d
      ∗ bigSep (Finset.Ico 1 (hops d - 2)) (fun e => dutyTok ER (cell (up d c) (.credit d)) 0 e)
      ∗ bigSep (Finset.Ico 1 (hops d)) (fun j => sendRes (F := F) c d 0 j)
      ∗ bigSep (Finset.Ico 1 (hops d)) (fun j => sendRes (F := F) c d 1 j)
      ∗ reads (F := F) c d 1 ∗ credS (F := F) c d 0 ∗ credS (F := F) c d 1)
      ⊢ ringSt ct c d 0 := by
  have h15 := hops_ge d
  have hat (h : Fin 2) : bigSep Finset.univ (fun k : Fin 3 => (atPos ER (cell c (.recv d k h)) 0 ∅ 0 : sProp 𝕄))
      = bigSep (Finset.Ico 0 (0 + 3)) (fun j => atPos ER (cell c (.recv d (sl j) h)) (j / 3) ∅ 0) :=
    bigSep_first _ _ fun j hj => by rw [Nat.div_eq_of_lt hj]
  have hrd (h : Fin 2) : bigSep Finset.univ (fun k : Fin 3 => (readerAt ES ((c, d, k, h) : Key) 1 : sProp 𝕄))
      = bigSep (Finset.Ico 0 (0 + 3)) (fun j => readerAt ES ((c, d, sl j, h) : Key) (j / 3 + 1)) :=
    bigSep_first _ _ fun j hj => by rw [Nat.div_eq_of_lt hj]
  have hemp : (iprop(emp) : sProp 𝕄) ⊢ heard (creditPay (F := F) d c) ∅ := Entails.of_eq bigSep_empty.symm
  have hemp' : (iprop(emp) : sProp 𝕄) ⊢ heard (fun e => fact (F := F) d (up d c) (e + 2)) ∅ := Entails.of_eq bigSep_empty.symm
  have hcore (h : Fin 2) : iprop(Rch (F := F) ∗ bigSep Finset.univ (fun k : Fin 3 => (atPos ER (cell c (.recv d k h)) 0 ∅ 0 : sProp 𝕄))
      ∗ atPos ER (cell c (.send d h)) 0 ∅ 0 ∗ bigSep (Finset.Ico 0 (hops d)) (fun j => cred (tallyAt (cell c (.recv d (sl j) h)) (2 * j + 2) N))
      ∗ bigSep (Finset.Ico 1 (hops d)) (fun j => sendRes (F := F) c d h j) ∗ credS (F := F) c d h) ⊢ core ct c d h 0 := by
    unfold core
    rw [hat]
    iintro ⟨#HR, Hat, Hs, Hc, Hr, Hcur⟩
    isplitl [Hat]; · iexact Hat
    isplitl [Hs]; · iexact Hs
    isplitl [Hc]; · iexact Hc
    isplitl [Hr]; · iexact Hr
    isplitr; · iapply (rch_cell c (.recv d (sl (0 + 2)) h)); iexact HR
    iapply (Entails.of_eq (show credS (F := F) c d h = cur ct c d h 0 from rfl))
    iexact Hcur
  have hold (h : Fin 2) : bigSep Finset.univ (fun k : Fin 3 => (readerAt ES ((c, d, k, h) : Key) 1 : sProp 𝕄)) ⊢ old ct c d h 0 := by
    unfold old
    rw [hrd, show min (0 - 1) (hops d - 3) = 0 by omega, bigSep_Ico_emp (show 0 - 1 ≤ hops d - 3 by omega)]
    iintro H
    isplitl [H]; · iexact H
    iempintro
  unfold ringK credR reads ringSt crd say creditSt
  rw [bigSep_halves]
  iintro ⟨#HR, #Hbar, ⟨HaC, HaS0, HaS1, HaR0, HaR1⟩, ⟨HcC, HcR0, HcR1⟩, HtC, HtS0, HtS1, ⟨Hr0, Hr1⟩, Hcur0, Hcur1⟩
  isplitl [HaR0 HaS0 HcR0 HtS0 Hcur0]
  · iapply (hcore 0)
    isplitr; · iexact HR
    isplitl [HaR0]; · iexact HaR0
    isplitl [HaS0]; · iexact HaS0
    isplitl [HcR0]; · iexact HcR0
    isplitl [HtS0] <;> iassumption
  isplitl [HaR1 HaS1 HcR1 HtS1 Hcur1]
  · iapply (hcore 1)
    isplitr; · iexact HR
    isplitl [HaR1]; · iexact HaR1
    isplitl [HaS1]; · iexact HaS1
    isplitl [HcR1]; · iexact HcR1
    isplitl [HtS1] <;> iassumption
  isplitl [Hr0]; · iapply (hold 0); iexact Hr0
  isplitl [Hr1]; · iapply (hold 1); iexact Hr1
  isplitl [HaC HcC]
  · isplitl [HaC]
    · iexists ∅
      isplitr
      · ipureintro
        refine ⟨Finset.empty_subset _, ?_⟩
        rw [Finset.sdiff_empty]
        unfold taken
        omega
      isplitl [HaC]
      · iapply (Entails.of_eq (show (atPos ER (cell c (.credit d)) 0 ∅ 0 : sProp 𝕄) = atPos ER (cell c (.credit d)) 0 ∅ (taken d 0) by
          rw [show taken d 0 = 0 by unfold taken; omega]))
        iexact HaC
      iapply hemp; iempintro
    isplitl [HcC]; · iexact HcC
    iapply (Entails.of_eq (show barPay (F := F) d c = heard (fun j => fact (F := F) d c j) (Finset.range 3) from rfl))
    iexact Hbar
  isplitl [HtC]; · iexact HtC
  isplitr; · iapply (rch_cell (up d c) (.credit d)); iexact HR
  iapply hemp'; iempintro

theorem first_send (c : Dev nD) (d : Bool) (h : Fin 2) :
    bigSep (Finset.Ico 0 (hops d)) (fun j => sendRes (F := F) c d h j)
      ⊢ iprop(sendRes (F := F) c d h 0 ∗ bigSep (Finset.Ico 1 (hops d)) (fun j => sendRes (F := F) c d h j)) :=
  Entails.of_eq (bigSep_Ico_succ_bot (show 0 < hops d by have := hops_ge d; omega) (fun j => sendRes (F := F) c d h j))

/-- What a device needs at the start to run the body, but its inputs. -/
def spare (c : Dev nD) : sProp 𝕄 :=
  iprop((bufPts (F := F) c true ∗ bufPts (F := F) c false) ∗ (∃ v, sPts (F := F) c v) ∗ (∃ f, gPts (F := F) c f))

theorem fin_body (c : Dev nD) (col : IVec S2048x1 32) (o₀ : FVec F S2048x1024 .f32) :
    iprop(Inv ct κ ν ∗ atPos ER (cell c .bar) 1 ∅ 0 ∗ stepSt ct col o₀ c 16)
      ⊢ |={Set.univ}=> iprop(spare (F := F) c ∗ oPts c (outS ct col o₀ c 4) ∗ owesE c 0
        ∗ bigSep Finset.univ (fun k : CK => semVal (cell c k) 0)) := by
  have ho : owS c true (16 + 1) + owC c true 16 + (owS c false (min 16 15 + 1) + owC c false (min 16 15)) = 0 := by
    unfold owS owC
    rw [Finset.Ico_eq_empty_of_le (show hops true ≤ 16 + 1 by decide), Finset.Ico_eq_empty_of_le (show hops true - 2 ≤ max 1 16 by decide),
      Finset.Ico_eq_empty_of_le (show hops false ≤ min 16 15 + 1 by decide), Finset.Ico_eq_empty_of_le (show hops false - 2 ≤ max 1 (min 16 15) by decide)]
    simp only [Finset.sum_empty, add_zero]
  unfold stepSt spare
  rw [ho]
  iintro ⟨#HI, Hbar, Ht, Hf, Ho, ⟨%f, -, Hg⟩, Hout⟩
  imod (ring_end ct κ ν c true) $$ [Ht] with ⟨⟨Hst0, Hst1⟩, Hbt, Hzt⟩
  · isplitr; · iexact HI
    iexact Ht
  imod (ring_end ct κ ν c false) $$ [Hf] with ⟨⟨Hsf0, Hsf1⟩, Hbf, Hzf⟩
  · isplitr; · iexact HI
    iexact Hf
  imod (cell_end ct κ ν c .bar 1 (fun r hr => if_neg (by omega))) $$ [Hbar] with Hz
  · isplitr; · iexact HI
    iexact Hbar
  imodintro
  isplitl [Hst0 Hst1 Hsf0 Hsf1 Hbt Hbf Hg]
  · isplitl [Hbt Hbf]; · (isplitl [Hbt] <;> iassumption)
    isplitl [Hst0 Hst1 Hsf0 Hsf1]
    · iexists (ct c)
      iapply (sPts_eq c (ct c)).2
      isplitl [Hst0 Hsf0]; · (isplitl [Hst0] <;> iassumption)
      isplitl [Hst1] <;> iassumption
    iexists f; iexact Hg
  isplitl [Hout]; · iexact Hout
  isplitl [Ho]; · iexact Ho
  iapply (bigSep_CK (fun k : CK => (semVal (cell c k) 0 : sProp 𝕄))).2
  isplitl [Hz]; · iexact Hz
  isplitl [Hzt]
  · iapply (Entails.of_eq (show ringZero (F := F) c true = ringK true (fun k : CK => semVal (cell c k) 0) from rfl)); iexact Hzt
  iapply (Entails.of_eq (show ringZero (F := F) c false = ringK false (fun k : CK => semVal (cell c k) 0) from rfl)); iexact Hzf

/-- A device's result. -/
def outOf (c : Dev nD) (I : Ins F) : FVec F S2048x1024 .f32 := outS ct (colV (F := F) I.i c) (shOf I) c 4

set_option maxHeartbeats 800000 in
/-- The body, from start to end. -/
theorem wp_body (c : Dev nD) (I : Ins F) (hct : ct c = ctOf c I) (Q : PUnit → sProp 𝕄) :
    iprop(Inv ct κ ν ∗ Rch (F := F) ∗ mine (F := F) c ∗ creds (F := F) c ∗ insPts c I ∗ spare (F := F) c ∗ (∃ o, oPts (F := F) c o)
      ∗ owesE c (owed0 c)
      ∗ ((insPts c I ∗ spare (F := F) c ∗ oPts c (outOf ct c I) ∗ owesE c 0
          ∗ bigSep Finset.univ (fun k : CK => semVal (cell c k) 0)) -∗ Q ⟨⟩))
      ⊢ (WPc c) bodyP Q := by
  have hr : downRaw true c = dn true c := downRaw_eq true c
  have hl : downRaw false c = dn false c := downRaw_eq false c
  unfold mine creds toksR
  iintro ⟨#HI, #HR, ⟨Hats, ⟨Htb1, Htc1, Hs10, Hs11, Hrd1⟩, Htb0, Htc0, Hs00, Hs01, Hrd0⟩, ⟨HcB, HcR1, HcR0⟩, Hin, Hsp, Hout, Ho, HQ⟩
  ihave Hsp := (Entails.of_eq (show spare (F := F) c = iprop((bufPts (F := F) c true ∗ bufPts (F := F) c false) ∗ (∃ v, sPts (F := F) c v) ∗ (∃ f, gPts (F := F) c f)) from rfl)) $$ Hsp
  icases Hsp with ⟨Hbufs, Hsrc, Hg⟩
  ihave Hats := (bigSep_CK (fun k : CK => (atPos ER (cell c k) 0 ∅ 0 : sProp 𝕄))).1 $$ Hats
  icases Hats with ⟨HaB, HaR1, HaR0⟩
  unfold bodyP
  simp only [Prog.lift, Prog.bind_op, Prog.bind_ret, wp_deviceId]
  rw [wp_bind]
  unfold owed0
  iapply (wp_shake ct κ ν c _ _ hr hl (owedCopy c) (OK_owedCopy c))
  isplitr; · iexact HI
  isplitr; · iexact HR
  isplitl [Hbufs]; · iexact Hbufs
  isplitl [Hrd1 Hrd0]; · (isplitl [Hrd1] <;> iassumption)
  isplitl [Htb1 Htb0]; · (isplitl [Htb1] <;> iassumption)
  isplitl [Ho]; · iexact Ho
  isplitl [HcB]; · iexact HcB
  isplitl [HaB]; · iexact HaB
  iintro ⟨Ho, HaB, ⟨#Hp1, #Hp0⟩, Hrd1, Hrd0⟩
  unfold owedCopy
  ihave Hs10 := (first_send (F := F) c true 0) $$ Hs10
  icases Hs10 with ⟨Hf10, Hs10⟩
  ihave Hs11 := (first_send (F := F) c true 1) $$ Hs11
  icases Hs11 with ⟨Hf11, Hs11⟩
  ihave Hs00 := (first_send (F := F) c false 0) $$ Hs00
  icases Hs00 with ⟨Hf00, Hs00⟩
  ihave Hs01 := (first_send (F := F) c false 1) $$ Hs01
  icases Hs01 with ⟨Hf01, Hs01⟩
  iapply (wp_start ct κ ν c _ _ hr hl I hct (owedRest c))
  isplitr; · iexact HI
  isplitr; · iexact HR
  isplitr
  · isplitr; · iexact Hp1
    iexact Hp0
  isplitl [Hin]; · iexact Hin
  isplitl [Hsrc]; · iexact Hsrc
  isplitl [Hg]; · iexact Hg
  isplitl [Hout]; · iexact Hout
  isplitl [Hf10 Hf11 Hf00 Hf01]
  · isplitl [Hf10 Hf11]; · (isplitl [Hf10] <;> iassumption)
    isplitl [Hf00] <;> iassumption
  isplitl [Ho]; · iexact Ho
  iintro ⟨Hin, Ho, ⟨⟨Hc10, Hc11⟩, Hc00, Hc01⟩, Hg, Hout⟩
  iapply (wp_fupd (frame (nD := nD) (τ := τ) (sig := sig) (Val := Elt F) (Ix := ℕ) (Name := ℕ) (U := UU) (Lvl := ℕ)))
  iapply (wp_steps ct κ ν (colV (F := F) I.i c) (shOf I) c _ _ hr hl 16 (le_refl _))
  isplitr; · iexact HI
  isplitl [Hrd1 Hrd0 HcR1 HcR0 HaR1 HaR0 Htc1 Htc0 Hs10 Hs11 Hs00 Hs01 Hc10 Hc11 Hc00 Hc01 Hg Hout Ho]
  · unfold stepSt
    isplitl [Hrd1 HcR1 HaR1 Htc1 Hs10 Hs11 Hc10 Hc11]
    · iapply (ring_start ct c true)
      isplitr; · iexact HR
      isplitr; · iexact Hp1
      isplitl [HaR1]; · iexact HaR1
      isplitl [HcR1]; · iexact HcR1
      isplitl [Htc1]; · iexact Htc1
      isplitl [Hs10]; · iexact Hs10
      isplitl [Hs11]; · iexact Hs11
      isplitl [Hrd1]; · iexact Hrd1
      isplitl [Hc10] <;> iassumption
    isplitl [Hrd0 HcR0 HaR0 Htc0 Hs00 Hs01 Hc00 Hc01]
    · iapply (ring_start ct c false)
      isplitr; · iexact HR
      isplitr; · iexact Hp0
      isplitl [HaR0]; · iexact HaR0
      isplitl [HcR0]; · iexact HcR0
      isplitl [Htc0]; · iexact Htc0
      isplitl [Hs00]; · iexact Hs00
      isplitl [Hs01]; · iexact Hs01
      isplitl [Hrd0]; · iexact Hrd0
      isplitl [Hc00] <;> iassumption
    isplitl [Ho]; · iexact Ho
    isplitl [Hg]; · iexact Hg
    iexact Hout
  iintro Hst
  imod (fin_body ct κ ν c (colV (F := F) I.i c) (shOf I)) $$ [HaB Hst] with ⟨Hsp, Hout, Ho, Hz⟩
  · isplitr; · iexact HI
    isplitl [HaB] <;> iassumption
  imodintro
  iapply HQ
  isplitl [Hin]; · iexact Hin
  isplitl [Hsp]; · iexact Hsp
  isplitl [Hout]; · iexact Hout
  isplitl [Ho] <;> iassumption

end Cert.KernelIdeal.Hand

end
-- ==== Proof.KernelIdeal.Deal.lean ====
/-
  What each device starts from, dealt from what is made at the launch: the rings' cells and their tokens,
  the landing slots, and the credit of what the devices owe one another.
-/
module

public import proofs.«01_k».proof.Proof.KernelIdeal.Body
public import Idealize.ShloMosaic.Lib.Pipeline.Launch
public import Idealize.ShloMosaic.Lib.Pipeline.Kit

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (launchCred launchCred_add launchCred_sum launchCred_tallyAt)
open Idealize.ShloMosaic.Rounds Idealize.ShloMosaic.Release
open Idealize.ShloMosaic.SiteBlocks (L lv)

variable {F : FTy → Type} [FloatOps F]

local notation "𝕄" => MT nD τ sig ℕ (Elt F) ℕ UU ℕ
local notation "KProg" => Prog (TpuEff nD τ sig (Elt F) Λ₀ Proc.tc) PUnit

/-- The weakest precondition of a piece of device `c`'s program. -/
local notation "WPc" c => wp (frame (nD := nD) (τ := τ) (sig := sig) (Val := Elt F) (Ix := ℕ) (Name := ℕ) (U := UU) (Lvl := ℕ)) (wpE (defs₀ (F := F)) 𝒱₀ (c : Thread nD τ) none) Set.univ

variable (ct : Dev nD → FVec F S112x1024 .bf16) (κ : Dev nD × CK → ℕ) (ν : Key → ℕ)

/-! ### Tokens -/

/-- A family over a finite set gives the family over any other that reindexes into it. -/
theorem pick {I J : Type} [DecidableEq I] [DecidableEq J] {s : Finset I} (t : Finset J) (f : J → I) (inj : Set.InjOn f t)
    (sub : ∀ j ∈ t, f j ∈ s) (Φ : I → sProp 𝕄) : bigSep s Φ ⊢ bigSep t (fun j => Φ (f j)) := by
  rw [← bigSep_image_of_injOn inj]
  exact bigSep_subset fun x mem => by obtain ⟨j, among, rfl⟩ := Finset.mem_image.mp mem; exact sub j among

theorem bigSep_two (P : Bool → sProp 𝕄) : bigSep Finset.univ P = iprop(P true ∗ P false) :=
  (bigSep_univ_eq_bigSepL ([true, false] : List Bool) (by decide) (by decide) P).trans rfl

theorem bigSep_pair (P : Fin 2 → sProp 𝕄) : bigSep Finset.univ P = iprop(P 0 ∗ P 1) :=
  (bigSep_univ_eq_bigSepL ([0, 1] : List (Fin 2)) (by decide) (by decide) P).trans rfl

abbrev Mark : Type := Fin 16 × Fin 16

def markOf (x : (Dev nD × CK) × Mark) : GSem nD τ sig × ℕ × ℕ := (cell x.1.1 x.1.2, x.2.1.val, x.2.2.val)

theorem markOf_injective : Function.Injective markOf := by
  rintro ⟨⟨c, k⟩, r, e⟩ ⟨⟨c', k'⟩, r', e'⟩ h
  have h1 : (c, k) = (c', k') := cell_injective (congrArg Prod.fst h)
  have h2 : r = r' := Fin.ext (congrArg (fun x : GSem nD τ sig × ℕ × ℕ => x.2.1) h)
  have h3 : e = e' := Fin.ext (congrArg (fun x : GSem nD τ sig × ℕ × ℕ => x.2.2) h)
  rw [h1, h2, h3]

/-- The rings' cells, -/
def ringCells : Finset (GSem nD τ sig) := Finset.univ.map ⟨_, cell_injective⟩
/-- and tokens enough for all that is done at them. -/
def ringToks : Finset (GSem nD τ sig × ℕ × ℕ) := Finset.univ.map ⟨markOf, markOf_injective⟩

/-- A device's cells' tokens. -/
def minted (n : Dev nD) : sProp 𝕄 :=
  bigSep Finset.univ fun k : CK => bigSep Finset.univ fun x : Mark => dutyTok ER (cell n k) x.1.val x.2.val

/-- Those that are used of one ring's, -/
def shareR (n : Dev nD) (d : Bool) : sProp 𝕄 :=
  iprop(dutyTok ER (cell n .bar) 0 (bd d)
    ∗ bigSep (Finset.Ico 1 (hops d - 2)) (fun e => dutyTok ER (cell n (.credit d)) 0 e)
    ∗ (bigSep (Finset.Ico 0 (hops d)) (fun j => dutyTok ER (cell n (.send d 0)) j 0)
      ∗ bigSep (Finset.Ico 0 (hops d)) (fun j => dutyTok ER (cell n (.send d 1)) j 0))
    ∗ bigSep (Finset.Ico 0 (hops d)) (fun j => dutyTok ER (cell n (.recv d (sl j) 0)) (j / 3) 0)
    ∗ bigSep (Finset.Ico 0 (hops d)) (fun j => dutyTok ER (cell n (.recv d (sl j) 1)) (j / 3) 0))

def mk (r e : ℕ) : Mark := (Fin.ofNat 16 r, Fin.ofNat 16 e)

theorem mk_fst {r : ℕ} (e : ℕ) (h : r < 16) : (mk r e).1.val = r := Nat.mod_eq_of_lt h
theorem mk_snd {e : ℕ} (r : ℕ) (h : e < 16) : (mk r e).2.val = e := Nat.mod_eq_of_lt h

theorem pick_credit (n : Dev nD) (k : CK) (a b : ℕ) (hb : b ≤ 16) :
    (bigSep Finset.univ fun x : Mark => (dutyTok ER (cell n k) x.1.val x.2.val : sProp 𝕄))
      ⊢ bigSep (Finset.Ico a b) (fun e => dutyTok ER (cell n k) 0 e) := by
  refine (pick (Finset.Ico a b) (fun e => mk 0 e) (fun e he e' he' h => ?_) (fun _ _ => Finset.mem_univ _) _).trans
    (Entails.of_eq (bigSep_congr fun e he => ?_))
  · have h1 := (Finset.mem_Ico.mp he).2
    have h2 := (Finset.mem_Ico.mp he').2
    rw [← mk_snd (e := e) 0 (by omega), ← mk_snd (e := e') 0 (by omega)]
    exact congrArg (fun x : Mark => x.2.val) h
  · have h1 := (Finset.mem_Ico.mp he).2
    show dutyTok ER (cell n k) (mk 0 e).1.val (mk 0 e).2.val = _
    rw [mk_fst e (by omega), mk_snd 0 (by omega)]

theorem pick_send (n : Dev nD) (k : CK) (b : ℕ) (hb : b ≤ 16) :
    (bigSep Finset.univ fun x : Mark => (dutyTok ER (cell n k) x.1.val x.2.val : sProp 𝕄))
      ⊢ bigSep (Finset.Ico 0 b) (fun j => dutyTok ER (cell n k) j 0) := by
  refine (pick (Finset.Ico 0 b) (fun e => mk e 0) (fun e he e' he' h => ?_) (fun _ _ => Finset.mem_univ _) _).trans
    (Entails.of_eq (bigSep_congr fun e he => ?_))
  · have h1 := (Finset.mem_Ico.mp he).2
    have h2 := (Finset.mem_Ico.mp he').2
    rw [← mk_fst (r := e) 0 (by omega), ← mk_fst (r := e') 0 (by omega)]
    exact congrArg (fun x : Mark => x.1.val) h
  · have h1 := (Finset.mem_Ico.mp he).2
    show dutyTok ER (cell n k) (mk e 0).1.val (mk e 0).2.val = _
    rw [mk_fst 0 (by omega), mk_snd e (by omega)]

theorem sl_div_inj {j j' : ℕ} (h1 : sl j = sl j') (h2 : j / 3 = j' / 3) : j = j' := by
  have h3 : j % 3 = j' % 3 := congrArg Fin.val h1
  omega

theorem pick_recv (n : Dev nD) (d : Bool) (h : Fin 2) (b : ℕ) (hb : b ≤ 16) :
    (bigSep Finset.univ fun k : Fin 3 => bigSep Finset.univ fun x : Mark => (dutyTok ER (cell n (.recv d k h)) x.1.val x.2.val : sProp 𝕄))
      ⊢ bigSep (Finset.Ico 0 b) (fun j => dutyTok ER (cell n (.recv d (sl j) h)) (j / 3) 0) := by
  rw [← bigSep_univ_prod (fun y : Fin 3 × Mark => (dutyTok ER (cell n (.recv d y.1 h)) y.2.1.val y.2.2.val : sProp 𝕄))]
  refine (pick (Finset.Ico 0 b) (fun j => (sl j, mk (j / 3) 0)) (fun e he e' he' h => ?_) (fun _ _ => Finset.mem_univ _) _).trans
    (Entails.of_eq (bigSep_congr fun e he => ?_))
  · have h1 := (Finset.mem_Ico.mp he).2
    have h2 := (Finset.mem_Ico.mp he').2
    refine sl_div_inj (congrArg Prod.fst h) ?_
    rw [← mk_fst (r := e / 3) 0 (by omega), ← mk_fst (r := e' / 3) 0 (by omega)]
    exact congrArg (fun x : Fin 3 × Mark => x.2.1.val) h
  · have h1 := (Finset.mem_Ico.mp he).2
    show dutyTok ER (cell n (.recv d (sl e) h)) (mk (e / 3) 0).1.val (mk (e / 3) 0).2.val = _
    rw [mk_fst 0 (by omega), mk_snd (e / 3) (by omega)]

theorem pick_bar (n : Dev nD) :
    (bigSep Finset.univ fun x : Mark => (dutyTok ER (cell n .bar) x.1.val x.2.val : sProp 𝕄))
      ⊢ iprop(dutyTok ER (cell n .bar) 0 (bd true) ∗ dutyTok ER (cell n .bar) 0 (bd false)) := by
  refine (pick (Finset.univ : Finset Bool) (fun d => mk 0 (bd d)) (fun e _ e' _ h => ?_) (fun _ _ => Finset.mem_univ _) _).trans ?_
  · revert h; revert e e'; decide
  · rw [bigSep_two]
    exact BI.Entails.refl _

theorem minted_share (n : Dev nD) : minted (F := F) n ⊢ iprop(shareR (F := F) n true ∗ shareR (F := F) n false) := by
  have hr (d : Bool) : ringK d (fun k : CK => bigSep Finset.univ fun x : Mark => (dutyTok ER (cell n k) x.1.val x.2.val : sProp 𝕄))
      ⊢ iprop(bigSep (Finset.Ico 1 (hops d - 2)) (fun e => dutyTok ER (cell n (.credit d)) 0 e)
        ∗ (bigSep (Finset.Ico 0 (hops d)) (fun j => dutyTok ER (cell n (.send d 0)) j 0)
          ∗ bigSep (Finset.Ico 0 (hops d)) (fun j => dutyTok ER (cell n (.send d 1)) j 0))
        ∗ bigSep (Finset.Ico 0 (hops d)) (fun j => dutyTok ER (cell n (.recv d (sl j) 0)) (j / 3) 0)
        ∗ bigSep (Finset.Ico 0 (hops d)) (fun j => dutyTok ER (cell n (.recv d (sl j) 1)) (j / 3) 0)) := by
    have hh := hops_le d
    unfold ringK
    iintro ⟨Hc, H0, H1, R0, R1⟩
    isplitl [Hc]; · iapply (pick_credit n (.credit d) 1 (hops d - 2) (by omega)); iexact Hc
    isplitl [H0 H1]
    · isplitl [H0]
      · iapply (pick_send n (.send d 0) (hops d) hh); iexact H0
      · iapply (pick_send n (.send d 1) (hops d) hh); iexact H1
    isplitl [R0]
    · iapply (pick_recv n d 0 (hops d) hh); iexact R0
    · iapply (pick_recv n d 1 (hops d) hh); iexact R1
  unfold minted
  iintro H
  ihave H := (bigSep_CK _).1 $$ H
  icases H with ⟨Hb, Ht, Hf⟩
  ihave Hb := (pick_bar (F := F) n) $$ Hb
  icases Hb with ⟨Hbt, Hbf⟩
  ihave Ht := (hr true) $$ Ht
  ihave Hf := (hr false) $$ Hf
  unfold shareR
  isplitl [Hbt Ht]
  · isplitl [Hbt]; · iexact Hbt
    iexact Ht
  · isplitl [Hbf]; · iexact Hbf
    iexact Hf

/-- The tokens of the writes to a device's slots of one ring. -/
def writesR (n : Dev nD) (d : Bool) (h : Fin 2) : sProp 𝕄 :=
  bigSep (Finset.Ico 0 (hops d)) (fun j => writeTok ES ((n, d, sl j, h) : Key) (j / 3 + 1))

def wkey (y : Dev nD × Bool × Fin 2 × Fin 16) : Key × ℕ := ((y.1, y.2.1, sl y.2.2.2.val, y.2.2.1), y.2.2.2.val / 3)

theorem wkey_injective : Function.Injective wkey := by
  rintro ⟨n, d, h, j⟩ ⟨n', d', h', j'⟩ e
  have e1 : n = n' := congrArg (fun x : Key × ℕ => x.1.1) e
  have e2 : d = d' := congrArg (fun x : Key × ℕ => x.1.2.1) e
  have e3 : h = h' := congrArg (fun x : Key × ℕ => x.1.2.2.2) e
  have e4 : sl j.val = sl j'.val := congrArg (fun x : Key × ℕ => x.1.2.2.1) e
  have e5 : j.val / 3 = j'.val / 3 := congrArg (fun x : Key × ℕ => x.2) e
  rw [e1, e2, e3, Fin.ext (sl_div_inj e4 e5)]

theorem writes_share :
    bigSep ((Finset.univ : Finset Key) ×ˢ Finset.range 6) (fun x => (writeTok ES x.1 (x.2 + 1) : sProp 𝕄))
      ⊢ bigSep Finset.univ fun n : Dev nD => iprop((writesR (F := F) n true 0 ∗ writesR n true 1) ∗ writesR n false 0 ∗ writesR n false 1) := by
  have hn (n : Dev nD) (d : Bool) (h : Fin 2) :
      (bigSep Finset.univ fun j : Fin 16 => (writeTok ES ((n, d, sl j.val, h) : Key) (j.val / 3 + 1) : sProp 𝕄)) ⊢ writesR (F := F) n d h := by
    have hh := hops_le d
    unfold writesR
    refine (pick (Finset.Ico 0 (hops d)) (fun j => Fin.ofNat 16 j) (fun e he e' he' h => ?_) (fun _ _ => Finset.mem_univ _) _).trans
      (Entails.of_eq (bigSep_congr fun e he => ?_))
    · have h1 := (Finset.mem_Ico.mp he).2
      have h2 := (Finset.mem_Ico.mp he').2
      have h3 : e % 16 = e' % 16 := congrArg Fin.val h
      omega
    · have h1 := (Finset.mem_Ico.mp he).2
      show writeTok ES ((n, d, sl (e % 16), h) : Key) (e % 16 / 3 + 1) = _
      rw [Nat.mod_eq_of_lt (show e < 16 by omega)]
  refine (pick (Finset.univ : Finset (Dev nD × Bool × Fin 2 × Fin 16)) wkey wkey_injective.injOn (fun y _ => ?_) _).trans ?_
  · refine Finset.mem_product.mpr ⟨Finset.mem_univ _, Finset.mem_range.mpr ?_⟩
    show y.2.2.2.val / 3 < 6
    omega
  · rw [bigSep_univ_prod]
    refine bigSep_mono fun n _ => ?_
    rw [bigSep_univ_prod, bigSep_two, bigSep_univ_prod, bigSep_univ_prod, bigSep_pair, bigSep_pair]
    exact BI.sep_mono (BI.sep_mono (hn n true 0) (hn n true 1)) (BI.sep_mono (hn n false 0) (hn n false 1))

theorem reads_share :
    bigSep (Finset.univ : Finset Key) (fun k => (readerAt ES k 0 : sProp 𝕄))
      ⊢ bigSep Finset.univ fun n : Dev nD => iprop(reads (F := F) n true 0 ∗ reads (F := F) n false 0) := by
  rw [bigSep_univ_prod]
  refine bigSep_mono fun n _ => ?_
  rw [bigSep_univ_prod, bigSep_two]
  exact BI.Entails.refl _

/-- One ring's tokens, passed to the devices that use them. -/
theorem deal_ring (d : Bool) :
    bigSep Finset.univ (fun n : Dev nD => iprop(shareR (F := F) n d ∗ (writesR n d 0 ∗ writesR n d 1) ∗ reads n d 0))
      ⊢ bigSep Finset.univ fun c : Dev nD => toksR (F := F) c d := by
  have mdn (Φ : Dev nD → sProp 𝕄) : bigSep Finset.univ Φ ⊢ bigSep Finset.univ (fun c => Φ (dn d c)) :=
    Entails.of_eq (bigSep_univ_equiv (ring d) Φ)
  have mup (Φ : Dev nD → sProp 𝕄) : bigSep Finset.univ Φ ⊢ bigSep Finset.univ (fun c => Φ (up d c)) :=
    Entails.of_eq (bigSep_univ_equiv (ring d).symm Φ)
  unfold shareR toksR sendRes writesR
  simp only [bigSep_sep']
  iintro ⟨⟨Hb, Hc, ⟨S0, S1⟩, R0, R1⟩, ⟨W0, W1⟩, Hr⟩
  isplitl [Hb]; · iapply (mup fun n => dutyTok ER (cell n .bar) 0 (bd d)); iexact Hb
  isplitl [Hc]; · iapply (mup fun n => bigSep (Finset.Ico 1 (hops d - 2)) (fun e => dutyTok ER (cell n (.credit d)) 0 e)); iexact Hc
  isplitl [S0 R0 W0]
  · isplitl [S0]; · iexact S0
    isplitl [R0]
    · iapply (mdn fun n => bigSep (Finset.Ico 0 (hops d)) (fun j => dutyTok ER (cell n (.recv d (sl j) 0)) (j / 3) 0)); iexact R0
    · iapply (mdn fun n => bigSep (Finset.Ico 0 (hops d)) (fun j => writeTok ES ((n, d, sl j, 0) : Key) (j / 3 + 1))); iexact W0
  isplitl [S1 R1 W1]
  · isplitl [S1]; · iexact S1
    isplitl [R1]
    · iapply (mdn fun n => bigSep (Finset.Ico 0 (hops d)) (fun j => dutyTok ER (cell n (.recv d (sl j) 1)) (j / 3) 0)); iexact R1
    · iapply (mdn fun n => bigSep (Finset.Ico 0 (hops d)) (fun j => writeTok ES ((n, d, sl j, 1) : Key) (j / 3 + 1))); iexact W1
  iexact Hr

/-- All the tokens. -/
theorem deal :
    iprop(bigSep Finset.univ (fun n : Dev nD => minted (F := F) n)
      ∗ bigSep ((Finset.univ : Finset Key) ×ˢ Finset.range 6) (fun x => (writeTok ES x.1 (x.2 + 1) : sProp 𝕄))
      ∗ bigSep (Finset.univ : Finset Key) (fun k => (readerAt ES k 0 : sProp 𝕄)))
      ⊢ iprop(bigSep Finset.univ (fun c : Dev nD => toksR (F := F) c true) ∗ bigSep Finset.univ (fun c : Dev nD => toksR (F := F) c false)) := by
  have hm : bigSep Finset.univ (fun n : Dev nD => minted (F := F) n)
      ⊢ iprop(bigSep Finset.univ (fun n => shareR (F := F) n true) ∗ bigSep Finset.univ (fun n => shareR (F := F) n false)) :=
    (bigSep_mono fun n _ => minted_share n).trans (Entails.of_eq (bigSep_sep' _ _ _))
  have hw := (writes_share (F := F)).trans (Entails.of_eq (bigSep_sep' _ _ _))
  have hr := (reads_share (F := F)).trans (Entails.of_eq (bigSep_sep' _ _ _))
  have hd (d : Bool) : iprop(bigSep Finset.univ (fun n : Dev nD => shareR (F := F) n d)
      ∗ bigSep Finset.univ (fun n : Dev nD => iprop(writesR (F := F) n d 0 ∗ writesR n d 1))
      ∗ bigSep Finset.univ (fun n : Dev nD => reads (F := F) n d 0)) ⊢ bigSep Finset.univ fun c : Dev nD => toksR (F := F) c d := by
    rw [← bigSep_sep', ← bigSep_sep']
    exact deal_ring d
  iintro ⟨Hm, Hw, Hr⟩
  ihave Hm := hm $$ Hm
  ihave Hw := hw $$ Hw
  ihave Hr := hr $$ Hr
  icases Hm with ⟨Mt, Mf⟩
  icases Hw with ⟨Wt, Wf⟩
  icases Hr with ⟨Rt, Rf⟩
  isplitl [Mt Wt Rt]
  · iapply (hd true)
    isplitl [Mt]; · iexact Mt
    isplitl [Wt] <;> iassumption
  · iapply (hd false)
    isplitl [Mf]; · iexact Mf
    isplitl [Wf] <;> iassumption

/-! ### The credit of what is owed -/

theorem lc_owe0 (c : Dev nD) (d : Bool) (h : Fin 2) :
    (launchCred (fun c => owe0 c d h) c : sProp 𝕄) ⊢ cred (tallyAt (cell c (.recv d (sl 0) h)) (2 * 0 + 2) N) := by
  unfold owe0
  exact launchCred_tallyAt (semOf (.recv d (sl 0) h)) (dn d) (up d) (dn_up d) (up_dn d) (2 * 0 + 2) N c

theorem lc_owS (c : Dev nD) (d : Bool) :
    (launchCred (fun c => owS c d 1) c : sProp 𝕄)
      ⊢ iprop(bigSep (Finset.Ico 1 (hops d)) (fun j => cred (tallyAt (cell c (.recv d (sl j) 0)) (2 * j + 2) N))
        ∗ bigSep (Finset.Ico 1 (hops d)) (fun j => cred (tallyAt (cell c (.recv d (sl j) 1)) (2 * j + 2) N))) := by
  unfold owS
  rw [launchCred_sum, ← bigSep_sep']
  refine bigSep_mono fun j _ => ?_
  rw [launchCred_add]
  exact BI.sep_mono (launchCred_tallyAt (semOf (.recv d (sl j) 0)) (dn d) (up d) (dn_up d) (up_dn d) (2 * j + 2) N c)
    (launchCred_tallyAt (semOf (.recv d (sl j) 1)) (dn d) (up d) (dn_up d) (up_dn d) (2 * j + 2) N c)

theorem lc_owC (c : Dev nD) (d : Bool) :
    (launchCred (fun c => owC c d 0) c : sProp 𝕄)
      ⊢ bigSep (Finset.Ico 1 (hops d - 2)) (fun e => cred (tallyAt (cell c (.credit d)) (2 * e + 3) 1)) := by
  unfold owC
  rw [launchCred_sum]
  exact bigSep_mono fun e _ => launchCred_tallyAt (semOf (.credit d)) (up d) (dn d) (up_dn d) (dn_up d) (2 * e + 3) 1 c

theorem lc_bar (c : Dev nD) (d : Bool) :
    (launchCred (fun c => tallyAt (cell (up d c) .bar) 1 1) c : sProp 𝕄) ⊢ cred (tallyAt (cell c .bar) 1 1) :=
  launchCred_tallyAt (semOf .bar) (up d) (dn d) (up_dn d) (dn_up d) 1 1 c

theorem first_apart (b : ℕ) (hb : 0 < b) (P : ℕ → sProp 𝕄) :
    bigSep (Finset.Ico 0 b) P ⊣⊢ iprop(P 0 ∗ bigSep (Finset.Ico 1 b) P) := by
  rw [show Finset.Ico 0 b = insert 0 (Finset.Ico 1 b) by ext x; simp only [Finset.mem_Ico, Finset.mem_insert]; omega,
    bigSep_insert (by rw [Finset.mem_Ico]; omega)]
  exact ⟨BI.Entails.refl _, BI.Entails.refl _⟩

theorem lc_ring (c : Dev nD) (d : Bool) :
    iprop((launchCred (fun c => owS c d 1) c ∗ launchCred (fun c => owC c d 0) c)
      ∗ launchCred (fun c => owe0 c d 1) c ∗ launchCred (fun c => owe0 c d 0) c) ⊢ credR (F := F) c d := by
  have hp : 0 < hops d := by cases d <;> decide
  unfold credR
  iintro ⟨⟨HS, HC⟩, H1, H0⟩
  ihave HS := (lc_owS (F := F) c d) $$ HS
  icases HS with ⟨S0, S1⟩
  isplitl [HC]; · iapply (lc_owC (F := F) c d); iexact HC
  isplitl [S0 H0]
  · iapply (first_apart (hops d) hp (fun j => (cred (tallyAt (cell c (.recv d (sl j) 0)) (2 * j + 2) N) : sProp 𝕄))).2
    isplitl [H0]; · iapply (lc_owe0 (F := F) c d 0); iexact H0
    iexact S0
  · iapply (first_apart (hops d) hp (fun j => (cred (tallyAt (cell c (.recv d (sl j) 1)) (2 * j + 2) N) : sProp 𝕄))).2
    isplitl [H1]; · iapply (lc_owe0 (F := F) c d 1); iexact H1
    iexact S1

theorem two_units (c : Dev nD) : (iprop(cred (tallyAt (cell c .bar) 1 1) ∗ cred (tallyAt (cell c .bar) 1 1)) : sProp 𝕄) ⊢ cred (tallyAt (cell c .bar) 1 2) := by
  refine (cred_add _ _).2.trans (Entails.of_eq ?_)
  exact congrArg cred (tallyAt_add _ 1 1 1)

theorem creds_intro (c : Dev nD) : (launchCred owed0 c : sProp 𝕄) ⊢ creds (F := F) c := by
  have e : (launchCred owed0 c : sProp 𝕄) = iprop((((((((launchCred (fun c => owS c true 1) c ∗ launchCred (fun c => owC c true 0) c)
      ∗ launchCred (fun c => owS c false 1) c ∗ launchCred (fun c => owC c false 0) c)
      ∗ launchCred (fun c => owe0 c false 1) c) ∗ launchCred (fun c => owe0 c true 1) c) ∗ launchCred (fun c => owe0 c false 0) c) ∗ launchCred (fun c => owe0 c true 0) c)
      ∗ launchCred (fun c => tallyAt (cell (up false c) .bar) 1 1) c) ∗ launchCred (fun c => tallyAt (cell (up true c) .bar) 1 1) c) := by
    rw [show owed0 = fun c => owS c true 1 + owC c true 0 + (owS c false 1 + owC c false 0) + owe0 c false 1 + owe0 c true 1 + owe0 c false 0 + owe0 c true 0
      + tallyAt (cell (up false c) .bar) 1 1 + tallyAt (cell (up true c) .bar) 1 1 from rfl]
    rw [launchCred_add, launchCred_add, launchCred_add, launchCred_add, launchCred_add, launchCred_add, launchCred_add, launchCred_add, launchCred_add]
  rw [e]
  unfold creds
  iintro ⟨⟨⟨⟨⟨⟨⟨⟨Ts, Tc⟩, Fs, Fc⟩, F1⟩, T1⟩, F0⟩, T0⟩, Bf⟩, Bt⟩
  isplitl [Bf Bt]
  · iapply (two_units (F := F) c)
    isplitl [Bf]; · iapply (lc_bar (F := F) c false); iexact Bf
    iapply (lc_bar (F := F) c true); iexact Bt
  isplitl [Ts Tc T1 T0]
  · iapply (lc_ring (F := F) c true)
    isplitl [Ts Tc]; · isplitl [Ts] <;> iassumption
    isplitl [T1] <;> iassumption
  · iapply (lc_ring (F := F) c false)
    isplitl [Fs Fc]; · isplitl [Fs] <;> iassumption
    isplitl [F1] <;> iassumption

end Cert.KernelIdeal.Hand

end
-- ==== Proof.KernelIdeal.Launch.lean ====
/-
  The whole run on the mesh: every device starts with its own part of what is dealt at the launch, runs its
  body, and leaves its result in its array with every counter back at zero.
-/
module

public import proofs.«01_k».proof.Proof.KernelIdeal.Deal
public import proofs.«01_k».proof.Proof.Gen.KernelIdeal.Launch
public import proofs.«01_k».proof.Proof.Gen.KernelIdeal.Points
public import Idealize.ShloMosaic.Lib.Tactic

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds Idealize.ShloMosaic.Release
open Idealize.ShloMosaic.SiteBlocks (L lv)

variable {F : FTy → Type} [FloatOps F]

local notation "𝕄" => MT nD τ sig ℕ (Elt F) ℕ UU ℕ
local notation "KProg" => Prog (TpuEff nD τ sig (Elt F) Λ₀ Proc.tc) PUnit

/-- The weakest precondition of a piece of device `c`'s program. -/
local notation "WPc" c => wp (frame (nD := nD) (τ := τ) (sig := sig) (Val := Elt F) (Ix := ℕ) (Name := ℕ) (U := UU) (Lvl := ℕ)) (wpE (defs₀ (F := F)) 𝒱₀ (c : Thread nD τ) none) Set.univ

variable (m : (ℓ : Loc nD τ sig) → Buf (Elt F) ℓ) (ρ : Dev nD → PrngReg)

/-! ### What the devices hold -/

/-- The memory at the launch. -/
def s₀ : MemSt nD τ sig (Elt F) := ⟨m, fun _ => 0, ρ⟩

/-- What a device reads. -/
def insAt (c : Dev nD) : Ins F where
  x := (win0_0.blk (0 : Fin 1)).view.read (Elt F) (m ((c : Thread nD τ).loc main_arg0))
  w := (win0_1.blk (0 : Fin 1)).view.read (Elt F) (m ((c : Thread nD τ).loc main_arg1))
  i := (win0_2.blk (0 : Fin 1)).view.read (Elt F) (m ((c : Thread nD τ).loc main_arg2))
  e := (win0_3.blk (0 : Fin 1)).view.read (Elt F) (m ((c : Thread nD τ).loc main_arg3))
  p := (win0_4.blk (0 : Fin 1)).view.read (Elt F) (m ((c : Thread nD τ).loc main_arg4))

/-- What every device contributes, -/
def ctAt (c : Dev nD) : FVec F S112x1024 .bf16 := ctOf c (insAt m c)

/-- and a device's result. -/
def outAt (c : Dev nD) : FVec F S2048x1024 .f32 := outOf (ctAt m) c (insAt m c)

/-- The invariants, at whatever names they have. -/
def dealt (c : Dev nD) : sProp 𝕄 :=
  iprop(∃ κ : Dev nD × CK → ℕ, ∃ ν : Key → ℕ,
    (bigSep Finset.univ (fun p : Dev nD × CK => cellInv ER (Rd (ctAt m)) (κ p) (cell p.1 p.2))
      ∗ bigSep Finset.univ (fun x : Key => slotInv ES (ν x) x (slotFree (F := F) x)))
    ∗ Rch ∗ mine c)

/-- What a device's body starts from. -/
def start (c : Dev nD) : sProp 𝕄 := iprop(dealt m c ∗ levAts (L 40) lv ∗ creds (F := F) c)

def Φ₀ (c : Dev nD) : sProp 𝕄 := iprop(start m c ∗ spare (F := F) c)
def Φ₁ (c : Dev nD) : sProp 𝕄 := iprop(spare (F := F) c ∗ bigSep Finset.univ (fun k : CK => semVal (cell c k) 0))

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (insAt m c).x
    | ⟨1, _⟩ => (insAt m c).w
    | ⟨2, _⟩ => (insAt m c).i
    | ⟨3, _⟩ => (insAt m c).e
    | ⟨4, _⟩ => (insAt m c).p
    | ⟨5, _⟩ => outAt m c
  Φ t := match t with
    | ⟨0, _⟩ => Φ₀ m c
    | ⟨_ + 1, _⟩ => Φ₁ (F := F) c
  q _ := fullShare
  owed t := match t with
    | ⟨0, _⟩ => owed0 c
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ### The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m ρ 0 c).owesAt 0 t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ (F := F) c ∗ (dats m ρ 0 c).owesAt 0 t0_0.succ ∗ stg c cc0_stg0_0 (insAt m c).x ∗ stg c cc0_stg1_0 (insAt m c).w
    ∗ stg c cc0_stg2_0 (insAt m c).i ∗ stg c cc0_stg3_0 (insAt m c).e ∗ stg c cc0_stg4_0 (insAt m c).p ∗ stg c cc0_stg5_0 (outAt m c))

/-- The staged operands, read as what the body reads. -/
theorem stg_of {c : Dev nD} {b : Ref sig .tc} {D : Type} (X : D → b.ty.Contents (Elt F)) (Y : b.ty.Contents (Elt F)) (h : ∀ d, X d = Y) :
    iprop(∃ d, stg c b (X d)) ⊢ (iprop(((c : Thread nD τ).loc b) ↦{fullShare} Y) : sProp 𝕄) := by
  iintro ⟨%d, %f, %hf, H⟩
  rw [hf, h d]
  iexact H

theorem stg_some {c : Dev nD} {b : Ref sig .tc} {D : Type} (X : D → b.ty.Contents (Elt F)) :
    iprop(∃ d, stg c b (X d)) ⊢ (iprop(∃ Y : Buf (Elt F) (((c : Dev nD) : Thread nD τ).loc b), ((c : Thread nD τ).loc b) ↦{fullShare} Y) : sProp 𝕄) := by
  iintro ⟨%d, %f, -, H⟩
  iexists f
  iexact H

theorem to_stg {c : Dev nD} {b : Ref sig .tc} (X : b.ty.Contents (Elt F)) :
    (iprop(((c : Thread nD τ).loc b) ↦{fullShare} X) : sProp 𝕄) ⊢ stg c b X := by
  iintro H
  iexists X
  isplitr; · ipureintro; rfl
  iexact H

theorem fetched0 (c : Dev nD) (d) : (dats m ρ 0 c).before (0 : Fin 6) t0_0 d = (insAt m c).x := by
  unfold Dat.before; rw [if_pos (fetch0_0 t0_0)]; rfl
theorem fetched1 (c : Dev nD) (d) : (dats m ρ 0 c).before (1 : Fin 6) t0_0 d = (insAt m c).w := by
  unfold Dat.before; rw [if_pos (fetch0_1 t0_0)]; rfl
theorem fetched2 (c : Dev nD) (d) : (dats m ρ 0 c).before (2 : Fin 6) t0_0 d = (insAt m c).i := by
  unfold Dat.before; rw [if_pos (fetch0_2 t0_0)]; rfl
theorem fetched3 (c : Dev nD) (d) : (dats m ρ 0 c).before (3 : Fin 6) t0_0 d = (insAt m c).e := by
  unfold Dat.before; rw [if_pos (fetch0_3 t0_0)]; rfl
theorem fetched4 (c : Dev nD) (d) : (dats m ρ 0 c).before (4 : Fin 6) t0_0 d = (insAt m c).p := by
  unfold Dat.before; rw [if_pos (fetch0_4 t0_0)]; rfl

set_option maxHeartbeats 1600000 in
theorem sound_body (c : Dev nD) : bodyPre m ρ c ⊢ (WPc c) bodyP (fun _ => bodyPost m ρ c) := by
  have hout : oPts c (outOf (ctAt m) c (insAt m c)) ⊢ stg c cc0_stg5_0 (outAt m c) := to_stg (c := c) (b := cc0_stg5_0) (outAt m c)
  unfold bodyPre Φ₀ start dealt Dat.owesAt Pipeline.owesWithin
  iintro ⟨⟨⟨⟨%κ, %ν, ⟨#Hc, #Hs⟩, #Hr, Hm⟩, #Hl, Hcr⟩, Hsp⟩, ⟨%W, -, HO⟩, H0, H1, H2, H3, H4, H5⟩
  ihave H0 := (stg_of _ _ (fetched0 m ρ c)) $$ H0
  ihave H1 := (stg_of _ _ (fetched1 m ρ c)) $$ H1
  ihave H2 := (stg_of _ _ (fetched2 m ρ c)) $$ H2
  ihave H3 := (stg_of _ _ (fetched3 m ρ c)) $$ H3
  ihave H4 := (stg_of _ _ (fetched4 m ρ c)) $$ H4
  ihave H5 := (stg_some _) $$ H5
  iapply (wp_body (ctAt m) κ ν c (insAt m c) rfl (fun _ => bodyPost m ρ c))
  isplitr
  · unfold Inv
    isplitr; · iexact Hc
    isplitr; · iexact Hs
    iexact Hl
  isplitr; · iexact Hr
  isplitl [Hm]; · iexact Hm
  isplitl [Hcr]; · iexact Hcr
  isplitl [H0 H1 H2 H3 H4]
  · unfold insPts
    isplitl [H0]; · iexact H0
    isplitl [H1]; · iexact H1
    isplitl [H2]; · iexact H2
    isplitl [H3]; · iexact H3
    iexact H4
  isplitl [Hsp]; · iexact Hsp
  isplitl [H5]; · iexact H5
  isplitl [HO]; · unfold owesE; iexists W; iexact HO
  iintro ⟨Hi, Hsp, Ho, HO, Hz⟩
  unfold insPts owesE
  icases Hi with ⟨H0, H1, H2, H3, H4⟩
  icases HO with ⟨%W', HO⟩
  unfold bodyPost Φ₁ Dat.owesAt Pipeline.owesWithin
  isplitl [Hsp Hz]; · isplitl [Hsp] <;> iassumption
  isplitl [HO]
  · iexists W'
    isplitr; · ipureintro; exact fun _ _ => Or.inl trivial
    iexact HO
  isplitl [H0]; · iapply (to_stg (c := c) (b := cc0_stg0_0) (insAt m c).x); iexact H0
  isplitl [H1]; · iapply (to_stg (c := c) (b := cc0_stg1_0) (insAt m c).w); iexact H1
  isplitl [H2]; · iapply (to_stg (c := c) (b := cc0_stg2_0) (insAt m c).i); iexact H2
  isplitl [H3]; · iapply (to_stg (c := c) (b := cc0_stg3_0) (insAt m c).e); iexact H3
  isplitl [H4]; · iapply (to_stg (c := c) (b := cc0_stg4_0) (insAt m c).p); iexact H4
  iapply (hout); iexact Ho

theorem defs_eq : defs₀ (F := F) Proc.tc (0 : Fin 1) (t0_0, cfg0.slots t0_0) = cc0_body (F := F) xM (hstage0_0 0) wM (hstage0_1 0) iM (hstage0_2 0) eM (hstage0_3 0) pM (hstage0_4 0)
      oM (hstage0_5 0) gM (Memref.isWhole_whole _) sM (Memref.isWhole_whole _)
      (Memref.whole cc0_scratch2) (Memref.isWhole_whole _) (Memref.whole cc0_scratch3) (Memref.isWhole_whole _)
      cc0_scratch4 cc0_scratch5 cc0_scratch6 cc0_scratch7 cc0_scratch8 cc0_scratch9 := by
  with_unfolding_all rfl

theorem called_eq : defs₀ (F := F) Proc.tc (0 : Fin 1) (t0_0, cfg0.slots t0_0) = bodyP := defs_eq.trans body_eq

theorem sound_of (c : Dev nD) (P : KProg) (hP : P = bodyP) : bodyPre m ρ c ⊢ (WPc c) P (fun _ => bodyPost m ρ c) := by
  subst hP
  exact sound_body m ρ c

theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  have h := sound_of m ρ c _ called_eq
  generalize defs₀ (F := F) Proc.tc (0 : Fin 1) (t0_0, cfg0.slots t0_0) = P at h ⊢
  exact h

/-! ### Cells, slots and tokens at the launch -/

/-- The semaphores a device's own run makes. -/
abbrev osem (k : {k : CK // k ≠ CK.bar}) : SemLoc sig := semOf k.1

theorem ownSemFacts : Pipeline.OwnSemFacts cfg0.spec osem := by decide

theorem share_eq (c : Dev nD) (w : Fin cfg0.W) : (dats m ρ 0 c).share w = fullShare := by unfold Dat.share; split <;> rfl

def slotSeed : US := initSlots (Finset.univ : Finset Key) 6

def u₀ : UU :=
  (initOf (Pipeline.cells cfgs cellOf_inj) (Pipeline.launchToks cfgs cellOf_inj), (initOf ringCells ringToks, slotSeed))

/-- The slots' seed, kept at the first device. -/
def seed (c : Dev nD) : sProp 𝕄 := if c = (0 : Fin 32) then BI.own (ES slotSeed) else iprop(emp)

def G (c : Dev nD) : sProp 𝕄 :=
  iprop((bigSep Finset.univ fun k : CK => roundState ER (Rd (ctAt m)) (cell c k) 0)
    ∗ (bigSep Finset.univ fun k : CK => reached ER (cell c k) 0)
    ∗ (bigSep Finset.univ fun k : CK => atPos ER (cell c k) 0 ∅ 0) ∗ minted (F := F) c ∗ seed (F := F) c)

theorem seeds : (BI.own (ES slotSeed) : sProp 𝕄) ⊢ bigSep Finset.univ (fun c : Dev nD => seed (F := F) c) := by
  have h : bigSep (Finset.univ.erase (0 : Fin 32)) (fun c : Dev nD => seed (F := F) c) = iprop(emp) :=
    (bigSep_congr (Ψ := fun _ => (iprop(emp) : sProp 𝕄)) fun c hc => if_neg (Finset.mem_erase.mp hc).1).trans (bigSep_emp_const _)
  rw [bigSep_univ_at _ (0 : Fin 32), h]
  unfold seed
  rw [if_pos rfl]
  iintro H
  isplitl [H]; · iexact H
  iempintro

theorem seed_out : bigSep Finset.univ (fun c : Dev nD => seed (F := F) c) ⊢ (BI.own (ES slotSeed) : sProp 𝕄) := by
  refine (show _ ⊢ seed (F := F) (0 : Fin 32) from bigSep_elim (Finset.mem_univ _)).trans ?_
  unfold seed
  rw [if_pos rfl]

theorem fund_ring : iprop(BI.own (ER (initOf ringCells ringToks)) ∗ BI.own (ES slotSeed)) ⊢ (|==> bigSep Finset.univ (G m) : sProp 𝕄) := by
  have hX (Φ : GSem nD τ sig → sProp 𝕄) : bigSep ringCells Φ = bigSep Finset.univ fun c : Dev nD => bigSep Finset.univ fun k : CK => Φ (cell c k) := by
    unfold ringCells; rw [bigSep_map, bigSep_univ_prod]; rfl
  have hT : bigSep ringToks (fun x => (dutyTok ER x.1 x.2.1 x.2.2 : sProp 𝕄)) = bigSep Finset.univ fun c : Dev nD => minted (F := F) c := by
    unfold ringToks
    rw [bigSep_map, bigSep_univ_prod, bigSep_univ_prod]
    rfl
  iintro ⟨HX, HS⟩
  imod (Rounds.fund ER (Rd (ctAt m)) ringCells ringToks) $$ HX with ⟨Hst, Hr, Hat, Htok⟩
  imodintro
  ihave Hst' := (Entails.of_eq (hX fun g => roundState ER (Rd (ctAt m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  ihave HS := (seeds (F := F)) $$ HS
  unfold G; simp only [bigSep_sep']
  isplitl [Hst']; · iexact Hst'
  isplitl [Hr']; · iexact Hr'
  isplitl [Hat']; · iexact Hat'
  isplitl [Htok']; · iexact Htok'
  iexact HS

theorem unscopedSems0_eq (c : Dev nD) : (unscopedSems0 c : sProp 𝕄) = semVal (cell c .bar) 0 := by
  unfold unscopedSems0; rw [bigSep_eq_bigSepL_of_eq [SemLoc.reg barS] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊣⊢ (bigSep Finset.univ fun k : CK => semVal (cell c k) 0 : sProp 𝕄) := by
  unfold Pipeline.ownSems0
  rw [unscopedSems0_eq, bigSep_univ_at (fun k : CK => (semVal (cell c k) 0 : sProp 𝕄)) CK.bar,
    ← bigSep_subtype_ne CK.bar (fun k : CK => (semVal (cell c k) 0 : sProp 𝕄))]
  constructor
  · iintro ⟨H, Hb⟩
    isplitl [Hb] <;> iassumption
  · iintro ⟨Hb, H⟩
    isplitl [H] <;> iassumption

/-- The same with the cells' invariants made. -/
def made (c : Dev nD) : sProp 𝕄 :=
  iprop((bigSep Finset.univ fun k : CK => iprop(∃ κ : ℕ, cellInv ER (Rd (ctAt m)) κ (cell c k)))
          ∗ (bigSep Finset.univ fun k : CK => reached ER (cell c k) 0)
          ∗ (bigSep Finset.univ fun k : CK => atPos ER (cell c k) 0 ∅ 0) ∗ minted (F := F) c ∗ seed (F := F) c)

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> made m c := by
  unfold G made
  iintro ⟨Hos, Hus, Hst, Hrest⟩
  ihave Hv := (sems0_eq (F := F) c).1 $$ [Hos Hus]
  · isplitl [Hos] <;> iassumption
  imod (show iprop((bigSep Finset.univ fun k : CK => semVal (cell c k) 0) ∗ bigSep Finset.univ fun k : CK => roundState ER (Rd (ctAt m)) (cell c k) 0)
      ⊢ (|={Set.univ}=> bigSep Finset.univ fun k : CK => iprop(∃ κ : ℕ, cellInv ER (Rd (ctAt m)) κ (cell c k)) : sProp 𝕄) from by
        rw [← bigSep_sep']
        exact (bigSep_mono fun k _ => (Rounds.body_intro ER (Rd (ctAt m)) (cell c k)).trans inv_alloc).trans (bigSep_fupd _ _)) $$ [Hv Hst] with Hinv
  · isplitl [Hv] <;> iassumption
  imodintro
  isplitl [Hinv]; · iexact Hinv
  iexact Hrest

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What is everybody's. -/
def common (κ : Dev nD × CK → ℕ) (ν : Key → ℕ) : sProp 𝕄 :=
  iprop((bigSep Finset.univ (fun p : Dev nD × CK => cellInv ER (Rd (ctAt m)) (κ p) (cell p.1 p.2))
      ∗ bigSep Finset.univ (fun x : Key => slotInv ES (ν x) x (slotFree (F := F) x))) ∗ Rch)

instance common_persistent (κ : Dev nD × CK → ℕ) (ν : Key → ℕ) : BI.Persistent (common m κ ν) := by unfold common; infer_instance

theorem regroup :
    bigSep Finset.univ (made m)
      ⊢ |={Set.univ}=> bigSep Finset.univ (dealt m) := by
  have hmine (κ : Dev nD × CK → ℕ) (ν : Key → ℕ) : iprop(common m κ ν ∗ bigSep Finset.univ (fun c : Dev nD => mine (F := F) c)) ⊢ bigSep Finset.univ (dealt m) :=
    with_persistent fun c _ => by
      unfold common dealt
      iintro ⟨⟨H1, H2⟩, H3⟩
      iexists κ, ν
      isplitl [H1]; · iexact H1
      isplitl [H2] <;> iassumption
  have hall : iprop((bigSep Finset.univ fun c : Dev nD => bigSep Finset.univ fun k : CK => atPos ER (cell c k) 0 ∅ 0)
      ∗ bigSep Finset.univ (fun c : Dev nD => toksR (F := F) c true) ∗ bigSep Finset.univ (fun c : Dev nD => toksR (F := F) c false))
      ⊢ bigSep Finset.univ (fun c : Dev nD => mine (F := F) c) := by
    rw [← bigSep_sep', ← bigSep_sep']
    exact BI.Entails.refl _
  unfold made
  rw [bigSep_sep', bigSep_sep', bigSep_sep', bigSep_sep', ← bigSep_univ_prod (fun p : Dev nD × CK => iprop(∃ κ : ℕ, cellInv ER (Rd (ctAt m)) κ (cell p.1 p.2))),
    ← bigSep_univ_prod (fun p : Dev nD × CK => (reached ER (cell p.1 p.2) 0 : sProp 𝕄))]
  iintro ⟨HI, #HR, Hat, Htok, Hseed⟩
  ihave HK := (BI.bigSep_exists_pi Finset.univ (fun (p : Dev nD × CK) (κ : ℕ) => (cellInv ER (Rd (ctAt m)) κ (cell p.1 p.2) : sProp 𝕄))) $$ HI
  icases HK with ⟨%κ, #HI⟩
  ihave Hseed := (seed_out (F := F)) $$ Hseed
  unfold slotSeed
  imod (slots_init (Es := Set.univ) ES (Finset.univ : Finset Key) 6 (fun x => slotFree (F := F) x)) $$ Hseed with ⟨%ν, -, #HS, Hrd, Hwr⟩
  imodintro
  ihave Htk := (deal (F := F)) $$ [Htok Hwr Hrd]
  · isplitl [Htok]; · iexact Htok
    isplitl [Hwr] <;> iassumption
  iapply (hmine κ ν)
  isplitr
  · unfold common Rch
    isplitr
    · isplitr; · iexact HI
      iexact HS
    · iexact HR
  · iapply hall
    isplitl [Hat]; · iexact Hat
    iexact Htk

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (dealt m) := by
  have h1 : (bigSep Finset.univ fun c => iprop(Pipeline.ownSems0 (Ix := ℕ) (Name := ℕ) (U := UU) (Lvl := ℕ) (Val := Elt F) (τ := τ) osem c ∗ unscopedSems0 c ∗ G m c) : sProp 𝕄)
      ⊢ |={Set.univ}=> bigSep Finset.univ (made m) := (bigSep_mono fun c _ => core_alloc m c).trans (bigSep_fupd _ _)
  iintro H
  imod h1 $$ H with H
  iapply (regroup m)
  iexact H

/-! ### Entering and leaving -/

theorem start_intro (c : Dev nD) :
    iprop(Pipeline.unscopedRestP Pipeline.Prefetch.none cfg0.spec c (fun b => m ((c : Thread nD τ).loc b)) ∗ levAts (L 40) lv
        ∗ Pipeline.launchCred owed0 c ∗ prngReg c (ρ c) ∗ dealt m c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hlev] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ spare sPts gPts
  iintro ⟨Hs, -, ⟨%f0, H0⟩, ⟨%f1, H1⟩, ⟨%f2, H2⟩, ⟨%f3, H3⟩⟩
  isplitl [Hs]; · iexact Hs
  isplitl [H2 H3]
  · unfold bufPts
    isplitl [H2]
    · iexists f2; iexact H2
    · iexists f3; iexact H3
  isplitl [H1]
  · iexists f1; iexact H1
  · iexists f0; iexact H0

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ spare bufPts sPts gPts
  iintro ⟨⟨⟨⟨%f2, H2⟩, ⟨%f3, H3⟩⟩, ⟨%f1, H1⟩, ⟨%f0, H0⟩⟩, Hz⟩
  ihave Hz := (sems0_eq (F := F) c).2 $$ Hz
  icases Hz with ⟨Ho, Hb⟩
  isplitl [Hb]; · iexact Hb
  isplitl [Ho]; · iexact Ho
  isplitl [H0]
  · iexists f0; iexact H0
  isplitl [H1]
  · iexists f1; iexact H1
  isplitl [H2]
  · iexists f2; iexact H2
  · iexists f3; iexact H3

theorem OK_owed0 (c : Dev nD) : OK 0 (owed0 c) := by
  unfold owed0
  exact OK_add (OK_add (OK_mono (OK_owedCopy c) (show 0 ≤ 1 by decide)) (OK_tally _ _ (by decide) (by decide))) (OK_tally _ _ (by decide) (by decide))

theorem waits (c : Dev nD) : (levAts (L 40) lv : sProp 𝕄) ⊢ Pipeline.cellsWaits cfgs (dats m ρ) 0 0 c :=
  Pipeline.cellsWaits_intro cfgs (dats m ρ) 0 0 c fun w s t =>
    SiteBlocks.mayWait_of (by decide) c _ _ (by
      rcases t with ⟨_ | _, ht⟩
      · exact OK_owed0 c
      · exact OK_zero 0)

end Cert.KernelIdeal.Hand

end
-- ==== Proof.KernelIdeal.Run.lean ====
/-
  The run of the whole mesh: it ends, with every array but the result's as it was, and every counter at zero.
-/
module

public import proofs.«01_k».proof.Proof.KernelIdeal.Launch
public import Idealize.ShloMosaic.Lib.Pipeline.CollectiveSegs

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds Idealize.ShloMosaic.Release
open Idealize.ShloMosaic.SiteBlocks (L lv)

variable {F : FTy → Type} [FloatOps F]

local notation "𝕄" => MT nD τ sig ℕ (Elt F) ℕ UU ℕ
local notation "KProg" => Prog (TpuEff nD τ sig (Elt F) Λ₀ Proc.tc) PUnit

/-- The weakest precondition of a piece of device `c`'s program. -/
local notation "WPc" c => wp (frame (nD := nD) (τ := τ) (sig := sig) (Val := Elt F) (Ix := ℕ) (Name := ℕ) (U := UU) (Lvl := ℕ)) (wpE (defs₀ (F := F)) 𝒱₀ (c : Thread nD τ) none) Set.univ

variable (m : (ℓ : Loc nD τ sig) → Buf (Elt F) ℓ) (ρ : Dev nD → PrngReg)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := owed0) (howed₀ := fun _ => rfl) (howedN := fun _ => rfl)
    (L := L 40) (lv := lv) (hL := SiteBlocks.hL 40) (hwaits := waits m ρ)
    (G := G m) (G' := dealt m) (u₀ := u₀)
    (hu₀ := by
      unfold u₀
      iintro Hu
      ihave H := (ownU_pair _ _) $$ Hu
      icases H with ⟨HP, HX⟩
      ihave HX := (own_pair_emb embR _ _) $$ HX
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem emb_x (y : S2048x512.Idx) : (win0_0.blk (0 : Fin 1)).view.emb y = y :=
  funext fun a => Fin.ext (Window.rect_emb_val_of_index_zero win0_0 (0 : Fin 1) a (by fin_cases a <;> rfl) y)

theorem emb_w (y : S512x128.Idx) : (win0_1.blk (0 : Fin 1)).view.emb y = y :=
  funext fun a => Fin.ext (Window.rect_emb_val_of_index_zero win0_1 (0 : Fin 1) a (by fin_cases a <;> rfl) y)

theorem emb_i (y : S2048x1.Idx) : (win0_2.blk (0 : Fin 1)).view.emb y = y :=
  funext fun a => Fin.ext (Window.rect_emb_val_of_index_zero win0_2 (0 : Fin 1) a (by fin_cases a <;> rfl) y)

theorem emb_e (y : S4x512x1024.Idx) : (win0_3.blk (0 : Fin 1)).view.emb y = y :=
  funext fun a => Fin.ext (Window.rect_emb_val_of_index_zero win0_3 (0 : Fin 1) a (by fin_cases a <;> rfl) y)

theorem emb_p (y : S512x1024.Idx) : (win0_4.blk (0 : Fin 1)).view.emb y = y :=
  funext fun a => Fin.ext (Window.rect_emb_val_of_index_zero win0_4 (0 : Fin 1) a (by fin_cases a <;> rfl) y)

theorem emb_o (y : S2048x1024.Idx) : ((cfg0.win (5 : Fin 6)).blk (0 : Fin 1)).view.emb y = y :=
  funext fun a => Fin.ext (Window.rect_emb_val_of_index_zero (cfg0.win (5 : Fin 6)) (0 : Fin 1) a (by fin_cases a <;> rfl) y)

/-- The blocks a device works on are its arrays, whole. -/
theorem insAt_eq (c : Dev nD) : insAt m c =
    ⟨m ((c : Thread nD τ).loc main_arg0), m ((c : Thread nD τ).loc main_arg1), m ((c : Thread nD τ).loc main_arg2),
     m ((c : Thread nD τ).loc main_arg3), m ((c : Thread nD τ).loc main_arg4)⟩ := by
  unfold insAt
  congr 1
  · exact funext fun y => congrArg (m ((c : Thread nD τ).loc main_arg0)) (emb_x y)
  · exact funext fun y => congrArg (m ((c : Thread nD τ).loc main_arg1)) (emb_w y)
  · exact funext fun y => congrArg (m ((c : Thread nD τ).loc main_arg2)) (emb_i y)
  · exact funext fun y => congrArg (m ((c : Thread nD τ).loc main_arg3)) (emb_e y)
  · exact funext fun y => congrArg (m ((c : Thread nD τ).loc main_arg4)) (emb_p y)

/-- The result array. -/
theorem finalA_o (c : Dev nD) : finalA m ρ c (5 : Fin 6) = outAt m c := by
  funext y
  have h := (dats m ρ 0 c).arrAt_emb_eq_flushed (5 : Fin 6) (fun t t' _ _ h => absurd (Subsingleton.elim (α := Fin 1) t t') h) (0 : Fin 1) (by decide) y
  rw [emb_o] at h
  exact h

theorem finalA_in (c : Dev nD) (w : Fin 6) (h : (cfg0.win w).isOut = false) :
    finalA m ρ c w = m ((cfg0.win w).arr.view.loc (c : Thread nD τ)) := (dats m ρ 0 c).arrAt_in w h _

/-- The run, read: the arguments are as they were, and every device holds its result. -/
theorem run_read : θ_run defs (onTc (τ := τ) (main (F := F))) (s₀ m ρ) (fun r =>
    (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v1) = outAt m c) ∧ r.2.sem = fun _ => 0) :=
  (θ_run _ _ _).mono (fun _ h => ⟨fun c =>
    ⟨⟨(h.1 c (0 : Fin 6)).trans (finalA_in m ρ c 0 rfl), (h.1 c (1 : Fin 6)).trans (finalA_in m ρ c 1 rfl),
      (h.1 c (2 : Fin 6)).trans (finalA_in m ρ c 2 rfl), (h.1 c (3 : Fin 6)).trans (finalA_in m ρ c 3 rfl),
      (h.1 c (4 : Fin 6)).trans (finalA_in m ρ c 4 rfl)⟩, (h.1 c (5 : Fin 6)).trans (finalA_o m ρ c)⟩, h.2⟩) (run_main m ρ)

end Cert.KernelIdeal.Hand

end
-- ==== Proof.KernelIdeal.Words.lean ====
/-
  The integers the kernel computes of the routing: each row's owner and local expert, and the one-hot tables.
-/
module

public import proofs.«01_k».proof.Proof.KernelIdeal.Prog
public import Idealize.ShloMosaic.Lib.Pointwise
public import Idealize.ShloMosaic.Lib.StableHlo.Predicate

@[expose] public section

set_option maxRecDepth 16384

noncomputable section

namespace Cert.KernelIdeal.Hand

open Cert.KernelIdeal Cert.KernelIdeal.Gen
open Idealize.ShloMosaic

/-- The expert a row is routed to. -/
def ex (i : IVec S2048x1 32) (n : Fin 2048) : ℕ := (i (ix2 n 0)).toNat

/-- The device that holds it. -/
def own (i : IVec S2048x1 32) (n : Fin 2048) : ℕ := ex i n / 4

/-- Its number among that device's four. -/
def loc (i : IVec S2048x1 32) (n : Fin 2048) : ℕ := ex i n % 4

theorem own_lt {i : IVec S2048x1 32} (hi : ∀ n, ex i n < 128) (n : Fin 2048) : own i n < 32 := by
  have := hi n; unfold own; omega

theorem loc_lt (i : IVec S2048x1 32) (n : Fin 2048) : loc i n < 4 := Nat.mod_lt _ (by decide)

theorem word_ex (i : IVec S2048x1 32) (n : Fin 2048) : i (ix2 n 0) = BitVec.ofNat 32 (ex i n) := by
  simp [ex]

theorem ownerV_at {i : IVec S2048x1 32} (hi : ∀ n, ex i n < 128) (n : Fin 2048) :
    ownerV (F := Ideal) i (ix2 n 0) = BitVec.ofNat 32 (own i n) := by
  have h := hi n
  pointwise [ownerV, k0_pay8, k0_pay4, k0_pay5, k0_pay6, k0_pay7]
  rw [word_ex i n, own]
  generalize ex i n = k at h
  revert k
  decide

theorem localV_at {i : IVec S2048x1 32} (hi : ∀ n, ex i n < 128) (n : Fin 2048) :
    localV (F := Ideal) i (ix2 n 0) = BitVec.ofNat 32 (loc i n) := by
  have e : localV (F := Ideal) i (ix2 n 0) = IntOp.subi (i (ix2 n 0)) (IntOp.muli (ownerV (F := Ideal) i (ix2 n 0)) 4#32) := by
    pointwise [localV, k0_pay9, ownerV, k0_pay4]
  have h := hi n
  rw [e, ownerV_at hi, word_ex i n, own, loc]
  clear e
  generalize ex i n = k at h
  revert k
  decide

/-- Row `n`, column `d`: whether device `d` owns row `n`. -/
theorem pay10_at {i : IVec S2048x1 32} (hi : ∀ n, ex i n < 128) (n : Fin 2048) (d : Fin 32) :
    k0_pay10 (k0_pay4 (F := Ideal) i) 4#32 (k0_pay5 (F := Ideal) i) (k0_pay6 (F := Ideal) i) k0_pay7 (ix2 n d)
      = if own i n = d.val then 1#32 else 0#32 := by
  have e : k0_pay10 (k0_pay4 (F := Ideal) i) 4#32 (k0_pay5 (F := Ideal) i) (k0_pay6 (F := Ideal) i) k0_pay7 (ix2 n d)
      = (IntOp.cmpi .eq (BitVec.ofNat 32 d.val) (ownerV (F := Ideal) i (ix2 n 0))).setWidth 32 := by
    pointwise [k0_pay10, ownerV]
  rw [e, ownerV_at hi]
  clear e
  have := own_lt hi n
  generalize own i n = k at this
  revert k
  revert d
  decide

/-- The value of a one-hot table's entry. -/
theorem sitofp_bit (φ : FTy) (P : Prop) [Decidable P] :
    (FloatOps.sitofp (F := Ideal) φ (if P then 1#32 else 0#32) : EReal) = if P then (1 : EReal) else 0 := by
  split <;> simp [FloatOps.sitofp]

theorem pay12_at {i : IVec S2048x1 32} (hi : ∀ n, ex i n < 128) (n : Fin 2048) (d : Fin 32) :
    k0_pay12 (F := Ideal) (k0_pay4 (F := Ideal) i) 4#32 (k0_pay5 (F := Ideal) i) (k0_pay6 (F := Ideal) i) k0_pay7 (ix2 n d)
      = if own i n = d.val then (1 : EReal) else 0 := by
  pointwise [k0_pay12]
  rw [pay10_at hi]
  exact sitofp_bit _ _

/-- A comparison of two small numbers, widened. -/
theorem slt_bit {a b : ℕ} (ha : a < 2 ^ 31) (hb : b < 2 ^ 31) :
    (IntOp.cmpi .slt (BitVec.ofNat 32 a) (BitVec.ofNat 32 b)).setWidth 32 = if a < b then 1#32 else 0#32 := by
  have h : (BitVec.ofNat 32 a).slt (BitVec.ofNat 32 b) = decide (a < b) := by
    rw [BitVec.slt_eq_decide]
    have h1 : (BitVec.ofNat 32 a).toInt = a := by rw [BitVec.toInt_eq_toNat_cond, BitVec.toNat_ofNat]; omega
    have h2 : (BitVec.ofNat 32 b).toInt = b := by rw [BitVec.toInt_eq_toNat_cond, BitVec.toNat_ofNat]; omega
    rw [h1, h2]; simp
  show ((BitVec.ofBool ((BitVec.ofNat 32 a).slt (BitVec.ofNat 32 b))).setWidth 32) = _
  rw [h]
  by_cases hab : a < b <;> simp [hab]

theorem pay11_at (a b : Fin 512) :
    k0_pay11 (F := Ideal) (ix2 a b) = if b.val < a.val then (1 : EReal) else 0 := by
  pointwise [k0_pay11]
  have ha := a.isLt
  have hb := b.isLt
  rw [slt_bit (by omega) (by omega)]
  exact sitofp_bit _ _

/-- Whether row `k` is device `d`'s. -/
def hit (i : IVec S2048x1 32) (d k : ℕ) : ℕ := if h : k < 2048 then (if own i ⟨k, h⟩ = d then 1 else 0) else 0

/-- How many of the rows before `n` are device `d`'s. -/
def rank (i : IVec S2048x1 32) (d n : ℕ) : ℕ := ∑ k ∈ Finset.range n, hit i d k

theorem rank_add (i : IVec S2048x1 32) (d o a : ℕ) :
    rank i d (o + a) = rank i d o + ∑ k ∈ Finset.range a, hit i d (o + k) := Finset.sum_range_add _ _ _

theorem hit_le (i : IVec S2048x1 32) (d k : ℕ) : hit i d k ≤ 1 := by
  unfold hit; split
  · split <;> simp
  · simp

theorem rank_le (i : IVec S2048x1 32) (d n : ℕ) : rank i d n ≤ n := by
  refine (Finset.sum_le_sum fun k _ => hit_le i d k).trans ?_
  simp

/-- Conversion of a small number to an integer word. -/
theorem fptosi_nat {k : ℕ} (hk : k < 2048) :
    FloatOps.fptosi (F := Ideal) (φ := .f32) 32 ((k : ℕ) : EReal) = BitVec.ofNat 32 k := by
  have h : FloatOps.fptosi (F := Ideal) (φ := .f32) 32 ((k : ℕ) : EReal)
      = BitVec.ofInt 32 (Ideal.toIntClamped (-2147483648) 2147483647 ((k : ℕ) : EReal)) := by
    simp [Ideal.fptosi, FloatOps.fptosi]
  rw [h, ← EReal.coe_natCast, Ideal.toIntClamped_coe, if_pos (Nat.cast_nonneg k), Int.floor_natCast,
    min_eq_right (by omega), max_eq_right (by omega), BitVec.ofInt_natCast]

theorem pay12_hit {i : IVec S2048x1 32} (hi : ∀ n, ex i n < 128) (k : ℕ) (hk : k < 2048) (d : Fin 32) :
    k0_pay12 (F := Ideal) (k0_pay4 (F := Ideal) i) 4#32 (k0_pay5 (F := Ideal) i) (k0_pay6 (F := Ideal) i) k0_pay7 (ix2 ⟨k, hk⟩ d)
      = ((hit i d.val k : ℕ) : EReal) := by
  rw [pay12_at hi, hit, dif_pos hk]
  split <;> simp

/-- The column sum of one segment of the one-hot table. -/
theorem seg_sum {i : IVec S2048x1 32} (hi : ∀ n, ex i n < 128) (o : ℕ) (ho : o + 512 ≤ 2048) (d : Fin 32) :
    (∑ x : Fin 512, (k0_pay12 (F := Ideal) (k0_pay4 (F := Ideal) i) 4#32 (k0_pay5 (F := Ideal) i) (k0_pay6 (F := Ideal) i) k0_pay7
        (ix2 ⟨o + x.val, by have := x.isLt; omega⟩ d) : EReal))
      = ((∑ k ∈ Finset.range 512, hit i d.val (o + k) : ℕ) : EReal) := by
  rw [Finset.sum_range, Nat.cast_sum]
  exact Finset.sum_congr rfl fun x _ => pay12_hit hi _ _ d

/-- The rows of one segment before row `a` of it. -/
theorem seg_tri {i : IVec S2048x1 32} (hi : ∀ n, ex i n < 128) (o : ℕ) (ho : o + 512 ≤ 2048) (a : Fin 512) (d : Fin 32) :
    (∑ x : Fin 512, (k0_pay11 (F := Ideal) (ix2 a x) : EReal)
        * k0_pay12 (F := Ideal) (k0_pay4 (F := Ideal) i) 4#32 (k0_pay5 (F := Ideal) i) (k0_pay6 (F := Ideal) i) k0_pay7
          (ix2 ⟨o + x.val, by have := x.isLt; omega⟩ d))
      = ((∑ k ∈ Finset.range a.val, hit i d.val (o + k) : ℕ) : EReal) := by
  have h : ∑ k ∈ Finset.range a.val, hit i d.val (o + k)
      = ∑ x : Fin 512, (if x.val < a.val then 1 else 0) * hit i d.val (o + x.val) := by
    rw [← Finset.sum_range (fun k => (if k < a.val then 1 else 0) * hit i d.val (o + k))]
    have hs : Finset.range a.val ⊆ Finset.range 512 := Finset.range_subset_range.2 (by have := a.isLt; omega)
    rw [← Finset.sum_subset hs fun k _ hk => by rw [if_neg (by simpa using hk), Nat.zero_mul]]
    exact Finset.sum_congr rfl fun k hk => by rw [if_pos (by simpa using hk), Nat.one_mul]
  rw [h, Nat.cast_sum]
  refine Finset.sum_congr rfl fun x _ => ?_
  rw [pay11_at, pay12_hit hi]
  split <;> simp

theorem pay16_at {i : IVec S2048x1 32} (hi : ∀ n, ex i n < 128) (d : Fin 32) :
    k0_pay16 (F := Ideal) (k0_pay4 (F := Ideal) i) 4#32 (k0_pay5 (F := Ideal) i) (k0_pay6 (F := Ideal) i) k0_pay7 (ix2 0 d) = ((rank i d.val 512 : ℕ) : EReal) := by
  pointwise [k0_pay16, k0_pay14, k0_pay13]
  rw [rank]
  have h := seg_sum hi 0 (by decide) d
  simp only [Nat.zero_add] at h
  exact h

theorem pay19_at {i : IVec S2048x1 32} (hi : ∀ n, ex i n < 128) (d : Fin 32) :
    k0_pay19 (F := Ideal) (k0_pay4 (F := Ideal) i) 4#32 (k0_pay5 (F := Ideal) i) (k0_pay6 (F := Ideal) i) k0_pay7 (ix2 0 d) = ((rank i d.val 1024 : ℕ) : EReal) := by
  pointwise [k0_pay19, k0_pay17]
  refine (congrArg₂ (fun a b : EReal => a + b) (pay16_at hi d) (seg_sum hi 512 (by decide) d)).trans ?_
  rw [show 1024 = 512 + 512 from rfl, rank_add, Nat.cast_add]

theorem pay22_at {i : IVec S2048x1 32} (hi : ∀ n, ex i n < 128) (d : Fin 32) :
    k0_pay22 (F := Ideal) (k0_pay4 (F := Ideal) i) 4#32 (k0_pay5 (F := Ideal) i) (k0_pay6 (F := Ideal) i) k0_pay7 (ix2 0 d) = ((rank i d.val 1536 : ℕ) : EReal) := by
  pointwise [k0_pay22, k0_pay20]
  refine (congrArg₂ (fun a b : EReal => a + b) (pay19_at hi d) (seg_sum hi 1024 (by decide) d)).trans ?_
  rw [show 1536 = 1024 + 512 from rfl, rank_add, Nat.cast_add]

theorem pay15_at {i : IVec S2048x1 32} (hi : ∀ n, ex i n < 128) (a : Fin 512) (d : Fin 32) :
    k0_pay15 (F := Ideal) (k0_pay4 (F := Ideal) i) 4#32 (k0_pay5 (F := Ideal) i) (k0_pay6 (F := Ideal) i) k0_pay7 (ix2 a d) = ((rank i d.val (0 + a.val) : ℕ) : EReal) := by
  pointwise [k0_pay15, k0_pay14, k0_pay13, dot_S512x512_S512x32_S512x32_1_0_0_1_n_n]
  rw [rank]
  have h := seg_tri hi 0 (by decide) a d
  simp only [Nat.zero_add] at h
  exact h

theorem pay18_at {i : IVec S2048x1 32} (hi : ∀ n, ex i n < 128) (a : Fin 512) (d : Fin 32) :
    k0_pay18 (F := Ideal) (k0_pay4 (F := Ideal) i) 4#32 (k0_pay5 (F := Ideal) i) (k0_pay6 (F := Ideal) i) k0_pay7 (ix2 a d) = ((rank i d.val (512 + a.val) : ℕ) : EReal) := by
  pointwise [k0_pay18, k0_pay17, dot_S512x512_S512x32_S512x32_1_0_0_1_n_n]
  refine (congrArg₂ (fun a b : EReal => a + b) (seg_tri hi 512 (by decide) a d) (pay16_at hi d)).trans ?_
  rw [rank_add, Nat.cast_add, add_comm]

theorem pay21_at {i : IVec S2048x1 32} (hi : ∀ n, ex i n < 128) (a : Fin 512) (d : Fin 32) :
    k0_pay21 (F := Ideal) (k0_pay4 (F := Ideal) i) 4#32 (k0_pay5 (F := Ideal) i) (k0_pay6 (F := Ideal) i) k0_pay7 (ix2 a d) = ((rank i d.val (1024 + a.val) : ℕ) : EReal) := by
  pointwise [k0_pay21, k0_pay20, dot_S512x512_S512x32_S512x32_1_0_0_1_n_n]
  refine (congrArg₂ (fun a b : EReal => a + b) (seg_tri hi 1024 (by decide) a d) (pay19_at hi d)).trans ?_
  rw [rank_add, Nat.cast_add, add_comm]

/-- The last segment's rows, as the position's sum reads them. -/
theorem last_at {i : IVec S2048x1 32} (hi : ∀ n, ex i n < 128) (a : Fin 512) (d : Fin 32) :
    (addf (matmul dot_S512x512_S512x32_S512x32_1_0_0_1_n_n none (k0_pay11 (F := Ideal)) (k0_pay23 (F := Ideal) (k0_pay4 (F := Ideal) i) 4#32 (k0_pay5 (F := Ideal) i) (k0_pay6 (F := Ideal) i) k0_pay7)
        (constant S512x32 .f32 0x00000000#32))
      (broadcastTo S512x32 (k0_pay22 (F := Ideal) (k0_pay4 (F := Ideal) i) 4#32 (k0_pay5 (F := Ideal) i) (k0_pay6 (F := Ideal) i) k0_pay7) broadcasts_S1x32_S512x32) : FVec Ideal S512x32 .f32) (ix2 a d)
      = ((rank i d.val (1536 + a.val) : ℕ) : EReal) := by
  pointwise [k0_pay23, dot_S512x512_S512x32_S512x32_1_0_0_1_n_n]
  refine (congrArg₂ (fun a b : EReal => a + b) (seg_tri hi 1536 (by decide) a d) (pay22_at hi d)).trans ?_
  rw [rank_add, Nat.cast_add, add_comm]

/-- The position of row `n` among the rows of its owner, as the kernel computes it. -/
def posV (i : IVec S2048x1 32) : IVec S2048x1 32 :=
  k0_pay24 (F := Ideal) (k0_pay10 (k0_pay4 (F := Ideal) i) 4#32 (k0_pay5 (F := Ideal) i) (k0_pay6 (F := Ideal) i) k0_pay7) (k0_pay11 (F := Ideal)) (k0_pay15 (F := Ideal) (k0_pay4 (F := Ideal) i) 4#32 (k0_pay5 (F := Ideal) i) (k0_pay6 (F := Ideal) i) k0_pay7)
    (k0_pay18 (F := Ideal) (k0_pay4 (F := Ideal) i) 4#32 (k0_pay5 (F := Ideal) i) (k0_pay6 (F := Ideal) i) k0_pay7) (k0_pay21 (F := Ideal) (k0_pay4 (F := Ideal) i) 4#32 (k0_pay5 (F := Ideal) i) (k0_pay6 (F := Ideal) i) k0_pay7) (k0_pay22 (F := Ideal) (k0_pay4 (F := Ideal) i) 4#32 (k0_pay5 (F := Ideal) i) (k0_pay6 (F := Ideal) i) k0_pay7)
    (k0_pay23 (F := Ideal) (k0_pay4 (F := Ideal) i) 4#32 (k0_pay5 (F := Ideal) i) (k0_pay6 (F := Ideal) i) k0_pay7) (constant S512x32 .f32 0x00000000#32)

theorem posV_at {i : IVec S2048x1 32} (hi : ∀ n, ex i n < 128) (n : Fin 2048) :
    posV i (ix2 n 0) = BitVec.ofNat 32 (rank i (own i n) n.val) := by
  unfold posV k0_pay24
  pointwise
  refine (congrArg (FloatOps.fptosi (F := Ideal) (φ := .f32) 32) ((Finset.sum_congr rfl fun x _ =>
    congrArg₂ (fun a b : EReal => a * b)
      (?_ : _ = if own i n = x.val then (1 : EReal) else 0)
      (?_ : _ = ((rank i x.val n.val : ℕ) : EReal))).trans
    (?_ : _ = ((rank i (own i n) n.val : ℕ) : EReal)))).trans ?_
  · rw [pay10_at hi]
    exact sitofp_bit _ _
  · have hn := n.isLt
    by_cases h1 : n.val < 512
    · rw [dif_pos h1, pay15_at hi]
      simp
    rw [dif_neg h1]
    by_cases h2 : n.val - 512 < 512
    · rw [dif_pos h2, pay18_at hi]
      exact congrArg (fun k => ((rank i x.val k : ℕ) : EReal)) (by dsimp only; omega)
    rw [dif_neg h2]
    by_cases h3 : n.val - 512 - 512 < 512
    · rw [dif_pos h3, pay21_at hi]
      exact congrArg (fun k => ((rank i x.val k : ℕ) : EReal)) (by dsimp only; omega)
    rw [dif_neg h3]
    have h := last_at hi ⟨n.val - 512 - 512 - 512, by omega⟩ x
    pointwise [dot_S512x512_S512x32_S512x32_1_0_0_1_n_n] at h
    refine h.trans ?_
    exact congrArg (fun k => ((rank i x.val k : ℕ) : EReal)) (by omega)
  · rw [Finset.sum_eq_single (⟨own i n, own_lt hi n⟩ : Fin 32)]
    · simp
    · intro b _ hb
      rw [if_neg fun h => hb (Fin.ext h.symm), zero_mul]
    · simp
  · exact fptosi_nat (lt_of_le_of_lt (rank_le _ _ _) n.isLt)

/-! ### Rows of one owner have different positions -/

theorem rank_mono (i : IVec S2048x1 32) (d : ℕ) {a b : ℕ} (h : a ≤ b) : rank i d a ≤ rank i d b :=
  Finset.sum_le_sum_of_subset (Finset.range_subset_range.2 h)

theorem rank_succ (i : IVec S2048x1 32) (n : Fin 2048) : rank i (own i n) (n.val + 1) = rank i (own i n) n.val + 1 := by
  rw [rank, Finset.sum_range_succ, hit, dif_pos n.isLt, if_pos rfl]; rfl

theorem rank_lt (i : IVec S2048x1 32) {n : Fin 2048} {b : ℕ} (h : n.val < b) :
    rank i (own i n) n.val < rank i (own i n) b :=
  lt_of_lt_of_le (by rw [rank_succ]; exact Nat.lt_succ_self _) (rank_mono i _ h)

theorem rank_inj {i : IVec S2048x1 32} {n k : Fin 2048} (ho : own i n = own i k)
    (h : rank i (own i n) n.val = rank i (own i k) k.val) : n = k := by
  rcases lt_trichotomy n.val k.val with h' | h' | h'
  · have := rank_lt i h'; rw [ho] at this h; omega
  · exact Fin.ext h'
  · have := rank_lt i h'; rw [← ho] at this h; omega

/-! ### The slot of each row's contribution, and the rows a device owns -/

/-- The device's number on the ring is its own. -/
theorem myW_eq (c : Dev nD) : myW c = BitVec.ofNat 32 c.val := by
  revert c; decide

/-- The block of the gathered buffer that holds device `o`'s contribution, on device `c`. -/
def slotN (c o : ℕ) : ℕ :=
  if (o + 32 - c) % 32 = 0 then 31
  else if 16 ≤ (o + 32 - c) % 32 then 2 * (31 - (o + 32 - c) % 32) else 2 * ((o + 32 - c) % 32) - 1

/-- The kernel's arithmetic for the slot, on words. -/
def slotW (o c : BitVec 32) : BitVec 32 :=
  Scalar.select (IntOp.cmpi .eq (IntOp.remsi .vector (IntOp.addi (IntOp.subi o c) 32#32) 32#32) 0#32) 31#32
    (Scalar.select (IntOp.cmpi .sge (IntOp.remsi .vector (IntOp.addi (IntOp.subi o c) 32#32) 32#32) 16#32)
      (IntOp.muli 2#32 (IntOp.subi 31#32 (IntOp.remsi .vector (IntOp.addi (IntOp.subi o c) 32#32) 32#32)))
      (IntOp.subi (IntOp.muli 2#32 (IntOp.remsi .vector (IntOp.addi (IntOp.subi o c) 32#32) 32#32)) 1#32))

theorem slotW_eq (o c : Fin 32) : slotW (BitVec.ofNat 32 o.val) (BitVec.ofNat 32 c.val) = BitVec.ofNat 32 (slotN c.val o.val) := by
  revert o c; decide +kernel

theorem slotN_lt (o c : Fin 32) : slotN c.val o.val < 32 := by
  revert o c; decide +kernel

theorem colV_at {i : IVec S2048x1 32} (hi : ∀ n, ex i n < 128) (c : Dev nD) (n : Fin 2048) :
    colV (F := Ideal) i c (ix2 n 0) = BitVec.ofNat 32 (slotN c.val (own i n) * 112 + rank i (own i n) n.val) := by
  have e : colV (F := Ideal) i c (ix2 n 0)
      = IntOp.addi (IntOp.muli (slotW (ownerV (F := Ideal) i (ix2 n 0)) (myW c)) 112#32) (posV i (ix2 n 0)) := by
    unfold colV k0_pay25 posV slotW
    pointwise
  have hs := slotW_eq ⟨own i n, own_lt hi n⟩ c
  simp only at hs
  rw [e, ownerV_at hi, myW_eq, hs, posV_at hi]
  show BitVec.ofNat 32 _ * 112#32 + BitVec.ofNat 32 _ = _
  rw [BitVec.ofNat_add, BitVec.ofNat_mul]

/-- An equation between two small numbers. -/
theorem eq_iff {a b : ℕ} (ha : a < 2 ^ 32) (hb : b < 2 ^ 32) :
    IntOp.cmpi .eq (BitVec.ofNat 32 a) (BitVec.ofNat 32 b) = if a = b then 1#1 else 0#1 := by
  have h : (BitVec.ofNat 32 a == BitVec.ofNat 32 b) = decide (a = b) := by
    rw [beq_eq_decide]
    refine decide_eq_decide.2 ⟨fun h => ?_, fun h => by rw [h]⟩
    have := congrArg BitVec.toNat h
    simp only [BitVec.toNat_ofNat] at this
    omega
  show BitVec.ofBool (BitVec.ofNat 32 a == BitVec.ofNat 32 b) = _
  rw [h]
  by_cases hab : a = b <;> simp [hab]

/-- The same, widened. -/
theorem eq_bit {a b : ℕ} (ha : a < 2 ^ 32) (hb : b < 2 ^ 32) :
    (IntOp.cmpi .eq (BitVec.ofNat 32 a) (BitVec.ofNat 32 b)).setWidth 32 = if a = b then 1#32 else 0#32 := by
  rw [eq_iff ha hb]
  split <;> rfl

theorem select_ite {α : Type} (P : Prop) [Decidable P] (x y : α) :
    Scalar.select (if P then 1#1 else 0#1) x y = if P then x else y := by
  by_cases h : P <;> simp [h, Scalar.select]

theorem pickV_at {i : IVec S2048x1 32} (hi : ∀ n, ex i n < 128) (c : Dev nD) (p : Fin 112) (n : Fin 2048) :
    pickV (F := Ideal) i c (ix2 p n) = if own i n = c.val ∧ rank i (own i n) n.val = p.val then (1 : EReal) else 0 := by
  have e : pickV (F := Ideal) i c (ix2 p n)
      = (FloatOps.sitofp (F := Ideal) .f32 ((IntOp.cmpi .eq (BitVec.ofNat 32 p.val)
          (Scalar.select (IntOp.cmpi .eq (ownerV (F := Ideal) i (ix2 n 0)) (myW c)) (posV i (ix2 n 0)) 4294967295#32)).setWidth 32) : EReal) := by
    unfold pickV k0_pay26 posV
    pointwise
  have ho := own_lt hi n
  have hc : c.val < 32 := c.isLt
  have hp := p.isLt
  have hr := rank_le i (own i n) n.val
  have hn := n.isLt
  rw [e, ownerV_at hi, myW_eq, posV_at hi, eq_iff (by omega) (by omega), select_ite]
  by_cases h : own i n = c.val
  · rw [if_pos h, eq_bit (by omega) (by omega), sitofp_bit]
    exact if_congr ⟨fun h' => ⟨h, h'.symm⟩, fun h' => h'.2.symm⟩ rfl rfl
  · rw [if_neg h, show (4294967295#32 : BitVec 32) = BitVec.ofNat 32 4294967295 from rfl, eq_bit (by omega) (by omega),
      if_neg (by omega), if_neg fun h' => h h'.1]
    simp [FloatOps.sitofp]

end Cert.KernelIdeal.Hand
-- ==== Proof.KernelIdeal.Contrib.lean ====
/-
  What a device contributes for a row it owns: the row times its expert, times its gate.
-/
module

public import proofs.«01_k».proof.Proof.KernelIdeal.Words

@[expose] public section

set_option maxRecDepth 16384

noncomputable section

namespace Cert.KernelIdeal.Hand

open Cert.KernelIdeal Cert.KernelIdeal.Gen
open Idealize.ShloMosaic

/-- The score of row `n` for expert `l`. -/
def sc (x : FVec Ideal S2048x512 .bf16) (w : FVec Ideal S512x128 .bf16) (n : Fin 2048) (l : Fin 128) : EReal :=
  ∑ k : Fin 512, x (ix2 n k) * w (ix2 k l)

/-- The greatest score of row `n`. -/
def mx (x : FVec Ideal S2048x512 .bf16) (w : FVec Ideal S512x128 .bf16) (n : Fin 2048) : EReal :=
  Finset.univ.fold max (Ideal.ofBits .f32 0xFF800000#32) (sc x w n)

/-- The unscaled weight of expert `l` for row `n`. -/
def pe (x : FVec Ideal S2048x512 .bf16) (w : FVec Ideal S512x128 .bf16) (n : Fin 2048) (l : Fin 128) : EReal :=
  Ideal.exp (sc x w n l - mx x w n)

section
variable {i : IVec S2048x1 32} (hi : ∀ n, ex i n < 128) (c : Dev nD) (p : Fin 112) (n : Fin 2048)
variable (ho : own i n = c.val) (hp : rank i (own i n) n.val = p.val)
include hi ho hp

/-- Row `p` of the device's table picks row `n` out of any column. -/
theorem pick_sum (f : Fin 2048 → EReal) : ∑ k : Fin 2048, (pickV (F := Ideal) i c (ix2 p k) : EReal) * f k = f n := by
  rw [Finset.sum_eq_single n]
  · rw [pickV_at hi, if_pos ⟨ho, hp⟩, one_mul]
  · intro k _ hk
    rw [pickV_at hi, if_neg, zero_mul]
    rintro ⟨h1, h2⟩
    exact hk (rank_inj (h1.trans ho.symm) (h2.trans hp.symm))
  · simp

theorem rowsV_at (x : FVec Ideal S2048x512 .bf16) (j : Fin 512) : rowsV (F := Ideal) i c x (ix2 p j) = x (ix2 n j) := by
  have e : rowsV (F := Ideal) i c x (ix2 p j) = ∑ k : Fin 2048, (pickV (F := Ideal) i c (ix2 p k) : EReal) * x (ix2 k j) := by
    unfold rowsV k0_pay27 pickV
    pointwise [dot_S112x2048_S2048x512_S112x512_1_0_0_1_n_n, k0_pay3]
  rw [e]
  exact pick_sum hi c p n ho hp _

theorem rowsBV_at (x : FVec Ideal S2048x512 .bf16) (j : Fin 512) : rowsBV (F := Ideal) i c x (ix2 p j) = x (ix2 n j) := by
  rw [← rowsV_at hi c p n ho hp x j]
  unfold rowsBV k0_pay28 rowsV
  pointwise

theorem pay29_at : k0_pay29 (F := Ideal) (localV (F := Ideal) i) (pickV (F := Ideal) i c) (ix2 p 0) = ((loc i n : ℕ) : EReal) := by
  have e : k0_pay29 (F := Ideal) (localV (F := Ideal) i) (pickV (F := Ideal) i c) (ix2 p 0)
      = ∑ k : Fin 2048, (pickV (F := Ideal) i c (ix2 p k) : EReal) * FloatOps.sitofp (F := Ideal) .bf16 (localV (F := Ideal) i (ix2 k 0)) := by
    unfold k0_pay29
    pointwise [dot_S112x2048_S2048x1_S112x1_1_0_0_1_n_n]
  rw [e, pick_sum hi c p n ho hp (fun k => FloatOps.sitofp (F := Ideal) .bf16 (localV (F := Ideal) i (ix2 k 0))), localV_at hi]
  have := loc_lt i n
  generalize loc i n = l at this
  interval_cases l <;> simp [FloatOps.sitofp] <;> rfl

theorem gate_at (x : FVec Ideal S2048x512 .bf16) (w : FVec Ideal S512x128 .bf16) :
    k0_pay30 (F := Ideal) (myW c) (localV (F := Ideal) i) (pickV (F := Ideal) i c) (rowsV (F := Ideal) i c x) w (ix2 p 0)
      = Ideal.div (pe x w n ⟨ex i n, hi n⟩) (∑ l, pe x w n l) := by
  have h := rowsV_at hi c p n ho hp x
  have hl := pay29_at hi c p n ho hp
  unfold k0_pay30
  pointwise [dot_S112x512_S512x128_S112x128_1_0_0_1_n_n, h]
  rw [hl, myW_eq, fptosi_nat (by have := loc_lt i n; omega)]
  refine congrArg₂ Ideal.div ?_ rfl
  have hw : IntOp.addi (Scalar.muli (BitVec.ofNat 32 c.val) 4#32) (BitVec.ofNat 32 (loc i n)) = BitVec.ofNat 32 (ex i n) := by
    show BitVec.ofNat 32 _ * BitVec.ofNat 32 4 + BitVec.ofNat 32 _ = _
    rw [← BitVec.ofNat_mul, ← BitVec.ofNat_add]
    refine congrArg _ ?_
    unfold loc
    unfold own at ho
    omega
  rw [hw]
  refine (Finset.sum_eq_single (⟨ex i n, hi n⟩ : Fin 128) ?_ ?_).trans ?_
  · intro b _ hb
    have hn := hi n
    have hb' := b.isLt
    rw [eq_iff (by omega) (by omega), select_ite, if_neg fun h' => hb (Fin.ext h')]
  · simp
  · have hn := hi n
    rw [eq_iff (by omega) (by omega), select_ite, if_pos rfl]
    rfl

/-- Row `n` times its expert. -/
def prod (x : FVec Ideal S2048x512 .bf16) (e : Fin 512 → Fin 1024 → EReal) (n : Fin 2048) (j : Fin 1024) : EReal :=
  ∑ k : Fin 512, x (ix2 n k) * e k j

omit hi ho hp in
theorem two_lit : Ideal.ofBits .f32 0x40000000#32 = ((2 : ℕ) : EReal) := by
  rw [← EReal.coe_natCast]
  simp [Ideal.ofBits, Ideal.ieee, -EReal.coe_mul]; norm_num

omit hi ho hp in
theorem three_lit : Ideal.ofBits .f32 0x40400000#32 = ((3 : ℕ) : EReal) := by
  rw [← EReal.coe_natCast]
  simp [Ideal.ofBits, Ideal.ieee, -EReal.coe_mul]; norm_num

theorem contribV_at (x : FVec Ideal S2048x512 .bf16) (w : FVec Ideal S512x128 .bf16)
    (e0 e1 e2 e3 : FVec Ideal S1x512x1024 .bf16) (j : Fin 1024) :
    contribV (F := Ideal) c x w i e0 e1 e2 e3 (ix2 p j)
      = prod x (fun k j => (![e0, e1, e2, e3] ⟨loc i n, loc_lt i n⟩) (ix3 0 k j)) n j
        * Ideal.div (pe x w n ⟨ex i n, hi n⟩) (∑ l, pe x w n l) := by
  have h := rowsBV_at hi c p n ho hp x
  have hl := pay29_at hi c p n ho hp
  have hg := gate_at hi c p n ho hp x w
  unfold contribV k0_pay34
  pointwise [k0_pay31, k0_pay32, k0_pay33, dot_S112x512_S512x1024_S112x1024_1_0_0_1_n_n, h, hl, hg]
  rw [two_lit, three_lit]
  refine congrArg₂ (fun a b : EReal => a * b) ?_ rfl
  have z1 : ∀ {a b : ℕ}, ((a : ℕ) : EReal) = ((b : ℕ) : EReal) ↔ a = b := fun {a b} => Nat.cast_inj
  have h0 : (0 : EReal) = ((0 : ℕ) : EReal) := by simp
  have h1 : (1 : EReal) = ((1 : ℕ) : EReal) := by simp
  have hlt := loc_lt i n
  obtain hq | hq | hq | hq : loc i n = 0 ∨ loc i n = 1 ∨ loc i n = 2 ∨ loc i n = 3 := by omega
  · rw [show (⟨loc i n, loc_lt i n⟩ : Fin 4) = 0 from Fin.ext hq, hq, if_pos (by simp), if_neg (by simp), if_neg (by rw [z1]; omega), if_neg (by rw [z1]; omega)]
    simp [prod]
  · rw [show (⟨loc i n, loc_lt i n⟩ : Fin 4) = 1 from Fin.ext hq, hq, if_neg (by simp), if_pos (by simp), if_neg (by rw [z1]; omega), if_neg (by rw [z1]; omega)]
    simp [prod]
  · rw [show (⟨loc i n, loc_lt i n⟩ : Fin 4) = 2 from Fin.ext hq, hq, if_neg (by rw [h0, z1]; omega), if_neg (by rw [h1, z1]; omega), if_pos rfl, if_neg (by rw [z1]; omega)]
    simp [prod]
  · rw [show (⟨loc i n, loc_lt i n⟩ : Fin 4) = 3 from Fin.ext hq, hq, if_neg (by rw [h0, z1]; omega), if_neg (by rw [h1, z1]; omega), if_neg (by rw [z1]; omega), if_pos rfl]
    simp [prod]

end

end Cert.KernelIdeal.Hand
-- ==== Proof.KernelIdeal.Gather.lean ====
/-
  The result of a device: the shared expert's, plus each row's contribution out of the gathered buffer.
-/
module

public import proofs.«01_k».proof.Proof.KernelIdeal.Contrib
public import proofs.«01_k».proof.Proof.KernelIdeal.Body

@[expose] public section

set_option maxRecDepth 16384

noncomputable section

namespace Cert.KernelIdeal.Hand

open Cert.KernelIdeal Cert.KernelIdeal.Gen
open Idealize.ShloMosaic

/-- Where a device's contribution is read from is where it landed. -/
theorem srcOf_slot (c o : Dev nD) : srcOf c (slotN c.val o.val) = o := by
  revert c o; decide +kernel

section
variable (ct : Dev nD → FVec Ideal S112x1024 .bf16) (c : Dev nD) (col : IVec S2048x1 32) (n : Fin 2048) (j : Fin 1024)

/-- Row `t` of the gathered buffer. -/
def gathAt (t : ℕ) : EReal := ct (srcOf c (t / 112)) (at2 ⟨t % 112, Nat.mod_lt _ (by decide)⟩ j)

theorem accumV_at (g : Fin 4) (o : FVec Ideal S2048x1024 .f32) (t : ℕ) (ht : t < 3584) (hc : col (ix2 n 0) = BitVec.ofNat 32 t) :
    accumV (F := Ideal) g.val col o (grpV ct c g) (ix2 n j)
      = o (ix2 n j) + if t / 896 = g.val then gathAt ct c j t else 0 := by
  have hg := g.isLt
  have e : accumV (F := Ideal) g.val col o (grpV ct c g) (ix2 n j)
      = o (ix2 n j) + ∑ r : Fin 896, (FloatOps.sitofp (F := Ideal) .f32 ((IntOp.cmpi .eq (BitVec.ofNat 32 r.val)
          (IntOp.subi (col (ix2 n 0)) (BitVec.ofNat 32 (g.val * 896)))).setWidth 32) : EReal) * gathAt ct c j (g.val * 896 + r.val) := by
    unfold accumV
    pointwise [dot_S2048x896_S896x1024_S2048x1024_1_0_0_1_n_n]
    rfl
  have hb : ∀ r : Fin 896, (IntOp.cmpi .eq (BitVec.ofNat 32 r.val)
      (IntOp.subi (col (ix2 n 0)) (BitVec.ofNat 32 (g.val * 896)))).setWidth 32
        = if g.val * 896 + r.val = t then 1#32 else 0#32 := by
    intro r
    have hr := r.isLt
    rw [← eq_bit (by omega) (by omega), hc]
    refine congrArg (BitVec.setWidth 32) ?_
    show BitVec.ofBool (_ == _) = BitVec.ofBool (_ == _)
    refine congrArg _ ?_
    rw [beq_eq_decide, beq_eq_decide]
    refine decide_eq_decide.2 ?_
    show BitVec.ofNat 32 r.val = BitVec.ofNat 32 t - BitVec.ofNat 32 (g.val * 896) ↔ _
    rw [BitVec.ofNat_add, eq_comm, BitVec.sub_eq_iff_eq_add, eq_comm, BitVec.add_comm]
  rw [e]
  refine congrArg _ ?_
  by_cases h : t / 896 = g.val
  · rw [if_pos h]
    refine (Finset.sum_eq_single (⟨t - g.val * 896, by omega⟩ : Fin 896) ?_ ?_).trans ?_
    · intro r _ hr
      rw [hb, if_neg fun h' => hr (Fin.ext (by simp only; omega)), show (0#32 : BitVec 32) = if False then 1#32 else 0#32 from rfl,
        sitofp_bit, if_neg id, zero_mul]
    · simp
    · rw [hb, if_pos (by simp only; omega), show (1#32 : BitVec 32) = if True then 1#32 else 0#32 from rfl,
        sitofp_bit, if_pos trivial, one_mul]
      exact congrArg _ (by simp only; omega)
  · rw [if_neg h]
    refine Finset.sum_eq_zero fun r _ => ?_
    have hr := r.isLt
    rw [hb, if_neg (by omega), show (0#32 : BitVec 32) = if False then 1#32 else 0#32 from rfl, sitofp_bit, if_neg id, zero_mul]

theorem outS_at (o : FVec Ideal S2048x1024 .f32) (t : ℕ) (ht : t < 3584) (hc : col (ix2 n 0) = BitVec.ofNat 32 t) :
    outS ct col o c 4 (ix2 n j) = o (ix2 n j) + gathAt ct c j t := by
  have h (g : ℕ) (hg : g < 4) : outS ct col o c (g + 1) (ix2 n j)
      = outS ct col o c g (ix2 n j) + if t / 896 = g then gathAt ct c j t else 0 := by
    rw [outS, dif_pos hg]
    exact accumV_at ct c col n j ⟨g, hg⟩ _ t ht hc
  rw [h 3 (by decide), h 2 (by decide), h 1 (by decide), h 0 (by decide), outS]
  obtain hq | hq | hq | hq : t / 896 = 0 ∨ t / 896 = 1 ∨ t / 896 = 2 ∨ t / 896 = 3 := by omega
  all_goals simp [hq]

end

/-- Row `n` of a device's result: the shared expert's row, plus row `n`'s contribution from its owner. -/
theorem outOf_at (ct : Dev nD → FVec Ideal S112x1024 .bf16) (c : Dev nD) (I : Ins Ideal) (hi : ∀ n, ex I.i n < 128)
    (n : Fin 2048) (j : Fin 1024) (hr : rank I.i (own I.i n) n.val < 112) :
    outOf ct c I (ix2 n j)
      = (∑ k : Fin 512, I.x (ix2 n k) * I.p (ix2 k j))
        + ct ⟨own I.i n, own_lt hi n⟩ (at2 ⟨rank I.i (own I.i n) n.val, hr⟩ j) := by
  have ho : slotN c.val (own I.i n) < 32 := slotN_lt ⟨own I.i n, own_lt hi n⟩ c
  unfold outOf
  rw [outS_at ct c (colV (F := Ideal) I.i c) n j (shOf I) _ (by omega) (colV_at hi c n)]
  refine congrArg₂ (fun a b : EReal => a + b) ?_ ?_
  · unfold shOf k0_pay36
    pointwise [dot_S2048x512_S512x1024_S2048x1024_1_0_0_1_n_n, k0_pay3]
  · unfold gathAt
    have h1 : (slotN c.val (own I.i n) * 112 + rank I.i (own I.i n) n.val) / 112 = slotN c.val (own I.i n) := by omega
    have h2 : (slotN c.val (own I.i n) * 112 + rank I.i (own I.i n) n.val) % 112 = rank I.i (own I.i n) n.val := by omega
    have h3 : srcOf c (slotN c.val (own I.i n)) = (⟨own I.i n, own_lt hi n⟩ : Dev nD) := srcOf_slot c ⟨own I.i n, own_lt hi n⟩
    have key (a a' : Dev nD) (r r' : Fin 112) (ha : a = a') (hr : r = r') : ct a (at2 r j) = ct a' (at2 r' j) := by rw [ha, hr]
    exact key _ _ _ _ ((congrArg (srcOf c) h1).trans h3) (Fin.ext h2)

end Cert.KernelIdeal.Hand
-- ==== Proof.KernelIdeal.RefVal.lean ====
/-
  The reference's result, element by element.
-/
module

public import proofs.«01_k».proof.Proof.KernelIdeal.Contrib
public import proofs.«01_k».proof.Proof.Gen.ReferenceIdeal.Run
public import Idealize.ShloMosaic.Lib.Pointwise.IndexBridge

@[expose] public section

set_option maxRecDepth 16384

noncomputable section

namespace Cert.ReferenceIdeal.Hand

open Cert.ReferenceIdeal Cert.ReferenceIdeal.Gen
open Idealize.ShloMosaic
open Cert.KernelIdeal.Hand (ex sc mx pe prod)

/-- A small number's word read signed is the number. -/
theorem toInt_small {k : ℕ} (hk : k < 128) : (BitVec.ofNat 32 k).toInt.toNat = k := by
  rw [StableHlo.Predicate.toInt_ofNat_small k (by omega)]; rfl

/-- The first take, of one column in each row. -/
theorem gatherP_at (x : FVec Ideal S2048x128 .f32) (idx : IVec S2048x1x1 32) (n : Fin 2048) (k : ℕ) (hk : k < 128)
    (h : idx (ix3 n 0 0) = BitVec.ofNat 32 k) :
    Host.gather gather_S2048x128_S2048x1x1_S2048x1_n_1_0_0_1_2_11 x idx (ix2 n 0) = x (ix2 n ⟨k, hk⟩) := by
  unfold Host.gather
  congr 1
  funext a
  refine Fin.ext ?_
  match a with
  | ⟨0, _⟩ => exact (Nat.zero_add _).trans rfl
  | ⟨1, _⟩ =>
    have e : gather_S2048x128_S2048x1x1_S2048x1_n_1_0_0_1_2_11.siIdx (ix2 n 0) ⟨0, by decide⟩ = ix3 n 0 0 := by
      funext b
      match b with
      | ⟨0, _⟩ => rfl
      | ⟨1, _⟩ => rfl
      | ⟨2, _⟩ => rfl
    show min (idx (gather_S2048x128_S2048x1x1_S2048x1_n_1_0_0_1_2_11.siIdx (ix2 n 0) ⟨0, by decide⟩)).toInt.toNat (128 - 1) + 0 + 0 = k
    rw [e, h, toInt_small hk]
    omega

/-- The second take, of each row's expert. -/
theorem gatherE_at (x : FVec Ideal S128x512x1024 .bf16) (idx : IVec S2048x1 32) (n : Fin 2048) (a : Fin 512) (b : Fin 1024) (k : ℕ) (hk : k < 128)
    (h : idx (ix2 n 0) = BitVec.ofNat 32 k) :
    Host.gather gather_S128x512x1024_S2048x1_S2048x512x1024_12_0_n_n_0_1_15121024 x idx (ix3 n a b) = x (ix3 ⟨k, hk⟩ a b) := by
  unfold Host.gather
  congr 1
  funext q
  refine Fin.ext ?_
  match q with
  | ⟨0, _⟩ =>
    have e : gather_S128x512x1024_S2048x1_S2048x512x1024_12_0_n_n_0_1_15121024.siIdx (ix3 n a b) ⟨0, by decide⟩ = ix2 n 0 := by
      funext r
      match r with
      | ⟨0, _⟩ => rfl
      | ⟨1, _⟩ => rfl
    show min (idx (gather_S128x512x1024_S2048x1_S2048x512x1024_12_0_n_n_0_1_15121024.siIdx (ix3 n a b) ⟨0, by decide⟩)).toInt.toNat (128 - 1) + 0 + 0 = k
    rw [e, h, toInt_small hk]
    omega
  | ⟨1, _⟩ => exact (Nat.zero_add _).trans rfl
  | ⟨2, _⟩ => exact (Nat.zero_add _).trans rfl

section
variable (x : FVec Ideal S2048x512 .bf16) (w : FVec Ideal S512x128 .bf16) (i : IVec S2048x1 32)
  (e : FVec Ideal S128x512x1024 .bf16) (p : FVec Ideal S512x1024 .bf16)

/-- The reference's result, as its run leaves it. -/
def refV : FVec Ideal S2048x1024 .f32 :=
  addf (Host.dotGeneral dot_S2048x512_S512x1024_S2048x1024_1_0_0_1_n_n none (extf .f32 x bitsLt_bf16_f32) (extf .f32 p bitsLt_bf16_f32)) (mulf (broadcastInDim S2048x1024 ![0, 1] bcast_S2048x1_S2048x1024_0_1 (select (Host.reduce IntOp.andi (andi (cmpi .sge (shapeCast _ (select (cmpi .slt i (broadcastInDim S2048x1 ![] bcast_S_S2048x1 (constantI S_ 32 0#32))) (addi i (broadcastInDim S2048x1 ![] bcast_S_S2048x1 (constantI S_ 32 128#32))) i) shapeCasts_S2048x1_S2048x1x1) (broadcastInDim S2048x1x1 ![] bcast_S_S2048x1x1 (constantI S_ 32 0#32))) (cmpi .sle (shapeCast _ (select (cmpi .slt i (broadcastInDim S2048x1 ![] bcast_S_S2048x1 (constantI S_ 32 0#32))) (addi i (broadcastInDim S2048x1 ![] bcast_S_S2048x1 (constantI S_ 32 128#32))) i) shapeCasts_S2048x1_S2048x1x1) (broadcastInDim S2048x1x1 ![0, 1, 2] bcast_S1x1x1_S2048x1x1_0_1_2 (broadcastInDim S1x1x1 ![2] bcast_S1_S1x1x1_2 (constantI S1 32 127#32))))) (constantI S_ 1 1#1) reducesTo_S2048x1x1_S2048x1_d2 h_S_) (Host.gather gather_S2048x128_S2048x1x1_S2048x1_n_1_0_0_1_2_11 (Host.divf (Host.exp (subf (Host.dotGeneral dot_S2048x512_S512x128_S2048x128_1_0_0_1_n_n none (extf .f32 x bitsLt_bf16_f32) (extf .f32 w bitsLt_bf16_f32)) (broadcastInDim S2048x128 ![0, 1] bcast_S2048x1_S2048x128_0_1 (broadcastInDim S2048x1 ![0] bcast_S2048_S2048x1_0 (Host.reduce FloatOps.maximumf (Host.dotGeneral dot_S2048x512_S512x128_S2048x128_1_0_0_1_n_n none (extf .f32 x bitsLt_bf16_f32) (extf .f32 w bitsLt_bf16_f32)) (constant S_ .f32 0xFF800000#32) reducesTo_S2048x128_S2048_d1 h_S_))))) (broadcastInDim S2048x128 ![0, 1] bcast_S2048x1_S2048x128_0_1 (broadcastInDim S2048x1 ![0] bcast_S2048_S2048x1_0 (Host.reduceAdd (Host.exp (subf (Host.dotGeneral dot_S2048x512_S512x128_S2048x128_1_0_0_1_n_n none (extf .f32 x bitsLt_bf16_f32) (extf .f32 w bitsLt_bf16_f32)) (broadcastInDim S2048x128 ![0, 1] bcast_S2048x1_S2048x128_0_1 (broadcastInDim S2048x1 ![0] bcast_S2048_S2048x1_0 (Host.reduce FloatOps.maximumf (Host.dotGeneral dot_S2048x512_S512x128_S2048x128_1_0_0_1_n_n none (extf .f32 x bitsLt_bf16_f32) (extf .f32 w bitsLt_bf16_f32)) (constant S_ .f32 0xFF800000#32) reducesTo_S2048x128_S2048_d1 h_S_))))) (constant S_ .f32 0x00000000#32) reducesTo_S2048x128_S2048_d1 h_S_)))) (shapeCast _ (select (cmpi .slt i (broadcastInDim S2048x1 ![] bcast_S_S2048x1 (constantI S_ 32 0#32))) (addi i (broadcastInDim S2048x1 ![] bcast_S_S2048x1 (constantI S_ 32 128#32))) i) shapeCasts_S2048x1_S2048x1x1)) (broadcastInDim S2048x1 ![] bcast_S_S2048x1 (constant S_ .f32 0x7FC00000#32)))) (Host.dotGeneral dot_S2048x512_S2048x512x1024_S2048x1024_1_1_n_2_0_0 none (extf .f32 x bitsLt_bf16_f32) (extf .f32 (Host.gather gather_S128x512x1024_S2048x1_S2048x512x1024_12_0_n_n_0_1_15121024 e (broadcastInDim S2048x1 ![0] bcast_S2048_S2048x1_0 (select (cmpi .slt (shapeCast _ i shapeCasts_S2048x1_S2048) (broadcastInDim S2048 ![] bcast_S_S2048 (constantI S_ 32 0#32))) (addi (shapeCast _ i shapeCasts_S2048x1_S2048) (broadcastInDim S2048 ![] bcast_S_S2048 (constantI S_ 32 128#32))) (shapeCast _ i shapeCasts_S2048x1_S2048)))) bitsLt_bf16_f32)))

variable (hi : ∀ n, ex i n < 128)

/-- The reference's result: the shared expert's, and the row's expert's times its probability. -/
theorem ref_at (n : Fin 2048) (j : Fin 1024) :
    refV x w i e p (ix2 n j)
      = (∑ k : Fin 512, x (ix2 n k) * p (ix2 k j))
        + Ideal.div (pe x w n ⟨ex i n, hi n⟩) (∑ l, pe x w n l) * prod x (fun k j => e (ix3 ⟨ex i n, hi n⟩ k j)) n j := by
  unfold refV
  pointwise [dot_S2048x512_S512x1024_S2048x1024_1_0_0_1_n_n, dot_S2048x512_S512x128_S2048x128_1_0_0_1_n_n]
  have hw : Scalar.select (IntOp.cmpi .slt (i (ix2 n 0)) 0#32) (IntOp.addi (i (ix2 n 0)) 128#32) (i (ix2 n 0)) = BitVec.ofNat 32 (ex i n) := by
    rw [Cert.KernelIdeal.Hand.word_ex i n]
    have hn := hi n
    generalize ex i n = k at hn
    clear * - hn
    revert k
    decide +kernel
  have hg := gatherE_at e (broadcastInDim S2048x1 ![0] bcast_S2048_S2048x1_0
                (select
                  (cmpi CmpIPredicate.slt (shapeCast S2048 i shapeCasts_S2048x1_S2048)
                    (broadcastInDim S2048 ![] bcast_S_S2048 (constantI S_ 32 0#32)))
                  (addi (shapeCast S2048 i shapeCasts_S2048x1_S2048)
                    (broadcastInDim S2048 ![] bcast_S_S2048 (constantI S_ 32 128#32)))
                  (shapeCast S2048 i shapeCasts_S2048x1_S2048))) n
  have hf : (Finset.fold IntOp.andi (1#1) (fun _ : Fin 1 => IntOp.andi (IntOp.cmpi .sge (BitVec.ofNat 32 (ex i n)) 0#32)
      (IntOp.cmpi .sle (BitVec.ofNat 32 (ex i n)) 127#32)) Finset.univ) = 1#1 := by
    have hn := hi n
    generalize ex i n = k at hn
    clear * - hn
    rw [Finset.univ_unique, Finset.fold_singleton]
    revert k
    decide +kernel
  refine congrArg₂ (fun a b : EReal => a + b) rfl (congrArg₂ (fun a b : EReal => a * b) ?_ ?_)
  · rw [hw, hf]
    refine (if_pos rfl : Scalar.select 1#1 _ _ = _).trans ?_
    refine (gatherP_at _ _ n (ex i n) (hi n) ?_).trans ?_
    · pointwise
      exact hw
    · pointwise [dot_S2048x512_S512x128_S2048x128_1_0_0_1_n_n]
      rfl
  · refine Finset.sum_congr rfl fun k _ => congrArg _ (hg k j (ex i n) (hi n) ?_)
    pointwise
    exact hw
end

end Cert.ReferenceIdeal.Hand
-- ==== Proof.KernelIdeal.Routed.lean ====
/-
  What the precondition says of the routing: every expert is one of the 128, and no device owns more than 112 rows.
-/
module

public import proofs.«01_k».proof.Proof.KernelIdeal.Words
public import proofs.«01_k».proof.Pre_routed_KernelIdeal
public import Idealize.ShloMosaic.Lib.Tactic.WordOmega
public import Idealize.ShloMosaic.Lib.Pointwise.IndexBridge

@[expose] public section

set_option maxRecDepth 16384

noncomputable section

namespace Cert.KernelIdeal.Hand

open Cert.KernelIdeal Cert.KernelIdeal.Gen
open Idealize.ShloMosaic

/-- The shape relations the precondition's operations take. -/
theorem preFacts : Cert.Pre_routed_KernelIdeal.Facts where
  bcast_S_S2048x1 := by decide
  bcast_S_S2048x32 := by decide
  bcast_S2048x1_S2048x32_0_1 := by decide
  natLt_1_32 := by decide
  reducesTo_S2048x32_S32_d0 := by decide
  h_S_ := by decide
  bcast_S_S32 := by decide

/-- The count of the set bits, summed as words. -/
theorem fold_bits {α : Type} (b : α → BitVec 1) (s : Finset α) :
    Finset.fold IntOp.addi (0#32) (fun x => BitVec.setWidth 32 (b x)) s = BitVec.ofNat 32 (∑ x ∈ s, (b x).toNat) := by
  classical
  induction s using Finset.induction_on with
  | empty => rfl
  | insert a s ha ih =>
    rw [Finset.fold_insert ha, Finset.sum_insert ha, ih, BitVec.ofNat_add]
    exact congrArg (fun v => v + BitVec.ofNat 32 (∑ x ∈ s, (b x).toNat)) (BitVec.ofNat_toNat 32 (b a)).symm

/-- The bit the precondition counts says the row's expert is one of the device's four. -/
theorem mask_bit : ∀ k < 128, ∀ d < 32, (IntOp.andi (IntOp.cmpi .sge (BitVec.ofNat 32 k) (IntOp.muli (4#32) (BitVec.ofNat 32 d)))
      (IntOp.cmpi .slt (BitVec.ofNat 32 k) (IntOp.addi (IntOp.muli (4#32) (BitVec.ofNat 32 d)) 4#32))).toNat
      = if k / 4 = d then 1 else 0 := by decide +kernel

/-- Signed order with 112 on words of small numbers. -/
theorem sle_112 : ∀ r < 2049, IntOp.cmpi .sle (BitVec.ofNat 32 r) 112#32 = 1#1 → r ≤ 112 := by decide +kernel

section
variable (x : FVec Ideal S2048x512 .bf16) (w : FVec Ideal S512x128 .bf16) (i : IVec S2048x1 32)
  (e : FVec Ideal S4x512x1024 .bf16) (p : FVec Ideal S512x1024 .bf16)

theorem ex_lt_of (h : (@Cert.Pre_routed_KernelIdeal.fn preFacts Ideal _ x w i e p).1 = fun _ => 1#1) (n : Fin 2048) :
    ex i n < 128 := by
  have h' := congrFun h (ix2 n 0)
  unfold Cert.Pre_routed_KernelIdeal.fn Cert.Pre_routed_KernelIdeal.fn_part1 at h'
  pointwise at h'
  unfold ex
  word_omega

/-- The precondition's second part: no device owns more than 112 rows. -/
theorem count_of (h : (@Cert.Pre_routed_KernelIdeal.fn preFacts Ideal _ x w i e p).2 = fun _ => 1#1)
    (hi : ∀ n, ex i n < 128) (d : Fin 32) : rank i d.val 2048 ≤ 112 := by
  have h' := congrFun h (ix1 d)
  unfold Cert.Pre_routed_KernelIdeal.fn Cert.Pre_routed_KernelIdeal.fn_part1 at h'
  pointwise at h'
  rw [fold_bits] at h'
  have hs : ∑ n : Fin 2048, (IntOp.andi (IntOp.cmpi .sge (i (ix2 n 0)) (IntOp.muli (4#32) (BitVec.ofNat 32 d.val)))
      (IntOp.cmpi .slt (i (ix2 n 0)) (IntOp.addi (IntOp.muli (4#32) (BitVec.ofNat 32 d.val)) 4#32))).toNat = rank i d.val 2048 := by
    unfold rank
    rw [Finset.sum_range]
    refine Finset.sum_congr rfl fun n _ => ?_
    rw [word_ex i n, mask_bit _ (hi n) _ d.isLt]
    unfold hit
    rw [dif_pos n.isLt]
    rfl
  have h2 := (congrArg (fun r => IntOp.cmpi .sle (BitVec.ofNat 32 r) 112#32) hs).symm.trans h'
  have h3 := rank_le i d.val 2048
  exact sle_112 _ (by omega) h2

/-- So the position of every row in its owner's buffer lies in the buffer. -/
theorem rank_bound (h : (@Cert.Pre_routed_KernelIdeal.fn preFacts Ideal _ x w i e p).1 = fun _ => 1#1)
    (h2 : (@Cert.Pre_routed_KernelIdeal.fn preFacts Ideal _ x w i e p).2 = fun _ => 1#1) (n : Fin 2048) :
    rank i (own i n) n.val < 112 :=
  have hi := ex_lt_of x w i e p h
  lt_of_lt_of_le (rank_lt i n.isLt) (count_of x w i e p h2 hi ⟨own i n, own_lt hi n⟩)
end

end Cert.KernelIdeal.Hand
-- ==== Proof.KernelIdeal.Value.lean ====
/-
  The kernel's result is the reference's, at every row and column.
-/
module

public import proofs.«01_k».proof.Proof.KernelIdeal.Gather
public import proofs.«01_k».proof.Proof.KernelIdeal.RefVal
public import proofs.«01_k».proof.Proof.KernelIdeal.Routed

@[expose] public section

set_option maxRecDepth 16384

noncomputable section

namespace Cert.KernelIdeal.Hand

open Cert.KernelIdeal Cert.KernelIdeal.Gen
open Idealize.ShloMosaic

theorem at2_ix (a : Fin 112) (b : Fin 1024) : at2 a b = ix2 a b := by
  funext q
  match q with
  | ⟨0, _⟩ => rfl
  | ⟨1, _⟩ => rfl

/-- A device's four experts, as the kernel loads them. -/
theorem expert_at (e : FVec Ideal S4x512x1024 .bf16) (g : Fin 4) (k : Fin 512) (j : Fin 1024) :
    (![exp0 e, exp1 e, exp2 e, exp3 e] g : FVec Ideal S1x512x1024 .bf16) (ix3 0 k j) = e (ix3 g k j) := by
  have h : ∀ z : ℕ, 0 + 1 * z = z := fun z => by omega
  match g with
  | ⟨0, _⟩ =>
    refine congrArg e (funext fun q => Fin.ext ?_)
    match q with
    | ⟨0, _⟩ => rfl
    | ⟨1, _⟩ => exact h k.val
    | ⟨2, _⟩ => exact h j.val
  | ⟨1, _⟩ =>
    refine congrArg e (funext fun q => Fin.ext ?_)
    match q with
    | ⟨0, _⟩ => rfl
    | ⟨1, _⟩ => exact h k.val
    | ⟨2, _⟩ => exact h j.val
  | ⟨2, _⟩ =>
    refine congrArg e (funext fun q => Fin.ext ?_)
    match q with
    | ⟨0, _⟩ => rfl
    | ⟨1, _⟩ => exact h k.val
    | ⟨2, _⟩ => exact h j.val
  | ⟨3, _⟩ =>
    refine congrArg e (funext fun q => Fin.ext ?_)
    match q with
    | ⟨0, _⟩ => rfl
    | ⟨1, _⟩ => exact h k.val
    | ⟨2, _⟩ => exact h j.val

/-- A device's block of the experts. -/
abbrev blk (E : FVec Ideal ⟨3, ![128, 512, 1024]⟩ .bf16) (c : Dev nD) : FVec Ideal S4x512x1024 .bf16 :=
  Layout.block ⟨3, ![4, 512, 1024]⟩ ⟨3, ![128, 512, 1024]⟩ 0 32 c E

/-- Row `g` of block `c` is expert `4 c + g`. -/
theorem blk_at (E : FVec Ideal ⟨3, ![128, 512, 1024]⟩ .bf16) (c : Dev nD) (g : Fin 4) (k : Fin 512) (j : Fin 1024)
    (l : Fin 128) (hl : l.val = c.val * 4 + g.val) : blk E c (ix3 g k j) = E (ix3 l k j) := by
  refine congrArg E (funext fun q => Fin.ext ?_)
  match q with
  | ⟨0, _⟩ => exact (Layout.Tiles.idx_val _ _ _ _).trans hl.symm
  | ⟨1, _⟩ => exact Layout.Tiles.idx_val _ _ _ _
  | ⟨2, _⟩ => exact Layout.Tiles.idx_val _ _ _ _

section
variable (x : FVec Ideal S2048x512 .bf16) (w : FVec Ideal S512x128 .bf16) (i : IVec S2048x1 32)
  (E : FVec Ideal ⟨3, ![128, 512, 1024]⟩ .bf16) (p : FVec Ideal S512x1024 .bf16)

/-- What a device holds when the arrays are laid out over the mesh. -/
abbrev insOf (c : Dev nD) : Ins Ideal := ⟨x, w, i, blk E c, p⟩

/-- The result of every device is the reference's. -/
theorem value (hi : ∀ n, ex i n < 128) (hr : ∀ n : Fin 2048, rank i (own i n) n.val < 112) (c : Dev nD) :
    outOf (fun d => ctOf d (insOf x w i E p d)) c (insOf x w i E p c) = Cert.ReferenceIdeal.Hand.refV x w i E p := by
  funext q
  obtain ⟨n, j, rfl⟩ : ∃ (n : Fin 2048) (j : Fin 1024), q = ix2 n j := ⟨q 0, q 1, by
    funext a
    match a with
    | ⟨0, _⟩ => rfl
    | ⟨1, _⟩ => rfl⟩
  refine (outOf_at _ c (insOf x w i E p c) hi n j (hr n)).trans ((Cert.ReferenceIdeal.Hand.ref_at x w i E p hi n j).trans ?_).symm
  refine congrArg (fun b : EReal => (∑ k : Fin 512, x (ix2 n k) * p (ix2 k j)) + b) ?_
  refine (mul_comm _ _).trans ?_
  rw [at2_ix]
  unfold ctOf k0_pay37
  pointwise
  refine ((contribV_at hi ⟨own i n, own_lt hi n⟩ ⟨rank i (own i n) n.val, hr n⟩ n rfl rfl x w _ _ _ _ j).trans ?_).symm
  refine congrArg (fun b : EReal => b * _) ?_
  unfold prod
  refine Finset.sum_congr rfl fun k _ => congrArg (fun b : EReal => x (ix2 n k) * b) ?_
  refine (expert_at _ _ k j).trans (blk_at E _ _ k j ⟨ex i n, hi n⟩ ?_)
  show ex i n = ex i n / 4 * 4 + ex i n % 4
  omega
end

end Cert.KernelIdeal.Hand
-- ==== Proof.lean ====
/-
  The claims, proved: the frames of the kernel at both readings and of the reference, and the kernel's result
  equal to the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.KernelIdeal.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_kernel : Cert.quiescent_Kernel (hKernel := Cert.Kernel.Gen.facts) := fun m g _ =>
  (θ_run _ _ _).mono (fun _ h => ⟨fun c => (h.1 c).1, h.2⟩) (Cert.Kernel.Hand.run_read (F := Bits) m g)

theorem frame_ideal : Cert.quiescent_KernelIdeal (hKernelIdeal := Cert.KernelIdeal.Gen.facts) := fun m g _ =>
  (θ_run _ _ _).mono (fun _ h => ⟨fun c => (h.1 c).1, h.2⟩) (Cert.KernelIdeal.Hand.run_read (F := Ideal) m g)

theorem frame_reference : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run (F := Ideal) m g)

/-- The shape relations the precondition's operations take, at the reference's shapes. -/
theorem preFacts : Cert.Pre_routed_ReferenceIdeal.Facts where
  bcast_S_S2048x1 := by decide
  bcast_S_S2048x32 := by decide
  bcast_S2048x1_S2048x32_0_1 := by decide
  natLt_1_32 := by decide
  reducesTo_S2048x32_S32_d0 := by decide
  h_S_ := by decide
  bcast_S_S32 := by decide

theorem frame_ideal_routed : Cert.quiescent_KernelIdeal_pre_routed_KernelIdeal (hKernelIdeal := Cert.KernelIdeal.Gen.facts)
    (hPre_routed_KernelIdeal := Cert.KernelIdeal.Hand.preFacts) := fun m g _ => frame_ideal m g trivial

theorem frame_reference_routed : Cert.quiescent_ReferenceIdeal_pre_routed_ReferenceIdeal
    (hReferenceIdeal := Cert.ReferenceIdeal.Gen.facts) (hPre_routed_ReferenceIdeal := preFacts) := fun m g _ =>
  frame_reference m g trivial

/-- Every device's result is the reference's: the run of the mesh, the run of the reference, and `value`. -/
theorem algebra : Cert.algebraic_KernelIdeal_ReferenceIdeal_pre_routed_KernelIdeal (hKernelIdeal := Cert.KernelIdeal.Gen.facts)
    (hReferenceIdeal := Cert.ReferenceIdeal.Gen.facts) (hPre_routed_KernelIdeal := Cert.KernelIdeal.Hand.preFacts) := by
  intro m g m' g' hpre hrel
  refine ⟨_, (θ_run _ _ _).mono (fun r h c => ⟨((h.1 c).2).trans ?_, (h.1 c).1⟩) (Cert.KernelIdeal.Hand.run_read (F := Ideal) m g),
    (θ_run _ _ _).mono (fun r h => h 0) (Cert.ReferenceIdeal.Value.run (F := Ideal) m' g')⟩
  have e : ∀ d, Cert.KernelIdeal.Hand.insAt (F := Ideal) m d = Cert.KernelIdeal.Hand.insOf
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) d := by
    intro d
    obtain ⟨h0, h1, h2, h3, h4⟩ := hrel d
    refine (Cert.KernelIdeal.Hand.insAt_eq (F := Ideal) m d).trans ?_
    exact (congr (congr (congr (congr (congrArg Cert.KernelIdeal.Hand.Ins.mk h0) h1) h2) h3) h4)
  have hp := hpre 0
  have h2 := (hrel 0).2.2.1
  have hi : ∀ n, Cert.KernelIdeal.Hand.ex (m' (((0 : Dev Cert.ReferenceIdeal.nD).tc : Thread Cert.ReferenceIdeal.nD Cert.ReferenceIdeal.τ).loc Cert.ReferenceIdeal.main_arg2)) n < 128 :=
    fun n => h2 ▸ Cert.KernelIdeal.Hand.ex_lt_of _ _ _ _ _ hp.1 n
  have hr : ∀ n : Fin 2048, Cert.KernelIdeal.Hand.rank (m' (((0 : Dev Cert.ReferenceIdeal.nD).tc : Thread Cert.ReferenceIdeal.nD Cert.ReferenceIdeal.τ).loc Cert.ReferenceIdeal.main_arg2))
      (Cert.KernelIdeal.Hand.own (m' (((0 : Dev Cert.ReferenceIdeal.nD).tc : Thread Cert.ReferenceIdeal.nD Cert.ReferenceIdeal.τ).loc Cert.ReferenceIdeal.main_arg2)) n) n.val < 112 :=
    fun n => h2 ▸ Cert.KernelIdeal.Hand.rank_bound _ _ _ _ _ hp.1 hp.2 n
  unfold Cert.KernelIdeal.Hand.outAt
  have ec : Cert.KernelIdeal.Hand.ctAt (F := Ideal) m = fun d => Cert.KernelIdeal.Hand.ctOf d (Cert.KernelIdeal.Hand.insAt m d) := rfl
  rw [ec]
  simp only [e]
  exact Cert.KernelIdeal.Hand.value _ _ _ _ _ hi hr c

theorem claim : Cert.Claim :=
  ⟨Cert.Kernel.Gen.facts, Cert.KernelIdeal.Gen.facts, Cert.ReferenceIdeal.Gen.facts, Cert.KernelIdeal.Hand.preFacts, preFacts,
    frame_kernel, frame_ideal, frame_ideal_routed, frame_reference, frame_reference_routed, trivial, algebra⟩

end Cert.Proof

end
